-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x3x256x256 : Shape := ⟨4, ![4, 3, 256, 256]⟩
abbrev S64x3x3x3 : Shape := ⟨4, ![64, 3, 3, 3]⟩
abbrev S64 : Shape := ⟨1, ![64]⟩
abbrev S128x64x3x3 : Shape := ⟨4, ![128, 64, 3, 3]⟩
abbrev S128 : Shape := ⟨1, ![128]⟩
abbrev S256x128x3x3 : Shape := ⟨4, ![256, 128, 3, 3]⟩
abbrev S256 : Shape := ⟨1, ![256]⟩
abbrev S512x256x3x3 : Shape := ⟨4, ![512, 256, 3, 3]⟩
abbrev S512 : Shape := ⟨1, ![512]⟩
abbrev S8192x512 : Shape := ⟨2, ![8192, 512]⟩
abbrev S4x256x256x3 : Shape := ⟨4, ![4, 256, 256, 3]⟩
abbrev S_ : Shape := ⟨0, ![]⟩
abbrev S4x258x258x3 : Shape := ⟨4, ![4, 258, 258, 3]⟩
abbrev S4x256x256x27 : Shape := ⟨4, ![4, 256, 256, 27]⟩
abbrev S262144x27 : Shape := ⟨2, ![262144, 27]⟩
abbrev S3x3x3x64 : Shape := ⟨4, ![3, 3, 3, 64]⟩
abbrev S27x64 : Shape := ⟨2, ![27, 64]⟩
abbrev S262144x32 : Shape := ⟨2, ![262144, 32]⟩
abbrev S32x64 : Shape := ⟨2, ![32, 64]⟩
abbrev S1x64 : Shape := ⟨2, ![1, 64]⟩
abbrev S262144x64 : Shape := ⟨2, ![262144, 64]⟩
abbrev S2048x32 : Shape := ⟨2, ![2048, 32]⟩
abbrev S2048x64 : Shape := ⟨2, ![2048, 64]⟩
abbrev S4x256x256x64 : Shape := ⟨4, ![4, 256, 256, 64]⟩
abbrev S4x258x258x64 : Shape := ⟨4, ![4, 258, 258, 64]⟩
abbrev S4x128x128x64 : Shape := ⟨4, ![4, 128, 128, 64]⟩
abbrev S4x128x128x576 : Shape := ⟨4, ![4, 128, 128, 576]⟩
abbrev S65536x576 : Shape := ⟨2, ![65536, 576]⟩
abbrev S3x3x64x128 : Shape := ⟨4, ![3, 3, 64, 128]⟩
abbrev S576x128 : Shape := ⟨2, ![576, 128]⟩
abbrev S1x128 : Shape := ⟨2, ![1, 128]⟩
abbrev S65536x128 : Shape := ⟨2, ![65536, 128]⟩
abbrev S1024x576 : Shape := ⟨2, ![1024, 576]⟩
abbrev S1024x128 : Shape := ⟨2, ![1024, 128]⟩
abbrev S4x128x128x128 : Shape := ⟨4, ![4, 128, 128, 128]⟩
abbrev S4x130x130x128 : Shape := ⟨4, ![4, 130, 130, 128]⟩
abbrev S4x64x64x128 : Shape := ⟨4, ![4, 64, 64, 128]⟩
abbrev S4x64x64x1152 : Shape := ⟨4, ![4, 64, 64, 1152]⟩
abbrev S16384x1152 : Shape := ⟨2, ![16384, 1152]⟩
abbrev S3x3x128x256 : Shape := ⟨4, ![3, 3, 128, 256]⟩
abbrev S1152x256 : Shape := ⟨2, ![1152, 256]⟩
abbrev S1x256 : Shape := ⟨2, ![1, 256]⟩
abbrev S16384x256 : Shape := ⟨2, ![16384, 256]⟩
abbrev S1024x1152 : Shape := ⟨2, ![1024, 1152]⟩
abbrev S1024x256 : Shape := ⟨2, ![1024, 256]⟩
abbrev S4x64x64x256 : Shape := ⟨4, ![4, 64, 64, 256]⟩
abbrev S4x66x66x256 : Shape := ⟨4, ![4, 66, 66, 256]⟩
abbrev S4x32x32x256 : Shape := ⟨4, ![4, 32, 32, 256]⟩
abbrev S4x32x32x2304 : Shape := ⟨4, ![4, 32, 32, 2304]⟩
abbrev S4096x2304 : Shape := ⟨2, ![4096, 2304]⟩
abbrev S3x3x256x512 : Shape := ⟨4, ![3, 3, 256, 512]⟩
abbrev S2304x512 : Shape := ⟨2, ![2304, 512]⟩
abbrev S1x512 : Shape := ⟨2, ![1, 512]⟩
abbrev S4096x512 : Shape := ⟨2, ![4096, 512]⟩
abbrev S512x2304 : Shape := ⟨2, ![512, 2304]⟩
abbrev S512x512 : Shape := ⟨2, ![512, 512]⟩
abbrev S4x32x32x512 : Shape := ⟨4, ![4, 32, 32, 512]⟩
abbrev S512x4096 : Shape := ⟨2, ![512, 4096]⟩
abbrev S2x1x2048 : Shape := ⟨3, ![2, 1, 2048]⟩
abbrev S512x2048 : Shape := ⟨2, ![512, 2048]⟩
abbrev S1x1x2048 : Shape := ⟨3, ![1, 1, 2048]⟩
abbrev S2048 : Shape := ⟨1, ![2048]⟩
abbrev S1x2048 : Shape := ⟨2, ![1, 2048]⟩
abbrev S384x512 : Shape := ⟨2, ![384, 512]⟩
abbrev S384x2048 : Shape := ⟨2, ![384, 2048]⟩
abbrev S384 : Shape := ⟨1, ![384]⟩
abbrev S384x1 : Shape := ⟨2, ![384, 1]⟩
abbrev S128x512 : Shape := ⟨2, ![128, 512]⟩
abbrev S128x2048 : Shape := ⟨2, ![128, 2048]⟩
abbrev S128x1 : Shape := ⟨2, ![128, 1]⟩
abbrev S4096 : Shape := ⟨1, ![4096]⟩

abbrev nBuf : Space → Nat
  | .hbm => 97
  | .vmem => 29
  | .smem => 0
  | _ => 0

abbrev bufTy : (tb : Table) → Fin (tcTables nBuf tb) → BufTy
  | .hbm, ⟨0, _⟩ => ⟨S4x3x256x256, .f32⟩
  | .hbm, ⟨1, _⟩ => ⟨S64x3x3x3, .f32⟩
  | .hbm, ⟨2, _⟩ => ⟨S64, .f32⟩
  | .hbm, ⟨3, _⟩ => ⟨S128x64x3x3, .f32⟩
  | .hbm, ⟨4, _⟩ => ⟨S128, .f32⟩
  | .hbm, ⟨5, _⟩ => ⟨S256x128x3x3, .f32⟩
  | .hbm, ⟨6, _⟩ => ⟨S256, .f32⟩
  | .hbm, ⟨7, _⟩ => ⟨S512x256x3x3, .f32⟩
  | .hbm, ⟨8, _⟩ => ⟨S512, .f32⟩
  | .hbm, ⟨9, _⟩ => ⟨S8192x512, .f32⟩
  | .hbm, ⟨10, _⟩ => ⟨S4x256x256x3, .f32⟩
  | .hbm, ⟨11, _⟩ => ⟨S_, .i32⟩
  | .hbm, ⟨12, _⟩ => ⟨S_, .f32⟩
  | .hbm, ⟨13, _⟩ => ⟨S4x258x258x3, .f32⟩
  | .hbm, ⟨14, _⟩ => ⟨S4x256x256x3, .f32⟩
  | .hbm, ⟨15, _⟩ => ⟨S4x256x256x3, .f32⟩
  | .hbm, ⟨16, _⟩ => ⟨S4x256x256x3, .f32⟩
  | .hbm, ⟨17, _⟩ => ⟨S4x256x256x3, .f32⟩
  | .hbm, ⟨18, _⟩ => ⟨S4x256x256x3, .f32⟩
  | .hbm, ⟨19, _⟩ => ⟨S4x256x256x3, .f32⟩
  | .hbm, ⟨20, _⟩ => ⟨S4x256x256x3, .f32⟩
  | .hbm, ⟨21, _⟩ => ⟨S4x256x256x3, .f32⟩
  | .hbm, ⟨22, _⟩ => ⟨S4x256x256x3, .f32⟩
  | .hbm, ⟨23, _⟩ => ⟨S4x256x256x27, .f32⟩
  | .hbm, ⟨24, _⟩ => ⟨S262144x27, .f32⟩
  | .hbm, ⟨25, _⟩ => ⟨S3x3x3x64, .f32⟩
  | .hbm, ⟨26, _⟩ => ⟨S27x64, .f32⟩
  | .hbm, ⟨27, _⟩ => ⟨S_, .i32⟩
  | .hbm, ⟨28, _⟩ => ⟨S_, .f32⟩
  | .hbm, ⟨29, _⟩ => ⟨S262144x32, .f32⟩
  | .hbm, ⟨30, _⟩ => ⟨S_, .i32⟩
  | .hbm, ⟨31, _⟩ => ⟨S_, .f32⟩
  | .hbm, ⟨32, _⟩ => ⟨S32x64, .f32⟩
  | .hbm, ⟨33, _⟩ => ⟨S1x64, .f32⟩
  | .hbm, ⟨34, _⟩ => ⟨S262144x64, .f32⟩
  | .hbm, ⟨35, _⟩ => ⟨S4x256x256x64, .f32⟩
  | .hbm, ⟨36, _⟩ => ⟨S_, .i32⟩
  | .hbm, ⟨37, _⟩ => ⟨S_, .f32⟩
  | .hbm, ⟨38, _⟩ => ⟨S4x258x258x64, .f32⟩
  | .hbm, ⟨39, _⟩ => ⟨S4x128x128x64, .f32⟩
  | .hbm, ⟨40, _⟩ => ⟨S4x128x128x64, .f32⟩
  | .hbm, ⟨41, _⟩ => ⟨S4x128x128x64, .f32⟩
  | .hbm, ⟨42, _⟩ => ⟨S4x128x128x64, .f32⟩
  | .hbm, ⟨43, _⟩ => ⟨S4x128x128x64, .f32⟩
  | .hbm, ⟨44, _⟩ => ⟨S4x128x128x64, .f32⟩
  | .hbm, ⟨45, _⟩ => ⟨S4x128x128x64, .f32⟩
  | .hbm, ⟨46, _⟩ => ⟨S4x128x128x64, .f32⟩
  | .hbm, ⟨47, _⟩ => ⟨S4x128x128x64, .f32⟩
  | .hbm, ⟨48, _⟩ => ⟨S4x128x128x576, .f32⟩
  | .hbm, ⟨49, _⟩ => ⟨S65536x576, .f32⟩
  | .hbm, ⟨50, _⟩ => ⟨S3x3x64x128, .f32⟩
  | .hbm, ⟨51, _⟩ => ⟨S576x128, .f32⟩
  | .hbm, ⟨52, _⟩ => ⟨S1x128, .f32⟩
  | .hbm, ⟨53, _⟩ => ⟨S65536x128, .f32⟩
  | .hbm, ⟨54, _⟩ => ⟨S4x128x128x128, .f32⟩
  | .hbm, ⟨55, _⟩ => ⟨S_, .i32⟩
  | .hbm, ⟨56, _⟩ => ⟨S_, .f32⟩
  | .hbm, ⟨57, _⟩ => ⟨S4x130x130x128, .f32⟩
  | .hbm, ⟨58, _⟩ => ⟨S4x64x64x128, .f32⟩
  | .hbm, ⟨59, _⟩ => ⟨S4x64x64x128, .f32⟩
  | .hbm, ⟨60, _⟩ => ⟨S4x64x64x128, .f32⟩
  | .hbm, ⟨61, _⟩ => ⟨S4x64x64x128, .f32⟩
  | .hbm, ⟨62, _⟩ => ⟨S4x64x64x128, .f32⟩
  | .hbm, ⟨63, _⟩ => ⟨S4x64x64x128, .f32⟩
  | .hbm, ⟨64, _⟩ => ⟨S4x64x64x128, .f32⟩
  | .hbm, ⟨65, _⟩ => ⟨S4x64x64x128, .f32⟩
  | .hbm, ⟨66, _⟩ => ⟨S4x64x64x128, .f32⟩
  | .hbm, ⟨67, _⟩ => ⟨S4x64x64x1152, .f32⟩
  | .hbm, ⟨68, _⟩ => ⟨S16384x1152, .f32⟩
  | .hbm, ⟨69, _⟩ => ⟨S3x3x128x256, .f32⟩
  | .hbm, ⟨70, _⟩ => ⟨S1152x256, .f32⟩
  | .hbm, ⟨71, _⟩ => ⟨S1x256, .f32⟩
  | .hbm, ⟨72, _⟩ => ⟨S16384x256, .f32⟩
  | .hbm, ⟨73, _⟩ => ⟨S4x64x64x256, .f32⟩
  | .hbm, ⟨74, _⟩ => ⟨S_, .i32⟩
  | .hbm, ⟨75, _⟩ => ⟨S_, .f32⟩
  | .hbm, ⟨76, _⟩ => ⟨S4x66x66x256, .f32⟩
  | .hbm, ⟨77, _⟩ => ⟨S4x32x32x256, .f32⟩
  | .hbm, ⟨78, _⟩ => ⟨S4x32x32x256, .f32⟩
  | .hbm, ⟨79, _⟩ => ⟨S4x32x32x256, .f32⟩
  | .hbm, ⟨80, _⟩ => ⟨S4x32x32x256, .f32⟩
  | .hbm, ⟨81, _⟩ => ⟨S4x32x32x256, .f32⟩
  | .hbm, ⟨82, _⟩ => ⟨S4x32x32x256, .f32⟩
  | .hbm, ⟨83, _⟩ => ⟨S4x32x32x256, .f32⟩
  | .hbm, ⟨84, _⟩ => ⟨S4x32x32x256, .f32⟩
  | .hbm, ⟨85, _⟩ => ⟨S4x32x32x256, .f32⟩
  | .hbm, ⟨86, _⟩ => ⟨S4x32x32x2304, .f32⟩
  | .hbm, ⟨87, _⟩ => ⟨S4096x2304, .f32⟩
  | .hbm, ⟨88, _⟩ => ⟨S3x3x256x512, .f32⟩
  | .hbm, ⟨89, _⟩ => ⟨S2304x512, .f32⟩
  | .hbm, ⟨90, _⟩ => ⟨S1x512, .f32⟩
  | .hbm, ⟨91, _⟩ => ⟨S4096x512, .f32⟩
  | .hbm, ⟨92, _⟩ => ⟨S4x32x32x512, .f32⟩
  | .hbm, ⟨93, _⟩ => ⟨S4096x512, .f32⟩
  | .hbm, ⟨94, _⟩ => ⟨S512x4096, .f32⟩
  | .hbm, ⟨95, _⟩ => ⟨S2x1x2048, .i32⟩
  | .hbm, ⟨96, _⟩ => ⟨S4096, .i32⟩
  | .local _ .vmem, ⟨0, _⟩ => ⟨S2048x32, .f32⟩
  | .local _ .vmem, ⟨1, _⟩ => ⟨S2048x32, .f32⟩
  | .local _ .vmem, ⟨2, _⟩ => ⟨S32x64, .f32⟩
  | .local _ .vmem, ⟨3, _⟩ => ⟨S1x64, .f32⟩
  | .local _ .vmem, ⟨4, _⟩ => ⟨S2048x64, .f32⟩
  | .local _ .vmem, ⟨5, _⟩ => ⟨S2048x64, .f32⟩
  | .local _ .vmem, ⟨6, _⟩ => ⟨S1024x576, .f32⟩
  | .local _ .vmem, ⟨7, _⟩ => ⟨S1024x576, .f32⟩
  | .local _ .vmem, ⟨8, _⟩ => ⟨S576x128, .f32⟩
  | .local _ .vmem, ⟨9, _⟩ => ⟨S1x128, .f32⟩
  | .local _ .vmem, ⟨10, _⟩ => ⟨S1024x128, .f32⟩
  | .local _ .vmem, ⟨11, _⟩ => ⟨S1024x128, .f32⟩
  | .local _ .vmem, ⟨12, _⟩ => ⟨S1024x1152, .f32⟩
  | .local _ .vmem, ⟨13, _⟩ => ⟨S1024x1152, .f32⟩
  | .local _ .vmem, ⟨14, _⟩ => ⟨S1152x256, .f32⟩
  | .local _ .vmem, ⟨15, _⟩ => ⟨S1x256, .f32⟩
  | .local _ .vmem, ⟨16, _⟩ => ⟨S1024x256, .f32⟩
  | .local _ .vmem, ⟨17, _⟩ => ⟨S1024x256, .f32⟩
  | .local _ .vmem, ⟨18, _⟩ => ⟨S512x2304, .f32⟩
  | .local _ .vmem, ⟨19, _⟩ => ⟨S512x2304, .f32⟩
  | .local _ .vmem, ⟨20, _⟩ => ⟨S2304x512, .f32⟩
  | .local _ .vmem, ⟨21, _⟩ => ⟨S1x512, .f32⟩
  | .local _ .vmem, ⟨22, _⟩ => ⟨S512x512, .f32⟩
  | .local _ .vmem, ⟨23, _⟩ => ⟨S512x512, .f32⟩
  | .local _ .vmem, ⟨24, _⟩ => ⟨S512x2048, .f32⟩
  | .local _ .vmem, ⟨25, _⟩ => ⟨S512x2048, .f32⟩
  | .local _ .vmem, ⟨26, _⟩ => ⟨S8192x512, .f32⟩
  | .local _ .vmem, ⟨27, _⟩ => ⟨S1x1x2048, .i32⟩
  | .local _ .vmem, ⟨28, _⟩ => ⟨S1x1x2048, .i32⟩
  | _, _ => ⟨S4x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_0 : Ref sig .tc := ⟨.hbm, 27, rfl⟩
abbrev main_call1_v0 : Ref sig .tc := ⟨.hbm, 28, rfl⟩
abbrev main_v15 : Ref sig .tc := ⟨.hbm, 29, rfl⟩
abbrev main_c_1 : Ref sig .tc := ⟨.hbm, 30, rfl⟩
abbrev main_call2_v0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_2 : Ref sig .tc := ⟨.hbm, 36, rfl⟩
abbrev main_call3_v0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_3 : Ref sig .tc := ⟨.hbm, 55, rfl⟩
abbrev main_call4_v0 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_4 : Ref sig .tc := ⟨.hbm, 74, rfl⟩
abbrev main_call5_v0 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x576 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S576x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1152 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1152x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x2304 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2304x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S512x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![2], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S512x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S8192x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1x1x2048 .i32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]
-- ==== ReferenceIdeal.lean ====
abbrev S4x3x256x256 : Shape := ⟨4, ![4, 3, 256, 256]⟩
abbrev S64x3x3x3 : Shape := ⟨4, ![64, 3, 3, 3]⟩
abbrev S64 : Shape := ⟨1, ![64]⟩
abbrev S128x64x3x3 : Shape := ⟨4, ![128, 64, 3, 3]⟩
abbrev S128 : Shape := ⟨1, ![128]⟩
abbrev S256x128x3x3 : Shape := ⟨4, ![256, 128, 3, 3]⟩
abbrev S256 : Shape := ⟨1, ![256]⟩
abbrev S512x256x3x3 : Shape := ⟨4, ![512, 256, 3, 3]⟩
abbrev S512 : Shape := ⟨1, ![512]⟩
abbrev S8192x512 : Shape := ⟨2, ![8192, 512]⟩
abbrev S_ : Shape := ⟨0, ![]⟩
abbrev S4x3x258x258 : Shape := ⟨4, ![4, 3, 258, 258]⟩
abbrev S64x3x3x4x258x258 : Shape := ⟨6, ![64, 3, 3, 4, 258, 258]⟩
abbrev S64x1x1x4x256x256 : Shape := ⟨6, ![64, 1, 1, 4, 256, 256]⟩
abbrev S64x4x256x256 : Shape := ⟨4, ![64, 4, 256, 256]⟩
abbrev S4x64x256x256 : Shape := ⟨4, ![4, 64, 256, 256]⟩
abbrev S1x64x1x1 : Shape := ⟨4, ![1, 64, 1, 1]⟩
abbrev S4x64x258x258 : Shape := ⟨4, ![4, 64, 258, 258]⟩
abbrev S128x3x3x4x258x258 : Shape := ⟨6, ![128, 3, 3, 4, 258, 258]⟩
abbrev S128x1x1x4x128x128 : Shape := ⟨6, ![128, 1, 1, 4, 128, 128]⟩
abbrev S128x4x128x128 : Shape := ⟨4, ![128, 4, 128, 128]⟩
abbrev S4x128x128x128 : Shape := ⟨4, ![4, 128, 128, 128]⟩
abbrev S1x128x1x1 : Shape := ⟨4, ![1, 128, 1, 1]⟩
abbrev S4x128x130x130 : Shape := ⟨4, ![4, 128, 130, 130]⟩
abbrev S256x3x3x4x130x130 : Shape := ⟨6, ![256, 3, 3, 4, 130, 130]⟩
abbrev S256x1x1x4x64x64 : Shape := ⟨6, ![256, 1, 1, 4, 64, 64]⟩
abbrev S256x4x64x64 : Shape := ⟨4, ![256, 4, 64, 64]⟩
abbrev S4x256x64x64 : Shape := ⟨4, ![4, 256, 64, 64]⟩
abbrev S1x256x1x1 : Shape := ⟨4, ![1, 256, 1, 1]⟩
abbrev S4x256x66x66 : Shape := ⟨4, ![4, 256, 66, 66]⟩
abbrev S512x3x3x4x66x66 : Shape := ⟨6, ![512, 3, 3, 4, 66, 66]⟩
abbrev S512x1x1x4x32x32 : Shape := ⟨6, ![512, 1, 1, 4, 32, 32]⟩
abbrev S512x4x32x32 : Shape := ⟨4, ![512, 4, 32, 32]⟩
abbrev S4x512x32x32 : Shape := ⟨4, ![4, 512, 32, 32]⟩
abbrev S1x512x1x1 : Shape := ⟨4, ![1, 512, 1, 1]⟩
abbrev S4x32x32x512 : Shape := ⟨4, ![4, 32, 32, 512]⟩
abbrev S4096x512 : Shape := ⟨2, ![4096, 512]⟩
abbrev S4096 : Shape := ⟨1, ![4096]⟩
abbrev S4096x1 : Shape := ⟨2, ![4096, 1]⟩
abbrev S8192 : Shape := ⟨1, ![8192]⟩
abbrev S1x8192 : Shape := ⟨2, ![1, 8192]⟩
abbrev S4096x8192 : Shape := ⟨2, ![4096, 8192]⟩
abbrev S512x8192 : Shape := ⟨2, ![512, 8192]⟩

abbrev nBuf : Space → Nat
  | .hbm => 179
  | .vmem => 0
  | .smem => 0
  | _ => 0

abbrev hbmTy0_0 (i : Nat) : BufTy := match i % 128 with
  | 0 => ⟨S4x3x256x256, .f32⟩
  | 1 => ⟨S64x3x3x3, .f32⟩
  | 2 => ⟨S64, .f32⟩
  | 3 => ⟨S128x64x3x3, .f32⟩
  | 4 => ⟨S128, .f32⟩
  | 5 => ⟨S256x128x3x3, .f32⟩
  | 6 => ⟨S256, .f32⟩
  | 7 => ⟨S512x256x3x3, .f32⟩
  | 8 => ⟨S512, .f32⟩
  | 9 => ⟨S8192x512, .f32⟩
  | 10 => ⟨S_, .f32⟩
  | 11 => ⟨S4x3x258x258, .f32⟩
  | 12 => ⟨S64x3x3x4x258x258, .f32⟩
  | 13 => ⟨S64x1x1x4x256x256, .f32⟩
  | 14 => ⟨S64x4x256x256, .f32⟩
  | 15 => ⟨S64x1x1x4x256x256, .f32⟩
  | 16 => ⟨S64x4x256x256, .f32⟩
  | 17 => ⟨S64x4x256x256, .f32⟩
  | 18 => ⟨S64x1x1x4x256x256, .f32⟩
  | 19 => ⟨S64x4x256x256, .f32⟩
  | 20 => ⟨S64x4x256x256, .f32⟩
  | 21 => ⟨S64x1x1x4x256x256, .f32⟩
  | 22 => ⟨S64x4x256x256, .f32⟩
  | 23 => ⟨S64x4x256x256, .f32⟩
  | 24 => ⟨S64x1x1x4x256x256, .f32⟩
  | 25 => ⟨S64x4x256x256, .f32⟩
  | 26 => ⟨S64x4x256x256, .f32⟩
  | 27 => ⟨S64x1x1x4x256x256, .f32⟩
  | 28 => ⟨S64x4x256x256, .f32⟩
  | 29 => ⟨S64x4x256x256, .f32⟩
  | 30 => ⟨S64x1x1x4x256x256, .f32⟩
  | 31 => ⟨S64x4x256x256, .f32⟩
  | 32 => ⟨S64x4x256x256, .f32⟩
  | 33 => ⟨S64x1x1x4x256x256, .f32⟩
  | 34 => ⟨S64x4x256x256, .f32⟩
  | 35 => ⟨S64x4x256x256, .f32⟩
  | 36 => ⟨S64x1x1x4x256x256, .f32⟩
  | 37 => ⟨S64x4x256x256, .f32⟩
  | 38 => ⟨S64x4x256x256, .f32⟩
  | 39 => ⟨S4x64x256x256, .f32⟩
  | 40 => ⟨S1x64x1x1, .f32⟩
  | 41 => ⟨S4x64x256x256, .f32⟩
  | 42 => ⟨S4x64x256x256, .f32⟩
  | 43 => ⟨S_, .f32⟩
  | 44 => ⟨S4x64x256x256, .f32⟩
  | 45 => ⟨S4x64x256x256, .f32⟩
  | 46 => ⟨S_, .f32⟩
  | 47 => ⟨S4x64x258x258, .f32⟩
  | 48 => ⟨S128x3x3x4x258x258, .f32⟩
  | 49 => ⟨S128x1x1x4x128x128, .f32⟩
  | 50 => ⟨S128x4x128x128, .f32⟩
  | 51 => ⟨S128x1x1x4x128x128, .f32⟩
  | 52 => ⟨S128x4x128x128, .f32⟩
  | 53 => ⟨S128x4x128x128, .f32⟩
  | 54 => ⟨S128x1x1x4x128x128, .f32⟩
  | 55 => ⟨S128x4x128x128, .f32⟩
  | 56 => ⟨S128x4x128x128, .f32⟩
  | 57 => ⟨S128x1x1x4x128x128, .f32⟩
  | 58 => ⟨S128x4x128x128, .f32⟩
  | 59 => ⟨S128x4x128x128, .f32⟩
  | 60 => ⟨S128x1x1x4x128x128, .f32⟩
  | 61 => ⟨S128x4x128x128, .f32⟩
  | 62 => ⟨S128x4x128x128, .f32⟩
  | 63 => ⟨S128x1x1x4x128x128, .f32⟩
  | 64 => ⟨S128x4x128x128, .f32⟩
  | 65 => ⟨S128x4x128x128, .f32⟩
  | 66 => ⟨S128x1x1x4x128x128, .f32⟩
  | 67 => ⟨S128x4x128x128, .f32⟩
  | 68 => ⟨S128x4x128x128, .f32⟩
  | 69 => ⟨S128x1x1x4x128x128, .f32⟩
  | 70 => ⟨S128x4x128x128, .f32⟩
  | 71 => ⟨S128x4x128x128, .f32⟩
  | 72 => ⟨S128x1x1x4x128x128, .f32⟩
  | 73 => ⟨S128x4x128x128, .f32⟩
  | 74 => ⟨S128x4x128x128, .f32⟩
  | 75 => ⟨S4x128x128x128, .f32⟩
  | 76 => ⟨S1x128x1x1, .f32⟩
  | 77 => ⟨S4x128x128x128, .f32⟩
  | 78 => ⟨S4x128x128x128, .f32⟩
  | 79 => ⟨S_, .f32⟩
  | 80 => ⟨S4x128x128x128, .f32⟩
  | 81 => ⟨S4x128x128x128, .f32⟩
  | 82 => ⟨S_, .f32⟩
  | 83 => ⟨S4x128x130x130, .f32⟩
  | 84 => ⟨S256x3x3x4x130x130, .f32⟩
  | 85 => ⟨S256x1x1x4x64x64, .f32⟩
  | 86 => ⟨S256x4x64x64, .f32⟩
  | 87 => ⟨S256x1x1x4x64x64, .f32⟩
  | 88 => ⟨S256x4x64x64, .f32⟩
  | 89 => ⟨S256x4x64x64, .f32⟩
  | 90 => ⟨S256x1x1x4x64x64, .f32⟩
  | 91 => ⟨S256x4x64x64, .f32⟩
  | 92 => ⟨S256x4x64x64, .f32⟩
  | 93 => ⟨S256x1x1x4x64x64, .f32⟩
  | 94 => ⟨S256x4x64x64, .f32⟩
  | 95 => ⟨S256x4x64x64, .f32⟩
  | 96 => ⟨S256x1x1x4x64x64, .f32⟩
  | 97 => ⟨S256x4x64x64, .f32⟩
  | 98 => ⟨S256x4x64x64, .f32⟩
  | 99 => ⟨S256x1x1x4x64x64, .f32⟩
  | 100 => ⟨S256x4x64x64, .f32⟩
  | 101 => ⟨S256x4x64x64, .f32⟩
  | 102 => ⟨S256x1x1x4x64x64, .f32⟩
  | 103 => ⟨S256x4x64x64, .f32⟩
  | 104 => ⟨S256x4x64x64, .f32⟩
  | 105 => ⟨S256x1x1x4x64x64, .f32⟩
  | 106 => ⟨S256x4x64x64, .f32⟩
  | 107 => ⟨S256x4x64x64, .f32⟩
  | 108 => ⟨S256x1x1x4x64x64, .f32⟩
  | 109 => ⟨S256x4x64x64, .f32⟩
  | 110 => ⟨S256x4x64x64, .f32⟩
  | 111 => ⟨S4x256x64x64, .f32⟩
  | 112 => ⟨S1x256x1x1, .f32⟩
  | 113 => ⟨S4x256x64x64, .f32⟩
  | 114 => ⟨S4x256x64x64, .f32⟩
  | 115 => ⟨S_, .f32⟩
  | 116 => ⟨S4x256x64x64, .f32⟩
  | 117 => ⟨S4x256x64x64, .f32⟩
  | 118 => ⟨S_, .f32⟩
  | 119 => ⟨S4x256x66x66, .f32⟩
  | 120 => ⟨S512x3x3x4x66x66, .f32⟩
  | 121 => ⟨S512x1x1x4x32x32, .f32⟩
  | 122 => ⟨S512x4x32x32, .f32⟩
  | 123 => ⟨S512x1x1x4x32x32, .f32⟩
  | 124 => ⟨S512x4x32x32, .f32⟩
  | 125 => ⟨S512x4x32x32, .f32⟩
  | 126 => ⟨S512x1x1x4x32x32, .f32⟩
  | 127 => ⟨S512x4x32x32, .f32⟩
  | _ => ⟨S4x3x256x256, .f32⟩

abbrev hbmTy0_1 (i : Nat) : BufTy := match i % 128 with
  | 0 => ⟨S512x4x32x32, .f32⟩
  | 1 => ⟨S512x1x1x4x32x32, .f32⟩
  | 2 => ⟨S512x4x32x32, .f32⟩
  | 3 => ⟨S512x4x32x32, .f32⟩
  | 4 => ⟨S512x1x1x4x32x32, .f32⟩
  | 5 => ⟨S512x4x32x32, .f32⟩
  | 6 => ⟨S512x4x32x32, .f32⟩
  | 7 => ⟨S512x1x1x4x32x32, .f32⟩
  | 8 => ⟨S512x4x32x32, .f32⟩
  | 9 => ⟨S512x4x32x32, .f32⟩
  | 10 => ⟨S512x1x1x4x32x32, .f32⟩
  | 11 => ⟨S512x4x32x32, .f32⟩
  | 12 => ⟨S512x4x32x32, .f32⟩
  | 13 => ⟨S512x1x1x4x32x32, .f32⟩
  | 14 => ⟨S512x4x32x32, .f32⟩
  | 15 => ⟨S512x4x32x32, .f32⟩
  | 16 => ⟨S512x1x1x4x32x32, .f32⟩
  | 17 => ⟨S512x4x32x32, .f32⟩
  | 18 => ⟨S512x4x32x32, .f32⟩
  | 19 => ⟨S4x512x32x32, .f32⟩
  | 20 => ⟨S1x512x1x1, .f32⟩
  | 21 => ⟨S4x512x32x32, .f32⟩
  | 22 => ⟨S4x512x32x32, .f32⟩
  | 23 => ⟨S4x32x32x512, .f32⟩
  | 24 => ⟨S4096x512, .f32⟩
  | 25 => ⟨S4096x512, .f32⟩
  | 26 => ⟨S_, .f32⟩
  | 27 => ⟨S4096, .f32⟩
  | 28 => ⟨S4096x1, .f32⟩
  | 29 => ⟨S8192x512, .f32⟩
  | 30 => ⟨S_, .f32⟩
  | 31 => ⟨S8192, .f32⟩
  | 32 => ⟨S1x8192, .f32⟩
  | 33 => ⟨S4096x8192, .f32⟩
  | 34 => ⟨S4096x8192, .f32⟩
  | 35 => ⟨S4096x8192, .f32⟩
  | 36 => ⟨S_, .f32⟩
  | 37 => ⟨S4096x512, .f32⟩
  | 38 => ⟨S4096x512, .f32⟩
  | 39 => ⟨S512x8192, .f32⟩
  | 40 => ⟨S4096x8192, .f32⟩
  | 41 => ⟨S4096x8192, .f32⟩
  | 42 => ⟨S_, .f32⟩
  | 43 => ⟨S4096x8192, .f32⟩
  | 44 => ⟨S4096x8192, .f32⟩
  | 45 => ⟨S4096x8192, .f32⟩
  | 46 => ⟨S4096x8192, .i32⟩
  | 47 => ⟨S_, .f32⟩
  | 48 => ⟨S_, .i32⟩
  | 49 => ⟨S4096, .f32⟩
  | 50 => ⟨S4096, .i32⟩
  | _ => ⟨S4x3x256x256, .f32⟩

abbrev hbmTy (i : Nat) : BufTy := match i / 128 with
  | 0 => hbmTy0_0 i
  | 1 => hbmTy0_1 i
  | _ => ⟨S4x3x256x256, .f32⟩

abbrev bufTy : (tb : Table) → Fin (tcTables nBuf tb) → BufTy
  | .hbm, ⟨i, _⟩ => hbmTy i
  | _, _ => ⟨S4x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_cst : Ref sig .tc := ⟨.hbm, 43, rfl⟩
abbrev main_call0_v0 : Ref sig .tc := ⟨.hbm, 44, rfl⟩
abbrev main_v32 : Ref sig .tc := ⟨.hbm, 45, rfl⟩
abbrev main_cst_0 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_call1_cst : Ref sig .tc := ⟨.hbm, 79, rfl⟩
abbrev main_call1_v0 : Ref sig .tc := ⟨.hbm, 80, rfl⟩
abbrev main_v65 : Ref sig .tc := ⟨.hbm, 81, rfl⟩
abbrev main_cst_1 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_call2_cst : Ref sig .tc := ⟨.hbm, 115, rfl⟩
abbrev main_call2_v0 : Ref sig .tc := ⟨.hbm, 116, rfl⟩
abbrev main_v98 : Ref sig .tc := ⟨.hbm, 117, rfl⟩
abbrev main_cst_2 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_cst_3 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_cst_4 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_cst_5 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_cst_6 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_call3_v0 : Ref sig .tc := ⟨.hbm, 174, rfl⟩
abbrev main_call3_cst : Ref sig .tc := ⟨.hbm, 175, rfl⟩
abbrev main_call3_c : Ref sig .tc := ⟨.hbm, 176, rfl⟩
abbrev main_call3_v1_0 : Ref sig .tc := ⟨.hbm, 177, rfl⟩
abbrev main_v150 : Ref sig .tc := ⟨.hbm, 178, rfl⟩

abbrev nD : Nat := 1
abbrev τ : Topo := Topo.v7x

variable {F : FTy → Type} [FloatOps F]
-- ==== Proof.KernelRun.lean ====
module
public import proofs.«01_k».proof.Proof.Gen.KernelIdeal.Frame

/-! The ideal kernel program's run, with every buffer's contents at the end. -/

@[expose] public section

-- membership in a rectangle of production extents (`View.cover_of_tiled`): the elaborator's structural look
-- recurses once per coordinate of the long axes
set_option maxRecDepth 16384

noncomputable section

namespace Cert.KernelIdeal.Hand
open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair run ends, with every unscoped buffer at the contents the last stretch leaves. -/
theorem run : θ_run defs (onTc (τ := τ) (main (F := F))) ⟨m, fun _ => 0, ρ⟩ (fun r => ∀ c : Dev nD,
    ∀ b ∈ Pipeline.ucRefs τ sig, r.2.mem (((c : Thread nD τ)).1, b) = W23 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h _ => h)

end Cert.KernelIdeal.Hand

end
-- ==== Proof.Conv.lean ====
module

public import Idealize.ShloMosaic.Lib.Pointwise

@[expose] public section

noncomputable section

namespace Vq

open Idealize.ShloMosaic

/-- An image `X` (batch, row, column, channel) with a border of one zero on every side, read at the bordered row `i`
    and column `j`; beyond the border it is zero too. -/
def bord {B H W C : ℕ} (X : Fin B → Fin H → Fin W → Fin C → EReal) (b : Fin B) (i j : ℕ) (c : Fin C) : EReal :=
  if h : (1 ≤ i ∧ i - 1 < H) ∧ (1 ≤ j ∧ j - 1 < W) then X b ⟨i - 1, h.1.2⟩ ⟨j - 1, h.2.2⟩ c else 0

/-- What one of the nine taps contributes: the bordered image at one place against the weights of the tap. -/
def tap {B H W C O : ℕ} (X : Fin B → Fin H → Fin W → Fin C → EReal) (w : Fin O → Fin C → Fin 3 → Fin 3 → EReal)
    (b : Fin B) (i j : ℕ) (o : Fin O) (ky kx : Fin 3) : EReal :=
  ∑ c : Fin C, bord X b i j c * w o c ky kx

/-- The convolution with a 3x3 window, border one and stride `s`, at row `y` and column `x`, with its bias. -/
def conv {B H W C O : ℕ} (s : ℕ) (X : Fin B → Fin H → Fin W → Fin C → EReal)
    (w : Fin O → Fin C → Fin 3 → Fin 3 → EReal) (bias : Fin O → EReal) (b : Fin B) (y x : ℕ) (o : Fin O) : EReal :=
  tap X w b (s * y) (s * x) o 0 0 + tap X w b (s * y) (s * x + 1) o 0 1 + tap X w b (s * y) (s * x + 2) o 0 2
    + tap X w b (s * y + 1) (s * x) o 1 0 + tap X w b (s * y + 1) (s * x + 1) o 1 1
    + tap X w b (s * y + 1) (s * x + 2) o 1 2
    + tap X w b (s * y + 2) (s * x) o 2 0 + tap X w b (s * y + 2) (s * x + 1) o 2 1
    + tap X w b (s * y + 2) (s * x + 2) o 2 2 + bias o

/-- A matrix product with a row of biases, at one row and column: what each of the kernel's matrix calls computes before
    its last elementwise step. -/
def mm {M K N : ℕ} (A : (⟨2, ![M, K]⟩ : Shape).Idx → EReal) (B : (⟨2, ![K, N]⟩ : Shape).Idx → EReal)
    (bias : (⟨2, ![1, N]⟩ : Shape).Idx → EReal) (r : Fin M) (o : Fin N) : EReal :=
  ∑ k : Fin K, A (ix2 r k) * B (ix2 k o) + bias (ix2 0 o)

/-- A sum over `9 * C` places is the sum of nine sums over `C` places, added from the left. -/
theorem sum_nine {C : ℕ} (f : Fin (9 * C) → EReal) (g : Fin 9 → EReal)
    (h : ∀ t : Fin 9, g t = ∑ c : Fin C, f ⟨t.val * C + c.val, by have := t.isLt; have := c.isLt; nlinarith⟩) :
    ∑ k, f k = g 0 + g 1 + g 2 + g 3 + g 4 + g 5 + g 6 + g 7 + g 8 := by
  rw [← Equiv.sum_comp finProdFinEquiv f, Fintype.sum_prod_type]
  have e : ∀ t : Fin 9, (∑ c : Fin C, f (finProdFinEquiv (t, c))) = g t := fun t => by
    rw [h t]
    refine Finset.sum_congr rfl fun c _ => congrArg f (Fin.ext ?_)
    simp [finProdFinEquiv, Nat.mul_comm, Nat.add_comm]
  simp only [e, Fin.sum_univ_succ, Fin.sum_univ_zero]
  simp only [add_assoc, add_zero]
  rfl

/-- A matrix product whose left rows are the nine taps of a bordered image one after another, and whose right rows are
    the weights of the taps in the same order, is the convolution. -/
theorem mm_conv {B H W C O M K N : ℕ} (s : ℕ) (hK : K = 9 * C) (A : (⟨2, ![M, K]⟩ : Shape).Idx → EReal)
    (Bm : (⟨2, ![K, N]⟩ : Shape).Idx → EReal) (bs : (⟨2, ![1, N]⟩ : Shape).Idx → EReal) (r : Fin M) (n : Fin N)
    (X : Fin B → Fin H → Fin W → Fin C → EReal) (w : Fin O → Fin C → Fin 3 → Fin 3 → EReal) (bias : Fin O → EReal)
    (b : Fin B) (y x : ℕ) (o : Fin O)
    (hA : ∀ (t : Fin 9) (c : Fin C), A (ix2 r ⟨t.val * C + c.val, by have := t.isLt; have := c.isLt; subst hK; nlinarith⟩)
      = bord X b (s * y + t.val / 3) (s * x + t.val % 3) c)
    (hB : ∀ (t : Fin 9) (c : Fin C), Bm (ix2 ⟨t.val * C + c.val, by have := t.isLt; have := c.isLt; subst hK; nlinarith⟩ n)
      = w o c ⟨t.val / 3, by have := t.isLt; omega⟩ ⟨t.val % 3, by omega⟩)
    (hb : bs (ix2 0 n) = bias o) :
    mm A Bm bs r n = conv s X w bias b y x o := by
  subst hK
  unfold mm conv
  rw [hb, sum_nine (fun k => A (ix2 r k) * Bm (ix2 k n)) (fun t => tap X w b (s * y + t.val / 3) (s * x + t.val % 3) o
    ⟨t.val / 3, by have := t.isLt; omega⟩ ⟨t.val % 3, by omega⟩)
    fun t => Finset.sum_congr rfl fun c _ => by rw [hA t c, hB t c]]
  rfl

/-- The convolution as an image. -/
def convI {B H W C O H' W' : ℕ} (s : ℕ) (X : Fin B → Fin H → Fin W → Fin C → EReal)
    (w : Fin O → Fin C → Fin 3 → Fin 3 → EReal) (bias : Fin O → EReal) : Fin B → Fin H' → Fin W' → Fin O → EReal :=
  fun b y x o => conv s X w bias b y.val x.val o

/-- An image with its negative entries at zero. -/
def relu {B H W C : ℕ} (X : Fin B → Fin H → Fin W → Fin C → EReal) : Fin B → Fin H → Fin W → Fin C → EReal :=
  fun b y x c => max (X b y x c) 0

/-- A four-dimensional array of weights, by its four coordinates. -/
def w4 {a b c d : ℕ} (w : (⟨4, ![a, b, c, d]⟩ : Shape).Idx → EReal) : Fin a → Fin b → Fin c → Fin d → EReal :=
  fun i j k l => w (ix4 i j k l)

/-- A row of biases, by its coordinate. -/
def b1 {a : ℕ} (w : (⟨1, ![a]⟩ : Shape).Idx → EReal) : Fin a → EReal := fun i => w (ix1 i)

/-- Rows of zeros below the right operand of a product, and columns of zeros beside the left, change nothing. -/
theorem mm_pad {M K K' N : ℕ} (E : ℕ) (hK : K' = K + E) (A : (⟨2, ![M, K]⟩ : Shape).Idx → EReal)
    (Bm : (⟨2, ![K, N]⟩ : Shape).Idx → EReal) (A' : (⟨2, ![M, K']⟩ : Shape).Idx → EReal)
    (Bm' : (⟨2, ![K', N]⟩ : Shape).Idx → EReal) (bs : (⟨2, ![1, N]⟩ : Shape).Idx → EReal) (r : Fin M) (n : Fin N)
    (hA : ∀ k : Fin K', A' (ix2 r k) = if h : k.val < K then A (ix2 r ⟨k.val, h⟩) else 0)
    (hB : ∀ k : Fin K', Bm' (ix2 k n) = if h : k.val < K then Bm (ix2 ⟨k.val, h⟩ n) else 0) :
    mm A' Bm' bs r n = mm A Bm bs r n := by
  subst hK
  unfold mm
  congr 1
  rw [Fin.sum_univ_add]
  have z : ∀ k : Fin E, A' (ix2 r (Fin.natAdd K k)) * Bm' (ix2 (Fin.natAdd K k) n) = 0 := fun k => by
    rw [hA, dif_neg (by simp), zero_mul]
  have y : ∀ k : Fin K, A' (ix2 r (Fin.castAdd E k)) * Bm' (ix2 (Fin.castAdd E k) n) = A (ix2 r k) * Bm (ix2 k n) :=
    fun k => by
      rw [hA, hB, dif_pos (by simp), dif_pos (by simp)]
      rfl
  simp only [z, y, Finset.sum_const_zero, add_zero]

/-- Four-coordinate indices with equal coordinates are equal. -/
theorem ix4_eq {a b c d : ℕ} {i i' : Fin a} {j j' : Fin b} {k k' : Fin c} {l l' : Fin d} (h1 : i.val = i'.val)
    (h2 : j.val = j'.val) (h3 : k.val = k'.val) (h4 : l.val = l'.val) : ix4 i j k l = ix4 i' j' k' l' := by
  rw [Fin.ext h1, Fin.ext h2, Fin.ext h3, Fin.ext h4]

/-- Two-coordinate indices with equal coordinates are equal. -/
theorem ix2_eq {a b : ℕ} {i i' : Fin a} {j j' : Fin b} (h1 : i.val = i'.val) (h2 : j.val = j'.val) :
    ix2 i j = ix2 i' j' := by
  rw [Fin.ext h1, Fin.ext h2]

end Vq

end
-- ==== Proof.Spec.lean ====
module
public import proofs.«01_k».proof.Proof.Conv

/-! The encoder as a function of images: four convolutions, each but the last followed by the larger of zero and it. -/

@[expose] public section
noncomputable section
namespace Vq
open Idealize.ShloMosaic

/-- An array of images, channels first, by batch, row, column and channel. -/
def img {B C H W : ℕ} (x : (⟨4, ![B, C, H, W]⟩ : Shape).Idx → EReal) : Fin B → Fin H → Fin W → Fin C → EReal := fun b i j c => x (ix4 b c i j)

/-- The first encoding layer. -/
def enc1 (x : FVec Ideal ⟨4, ![4, 3, 256, 256]⟩ .f32) (w1 : FVec Ideal ⟨4, ![64, 3, 3, 3]⟩ .f32) (b1 : FVec Ideal ⟨1, ![64]⟩ .f32) : Fin 4 → Fin 256 → Fin 256 → Fin 64 → EReal :=
  relu (convI 1 (img x) (w4 w1) (Vq.b1 b1))
/-- The second encoding layer. -/
def enc2 (I : Fin 4 → Fin 256 → Fin 256 → Fin 64 → EReal) (w2 : FVec Ideal ⟨4, ![128, 64, 3, 3]⟩ .f32) (b2 : FVec Ideal ⟨1, ![128]⟩ .f32) : Fin 4 → Fin 128 → Fin 128 → Fin 128 → EReal :=
  relu (convI 2 I (w4 w2) (Vq.b1 b2))
/-- The third encoding layer. -/
def enc3 (I : Fin 4 → Fin 128 → Fin 128 → Fin 128 → EReal) (w3 : FVec Ideal ⟨4, ![256, 128, 3, 3]⟩ .f32) (b3 : FVec Ideal ⟨1, ![256]⟩ .f32) : Fin 4 → Fin 64 → Fin 64 → Fin 256 → EReal :=
  relu (convI 2 I (w4 w3) (Vq.b1 b3))
/-- The fourth encoding layer. -/
def enc4 (I : Fin 4 → Fin 64 → Fin 64 → Fin 256 → EReal) (w : FVec Ideal ⟨4, ![512, 256, 3, 3]⟩ .f32) (b4 : FVec Ideal ⟨1, ![512]⟩ .f32) : Fin 4 → Fin 32 → Fin 32 → Fin 512 → EReal :=
  convI 2 I (w4 w) (Vq.b1 b4)
/-- The four encoding layers. -/
def encoded (x : FVec Ideal ⟨4, ![4, 3, 256, 256]⟩ .f32) (w1 : FVec Ideal ⟨4, ![64, 3, 3, 3]⟩ .f32) (b1 : FVec Ideal ⟨1, ![64]⟩ .f32) (w2 : FVec Ideal ⟨4, ![128, 64, 3, 3]⟩ .f32) (b2 : FVec Ideal ⟨1, ![128]⟩ .f32) (w3 : FVec Ideal ⟨4, ![256, 128, 3, 3]⟩ .f32) (b3 : FVec Ideal ⟨1, ![256]⟩ .f32) (w4 : FVec Ideal ⟨4, ![512, 256, 3, 3]⟩ .f32) (b4 : FVec Ideal ⟨1, ![512]⟩ .f32) : Fin 4 → Fin 32 → Fin 32 → Fin 512 → EReal :=
  enc4 (enc3 (enc2 (enc1 x w1 b1) w2 b2) w3 b3) w4 b4

end Vq
-- ==== Proof.Least.lean ====
module

public import Idealize.ShloMosaic.Lib.Pointwise

/-! The least of a family of extended reals with the first place that has it, held while the places are met in any
order and in any grouping. -/

@[expose] public section

noncomputable section

namespace Vq

open Idealize.ShloMosaic

/-- `v` is the least of `D` over the places of `S` and `i` the first place that has it, both starting from `⊤` and `0`. -/
def Held (D : ℕ → EReal) (S : ℕ → Prop) (v : EReal) (i : BitVec 32) : Prop :=
  ∃ j : ℕ, j < 8192 ∧ i = BitVec.ofNat 32 j ∧ (v = ⊤ ∧ j = 0 ∨ S j ∧ v = D j) ∧ ∀ k, S k → v < D k ∨ v = D k ∧ j ≤ k

/-- The same without the start: the least is attained in `S`. -/
def Attained (D : ℕ → EReal) (S : ℕ → Prop) (v : EReal) (i : BitVec 32) : Prop :=
  ∃ j : ℕ, j < 8192 ∧ i = BitVec.ofNat 32 j ∧ (S j ∧ v = D j) ∧ ∀ k, S k → v < D k ∨ v = D k ∧ j ≤ k

/-- Nothing met yet. -/
theorem held_start (D : ℕ → EReal) (S : ℕ → Prop) (h : ∀ k, ¬ S k) : Held D S ⊤ 0#32 :=
  ⟨0, by omega, rfl, Or.inl ⟨rfl, rfl⟩, fun k hk => absurd hk (h k)⟩

/-- What is held after all the places is determined. -/
theorem held_unique {D : ℕ → EReal} {S : ℕ → Prop} (h0 : S 0) {v v' : EReal} {i i' : BitVec 32} (h : Held D S v i)
    (h' : Held D S v' i') : i = i' := by
  obtain ⟨j, _, rfl, hj, hm⟩ := h
  obtain ⟨j', _, rfl, hj', hm'⟩ := h'
  congr 1
  rcases hj with ⟨rfl, rfl⟩ | ⟨hs, rfl⟩ <;> rcases hj' with ⟨rfl, rfl⟩ | ⟨hs', rfl⟩
  · rfl
  · rcases hm _ hs' with h | ⟨h, _⟩
    · exact absurd h not_top_lt
    · rcases hm' 0 h0 with h2 | ⟨_, h2⟩
      · rw [← h] at h2; exact absurd h2 not_top_lt
      · omega
  · rcases hm' _ hs with h | ⟨h, _⟩
    · exact absurd h not_top_lt
    · rcases hm 0 h0 with h2 | ⟨_, h2⟩
      · rw [← h] at h2; exact absurd h2 not_top_lt
      · omega
  · rcases hm _ hs' with h | ⟨h, hle⟩ <;> rcases hm' _ hs with h2 | ⟨h2, hle'⟩
    · exact absurd (h.trans h2) (lt_irrefl _)
    · exact absurd h (h2 ▸ lt_irrefl _)
    · exact absurd h2 (h ▸ lt_irrefl _)
    · omega

/-- Signed order of small words is the order of their numbers. -/
theorem slt_small {a b : ℕ} (ha : a < 2147483648) (hb : b < 2147483648) :
    (BitVec.ofNat 32 a).slt (BitVec.ofNat 32 b) = decide (a < b) := by
  rw [BitVec.slt_eq_decide]
  congr 1
  rw [BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  simp

/-- Whether the pair `(b, bi)` comes before `(a, ai)`. -/
def before (b a : EReal) (bi ai : BitVec 32) : BitVec 1 :=
  IntOp.ori (BitVec.ofBool (decide (b < a))) (IntOp.andi (BitVec.ofBool (decide (b = a))) (IntOp.cmpi .slt bi ai))

theorem before_small (b a : EReal) {i j : ℕ} (hi : i < 8192) (hj : j < 8192) :
    before b a (BitVec.ofNat 32 i) (BitVec.ofNat 32 j) = BitVec.ofBool (decide (b < a ∨ b = a ∧ i < j)) := by
  unfold before IntOp.ori IntOp.andi IntOp.cmpi
  simp only [slt_small (show i < 2147483648 by omega) (show j < 2147483648 by omega)]
  by_cases h1 : b < a <;> by_cases h2 : b = a <;> by_cases h3 : i < j <;> simp [h1, h2, h3]

/-- The pair that comes first, out of what is held and what a further group of places attains. -/
theorem held_merge {D : ℕ → EReal} {S T : ℕ → Prop} {a b : EReal} {ai bi : BitVec 32} (h : Held D S a ai)
    (h' : Attained D T b bi) :
    Held D (fun k => S k ∨ T k) (Scalar.select (before b a bi ai) b a) (Scalar.select (before b a bi ai) bi ai) := by
  obtain ⟨j, hj8, rfl, hj, hm⟩ := h
  obtain ⟨j', hj8', rfl, hj', hm'⟩ := h'
  rw [before_small b a hj8' hj8]
  by_cases hb : b < a ∨ b = a ∧ j' < j
  · rw [decide_eq_true hb]
    refine ⟨j', hj8', rfl, Or.inr ⟨Or.inr hj'.1, hj'.2⟩, fun k hk => ?_⟩
    change b < D k ∨ b = D k ∧ j' ≤ k
    rcases hk with hk | hk
    · rcases hb with hb | ⟨rfl, hlt⟩
      · rcases hm k hk with h | ⟨h, _⟩
        · exact Or.inl (hb.trans h)
        · exact Or.inl (h ▸ hb)
      · rcases hm k hk with h | ⟨h, hle⟩
        · exact Or.inl h
        · exact Or.inr ⟨h, by omega⟩
    · exact hm' k hk
  · rw [decide_eq_false hb]
    push Not at hb
    refine ⟨j, hj8, rfl, hj.imp_right fun h => ⟨Or.inl h.1, h.2⟩, fun k hk => ?_⟩
    change a < D k ∨ a = D k ∧ j ≤ k
    rcases hk with hk | hk
    · exact hm k hk
    · rcases hb.1.lt_or_eq with h | h
      · rcases hm' k hk with h2 | ⟨h2, _⟩
        · exact Or.inl (h.trans h2)
        · exact Or.inl (h2 ▸ h)
      · rcases hm' k hk with h2 | ⟨h2, hle⟩
        · exact Or.inl (h ▸ h2)
        · exact Or.inr ⟨h.trans h2, (hb.2 h.symm).trans hle⟩

/-- Equal descriptions of the places met. -/
theorem held_congr {D : ℕ → EReal} {S T : ℕ → Prop} (hST : ∀ k, S k ↔ T k) {a : EReal} {ai : BitVec 32} (h : Held D S a ai) :
    Held D T a ai := by
  have : S = T := funext fun k => propext (hST k)
  exact this ▸ h

/-- A fold of minima from `⊤` over `N` places is one of them and below each of them. -/
theorem fold_min_top {N : ℕ} (hN : 0 < N) (f : Fin N → EReal) :
    (∃ x, Finset.fold min ⊤ f Finset.univ = f x) ∧ ∀ x, Finset.fold min ⊤ f Finset.univ ≤ f x := by
  have hle : ∀ x, Finset.fold min ⊤ f Finset.univ ≤ f x := fun x =>
    ((Finset.le_fold_min _).1 le_rfl).2 x (Finset.mem_univ x)
  refine ⟨?_, hle⟩
  rcases (Finset.fold_min_le _).1 (le_refl (Finset.fold min ⊤ f Finset.univ)) with h | ⟨x, _, h⟩
  · exact ⟨⟨0, hN⟩, (top_le_iff.1 h).trans (top_le_iff.1 (h.trans (hle ⟨0, hN⟩))).symm⟩
  · exact ⟨x, le_antisymm (hle x) h⟩

/-- A fold of signed minima over small words is one of them or the start, and below each of them. -/
theorem fold_minsi {ι : Type} [DecidableEq ι] (g : ι → ℕ) (hg : ∀ x, g x < 2147483648) (s : Finset ι) :
    ∃ j : ℕ, j < 2147483648 ∧ Finset.fold IntOp.minsi (2147483647#32) (fun x => BitVec.ofNat 32 (g x)) s = BitVec.ofNat 32 j
      ∧ (j = 2147483647 ∨ ∃ x ∈ s, j = g x) ∧ ∀ x ∈ s, j ≤ g x := by
  induction s using Finset.induction_on with
  | empty => exact ⟨2147483647, by omega, rfl, Or.inl rfl, by simp⟩
  | insert a s ha ih =>
    obtain ⟨j, hj, he, hm, hl⟩ := ih
    rw [Finset.fold_insert ha, he]
    unfold IntOp.minsi
    rw [slt_small (hg a) hj]
    by_cases h : g a < j
    · refine ⟨g a, hg a, by simp [h], Or.inr ⟨a, Finset.mem_insert_self _ _, rfl⟩, fun x hx => ?_⟩
      rcases Finset.mem_insert.1 hx with rfl | hx
      · exact le_rfl
      · exact h.le.trans (hl x hx)
    · refine ⟨j, hj, by simp [h], hm.imp_right fun ⟨x, hx, e⟩ => ⟨x, Finset.mem_insert_of_mem hx, e⟩, fun x hx => ?_⟩
      rcases Finset.mem_insert.1 hx with rfl | hx
      · omega
      · exact hl x hx

/-- A run of `N` rows from `base`: the minimum of their values, and the minimum of the row numbers where that value sits
    (a large number elsewhere), are the least value and its first row. -/
theorem attained_run {N : ℕ} (hN : 0 < N) (base : ℕ) (hb : base + N ≤ 8192) (D : ℕ → EReal) (f : Fin N → EReal)
    (hf : ∀ x : Fin N, f x = D (base + x.val)) (v : EReal) (hv : v = Finset.fold min ⊤ f Finset.univ) :
    Attained D (fun k => base ≤ k ∧ k < base + N) v
      (Finset.fold IntOp.minsi (2147483647#32)
        (fun x : Fin N => if f x = v then IntOp.addi (BitVec.ofNat 32 x.val) (BitVec.ofNat 32 base) else 1073741824#32) Finset.univ) := by
  subst hv
  set v := Finset.fold min ⊤ f Finset.univ with hv
  obtain ⟨⟨x0, hx0⟩, hle⟩ := fold_min_top hN f
  rw [← hv] at hx0 hle
  have e : (fun x : Fin N => if f x = v then IntOp.addi (BitVec.ofNat 32 x.val) (BitVec.ofNat 32 base) else 1073741824#32)
      = fun x : Fin N => BitVec.ofNat 32 (if f x = v then x.val + base else 1073741824) := funext fun x => by
    split_ifs with h
    · exact BitVec.ofNat_add_ofNat _ _
    · rfl
  rw [e]
  obtain ⟨j, _, he, hm, hl⟩ := fold_minsi (fun x : Fin N => if f x = v then x.val + base else 1073741824)
    (fun x => by have := x.isLt; split_ifs <;> omega) Finset.univ
  have h0 := hl x0 (Finset.mem_univ _)
  rw [if_pos hx0.symm] at h0
  have hx0' := x0.isLt
  rcases hm with rfl | ⟨x, _, hx⟩
  · omega
  have hxl := x.isLt
  by_cases hfx : f x = v
  · rw [if_pos hfx] at hx
    refine ⟨j, by omega, he, ⟨⟨by omega, by omega⟩, by rw [← hfx, hf, hx, Nat.add_comm]⟩, fun k hk => ?_⟩
    have hk' := hf ⟨k - base, by omega⟩
    rw [show base + (k - base) = k by omega] at hk'
    rcases (hle ⟨k - base, by omega⟩).lt_or_eq with h | h
    · exact Or.inl (hk' ▸ h)
    · refine Or.inr ⟨h.trans hk', ?_⟩
      have := hl ⟨k - base, by omega⟩ (Finset.mem_univ _)
      rw [if_pos h.symm] at this
      dsimp only at this
      omega
  · rw [if_neg hfx] at hx
    omega

/-- A left fold over a list of pairs, each a place's value with its number, of the body that keeps the earlier pair. -/
theorem held_foldl (D : ℕ → EReal) (r : EReal × BitVec 32 → EReal × BitVec 32 → EReal × BitVec 32)
    (hr : ∀ a b, r a b = (Scalar.select (BitVec.ofBool (decide (a.1 < b.1))) a.1 b.1, Scalar.select (before a.1 b.1 a.2 b.2) a.2 b.2))
    (L : List (EReal × BitVec 32)) (hL : ∀ q ∈ L, ∃ k, k < 8192 ∧ q = (D k, BitVec.ofNat 32 k)) (S : ℕ → Prop)
    (p : EReal × BitVec 32) (hp : Held D S p.1 p.2) :
    Held D (fun k => S k ∨ (k < 8192 ∧ (D k, BitVec.ofNat 32 k) ∈ L)) (L.foldl r p).1 (L.foldl r p).2 := by
  induction L generalizing S p with
  | nil => exact held_congr (by simp) hp
  | cons q L ih =>
    obtain ⟨k, hk, rfl⟩ := hL q List.mem_cons_self
    have step : Held D (fun n => S n ∨ (n < 8192 ∧ (D n, BitVec.ofNat 32 n) = (D k, BitVec.ofNat 32 k))) (r p (D k, BitVec.ofNat 32 k)).1 (r p (D k, BitVec.ofNat 32 k)).2 := by
      have inj : ∀ n, n < 8192 → (D n, BitVec.ofNat 32 n) = (D k, BitVec.ofNat 32 k) → n = k := fun n hn h => by
        have := congrArg (fun q : EReal × BitVec 32 => q.2.toNat) h
        simp only [BitVec.toNat_ofNat] at this
        omega
      obtain ⟨j, hj8, hi, hj, hm⟩ := hp
      rw [hr]
      dsimp only
      rw [hi, before_small _ _ hj8 hk]
      by_cases h1 : p.1 < D k
      · rw [decide_eq_true h1, decide_eq_true (Or.inl h1)]
        refine ⟨j, hj8, rfl, hj.imp_right fun h => ⟨Or.inl h.1, h.2⟩, fun n hn => ?_⟩
        change p.1 < D n ∨ p.1 = D n ∧ j ≤ n
        rcases hn with hn | ⟨hn, he⟩
        · exact hm n hn
        · rw [inj n hn he]; exact Or.inl h1
      · rw [decide_eq_false h1]
        by_cases h2 : p.1 = D k ∧ j < k
        · rw [decide_eq_true (Or.inr h2)]
          refine ⟨j, hj8, rfl, ?_, fun n hn => ?_⟩
          · change D k = ⊤ ∧ j = 0 ∨ _ ∧ D k = D j
            rw [← h2.1]
            exact hj.imp_right fun h => ⟨Or.inl h.1, h.2⟩
          · change D k < D n ∨ D k = D n ∧ j ≤ n
            rw [← h2.1]
            rcases hn with hn | ⟨hn, he⟩
            · exact hm n hn
            · rw [inj n hn he]; exact Or.inr ⟨h2.1, h2.2.le⟩
        · rw [decide_eq_false (not_or.2 ⟨h1, h2⟩)]
          refine ⟨k, hk, rfl, Or.inr ⟨Or.inr ⟨hk, rfl⟩, rfl⟩, fun n hn => ?_⟩
          change D k < D n ∨ D k = D n ∧ k ≤ n
          rcases hn with hn | ⟨hn, he⟩
          · rcases (not_lt.1 h1).lt_or_eq with h | h
            · rcases hm n hn with h3 | ⟨h3, _⟩
              · exact Or.inl (h.trans h3)
              · exact Or.inl (h3 ▸ h)
            · have hkj : k ≤ j := by
                by_contra hc
                exact h2 ⟨h.symm, by omega⟩
              rcases hm n hn with h3 | ⟨h3, h4⟩
              · exact Or.inl (h ▸ h3)
              · exact Or.inr ⟨h.trans h3, hkj.trans h4⟩
          · rw [inj n hn he]; exact Or.inr ⟨rfl, le_rfl⟩
    rw [List.foldl_cons]
    refine held_congr (fun n => ?_) (ih (fun q hq => hL q (List.mem_cons_of_mem _ hq)) _ _ step)
    simp only [List.mem_cons]
    tauto

end Vq

end
-- ==== Proof.Quant.lean ====
module
public import proofs.«01_k».proof.Proof.Gen.KernelIdeal.Frame
public import proofs.«01_k».proof.Proof.Least
public import Idealize.ShloMosaic.Lib.Pipeline.ValueKit
public import Idealize.ShloMosaic.Lib.KernelVsHost

/-! The quantiser's body as a chain of steps, one per run of codebook rows: each takes the squared distances of its rows
to every lane's vector, and keeps the least distance so far with the first row that has it. -/

@[expose] public section
set_option maxRecDepth 16384
noncomputable section
namespace Cert.KernelIdeal.Hand
open Cert.KernelIdeal Cert.KernelIdeal.Gen Idealize.ShloMosaic Idealize.ShloMosaic.TcCoe Idealize.SL.Sem Idealize.ShloMosaic.StableHlo

/-- The distance of codebook row `k` to the vector in lane `l`. -/
def rowDist {L : ℕ} (x0 : (⟨2, ![512, L]⟩ : Shape).Idx → EReal) (x1 : Vec Ideal S8192x512 .f32) (l : Fin L) (k : ℕ) : EReal :=
  if h : k < 8192 then Ideal.sqrt (max (∑ x, x0 (ix2 x l) * x0 (ix2 x l) + ∑ x, x1 (ix2 ⟨k, h⟩ x) * x1 (ix2 ⟨k, h⟩ x)
    - Ideal.ofBits FTy.f32 1073741824#32 * ∑ x, x1 (ix2 ⟨k, h⟩ x) * x0 (ix2 x l)) 0) else 0

/-- The distances of 384 codebook rows to every lane's vector. -/
def dist384 (zb : FVec Ideal S512x2048 .bf16) (zn : FVec Ideal S1x2048 .f32) (cb : Vec Ideal S384x512 .f32) : FVec Ideal S384x2048 .f32 :=
  sqrt (maximumf (subf (addf (broadcastTo S384x2048 zn broadcasts_S1x2048_S384x2048)
      (broadcastTo S384x2048 (shapeCast S384x1 (multiReduction .add [1] S384 (mulf cb cb) 0x00000000#32 reduces_S384x512_S384 (.inl rfl) rfl) shapeCasts_S384_S384x1) broadcasts_S384x1_S384x2048))
    (mulf (broadcast S384x2048 (Scalar.ofBits .f32 0x40000000#32))
      (matmul dot_S384x512_S512x2048_S384x2048_1_0_0_1_n_n none (truncf .bf16 cb bitsLt_bf16_f32) zb (constant S384x2048 .f32 0x00000000#32))))
    (broadcast S384x2048 (Scalar.ofBits .f32 0x00000000#32)))
/-- The least of 384 distances, lane by lane. -/
def least384 (d : FVec Ideal S384x2048 .f32) : FVec Ideal S1x2048 .f32 :=
  shapeCast S1x2048 (multiReduction .minimumf [0] S2048 d 0x7F800000#32 reduces_S384x2048_S2048 (.inl rfl) rfl) shapeCasts_S2048_S1x2048
/-- The first row (counted from `base`) with the least of 384 distances. -/
def first384 (d : FVec Ideal S384x2048 .f32) (base : BitVec 32) : IVec S1x2048 32 :=
  shapeCast S1x2048 (multiReductionI .minsi [0] S2048
    (select (cmpf .oeq d (broadcastTo S384x2048 (least384 d) broadcasts_S1x2048_S384x2048))
      (addi (iota .tc S384x2048 32 [0] iota_S384x2048_d0_w32) (broadcast S384x2048 base)) (broadcast S384x2048 1073741824#32))
    2147483647#32 reduces_S384x2048_S2048 rfl) shapeCasts_S2048_S1x2048
/-- Whether these rows improve on what is held. -/
def better384 (d : FVec Ideal S384x2048 .f32) (base : BitVec 32) (a : FVec Ideal S1x2048 .f32) (i : IVec S1x2048 32) : IVec S1x2048 1 :=
  ori (cmpf .olt (least384 d) a) (andi (cmpf .oeq (least384 d) a) (cmpi .slt (first384 d base) i))
/-- The distance held after these rows. -/
def heldV384 (d : FVec Ideal S384x2048 .f32) (base : BitVec 32) (a : FVec Ideal S1x2048 .f32) (i : IVec S1x2048 32) : FVec Ideal S1x2048 .f32 :=
  extf .f32 (truncf .bf16 (select (better384 d base a i) (least384 d) a) bitsLt_bf16_f32) bitsLt_bf16_f32
/-- The row held after these rows. -/
def heldI384 (d : FVec Ideal S384x2048 .f32) (base : BitVec 32) (a : FVec Ideal S1x2048 .f32) (i : IVec S1x2048 32) : IVec S1x2048 32 :=
  select (better384 d base a i) (first384 d base) i

/-- The distances of 128 codebook rows to every lane's vector. -/
def dist128 (zb : FVec Ideal S512x2048 .bf16) (zn : FVec Ideal S1x2048 .f32) (cb : Vec Ideal S128x512 .f32) : FVec Ideal S128x2048 .f32 :=
  sqrt (maximumf (subf (addf (broadcastTo S128x2048 zn broadcasts_S1x2048_S128x2048)
      (broadcastTo S128x2048 (shapeCast S128x1 (multiReduction .add [1] S128 (mulf cb cb) 0x00000000#32 reduces_S128x512_S128 (.inl rfl) rfl) shapeCasts_S128_S128x1) broadcasts_S128x1_S128x2048))
    (mulf (broadcast S128x2048 (Scalar.ofBits .f32 0x40000000#32))
      (matmul dot_S128x512_S512x2048_S128x2048_1_0_0_1_n_n none (truncf .bf16 cb bitsLt_bf16_f32) zb (constant S128x2048 .f32 0x00000000#32))))
    (broadcast S128x2048 (Scalar.ofBits .f32 0x00000000#32)))
/-- The least of 128 distances, lane by lane. -/
def least128 (d : FVec Ideal S128x2048 .f32) : FVec Ideal S1x2048 .f32 :=
  shapeCast S1x2048 (multiReduction .minimumf [0] S2048 d 0x7F800000#32 reduces_S128x2048_S2048 (.inl rfl) rfl) shapeCasts_S2048_S1x2048
/-- The first row (counted from `base`) with the least of 128 distances. -/
def first128 (d : FVec Ideal S128x2048 .f32) (base : BitVec 32) : IVec S1x2048 32 :=
  shapeCast S1x2048 (multiReductionI .minsi [0] S2048
    (select (cmpf .oeq d (broadcastTo S128x2048 (least128 d) broadcasts_S1x2048_S128x2048))
      (addi (iota .tc S128x2048 32 [0] iota_S128x2048_d0_w32) (broadcast S128x2048 base)) (broadcast S128x2048 1073741824#32))
    2147483647#32 reduces_S128x2048_S2048 rfl) shapeCasts_S2048_S1x2048
/-- Whether these rows improve on what is held. -/
def better128 (d : FVec Ideal S128x2048 .f32) (base : BitVec 32) (a : FVec Ideal S1x2048 .f32) (i : IVec S1x2048 32) : IVec S1x2048 1 :=
  ori (cmpf .olt (least128 d) a) (andi (cmpf .oeq (least128 d) a) (cmpi .slt (first128 d base) i))
/-- The distance held after these rows. -/
def heldV128 (d : FVec Ideal S128x2048 .f32) (base : BitVec 32) (a : FVec Ideal S1x2048 .f32) (i : IVec S1x2048 32) : FVec Ideal S1x2048 .f32 :=
  extf .f32 (truncf .bf16 (select (better128 d base a i) (least128 d) a) bitsLt_bf16_f32) bitsLt_bf16_f32
/-- The row held after these rows. -/
def heldI128 (d : FVec Ideal S128x2048 .f32) (base : BitVec 32) (a : FVec Ideal S1x2048 .f32) (i : IVec S1x2048 32) : IVec S1x2048 32 :=
  select (better128 d base a i) (first128 d base) i

theorem dist384_apply (zb : FVec Ideal S512x2048 .bf16) (zn : FVec Ideal S1x2048 .f32) (cb : Vec Ideal S384x512 .f32) (k : Fin 384) (l : Fin 2048) :
    dist384 zb zn cb (ix2 k l) = Ideal.sqrt (max (zn (ix2 0 l) + ∑ x, cb (ix2 k x) * cb (ix2 k x)
      - Ideal.ofBits FTy.f32 1073741824#32 * ∑ x, cb (ix2 k x) * zb (ix2 x l)) 0) := by
  pointwise [dist384]
theorem least384_apply (d : FVec Ideal S384x2048 .f32) (l : Fin 2048) : least384 d (ix2 0 l) = Finset.fold min ⊤ (fun x => d (ix2 x l)) Finset.univ := by
  pointwise [least384]
  rw [show Ideal.ofBits FTy.f32 2139095040#32 = ⊤ by simp [Ideal.ofBits, Ideal.ieee]]
theorem first384_apply (d : FVec Ideal S384x2048 .f32) (base : BitVec 32) (l : Fin 2048) : first384 d base (ix2 0 l) = Finset.fold IntOp.minsi (2147483647#32)
      (fun x : Fin 384 => if d (ix2 x l) = least384 d (ix2 0 l) then IntOp.addi (BitVec.ofNat 32 x.val) base else 1073741824#32) Finset.univ := by
  pointwise [first384]
theorem heldV384_apply (d : FVec Ideal S384x2048 .f32) (base : BitVec 32) (a : FVec Ideal S1x2048 .f32) (i : IVec S1x2048 32) (l : Fin 2048) :
    heldV384 d base a i (ix2 0 l) = Scalar.select (Vq.before (least384 d (ix2 0 l)) (a (ix2 0 l)) (first384 d base (ix2 0 l)) (i (ix2 0 l))) (least384 d (ix2 0 l)) (a (ix2 0 l)) := by
  pointwise [heldV384, better384]
  rfl
theorem heldI384_apply (d : FVec Ideal S384x2048 .f32) (base : BitVec 32) (a : FVec Ideal S1x2048 .f32) (i : IVec S1x2048 32) (l : Fin 2048) :
    heldI384 d base a i (ix2 0 l) = Scalar.select (Vq.before (least384 d (ix2 0 l)) (a (ix2 0 l)) (first384 d base (ix2 0 l)) (i (ix2 0 l))) (first384 d base (ix2 0 l)) (i (ix2 0 l)) := by
  pointwise [heldI384, better384]
  rfl
/-- One run of 384 codebook rows. -/
theorem step384 (x0 : Vec Ideal S512x2048 .f32) (x1 : Vec Ideal S8192x512 .f32) (zb : FVec Ideal S512x2048 .bf16) (zn : FVec Ideal S1x2048 .f32)
    (l : Fin 2048) (hzb : ∀ x, zb (ix2 x l) = x0 (ix2 x l)) (hzn : zn (ix2 0 l) = ∑ x, x0 (ix2 x l) * x0 (ix2 x l))
    (base : ℕ) (hb : base + 384 ≤ 8192) (cb : Vec Ideal S384x512 .f32) (hcb : ∀ (k : Fin 384) (x : Fin 512), cb (ix2 k x) = x1 (ix2 ⟨base + k.val, by omega⟩ x))
    (a : FVec Ideal S1x2048 .f32) (i : IVec S1x2048 32) (h : Vq.Held (rowDist x0 x1 l) (fun k => k < base) (a (ix2 0 l)) (i (ix2 0 l))) :
    Vq.Held (rowDist x0 x1 l) (fun k => k < base + 384) (heldV384 (dist384 zb zn cb) (BitVec.ofNat 32 base) a i (ix2 0 l))
      (heldI384 (dist384 zb zn cb) (BitVec.ofNat 32 base) a i (ix2 0 l)) := by
  rw [heldV384_apply, heldI384_apply]
  refine Vq.held_congr (fun k => by omega) (Vq.held_merge h (T := fun k => base ≤ k ∧ k < base + 384) ?_)
  rw [first384_apply]
  refine Vq.attained_run (by omega) base hb _ (fun x => dist384 zb zn cb (ix2 x l)) (fun k => ?_) _ (least384_apply _ _)
  have hk := k.isLt
  rw [dist384_apply, rowDist, dif_pos (by omega), hzn]
  simp only [hcb, hzb]

theorem dist128_apply (zb : FVec Ideal S512x2048 .bf16) (zn : FVec Ideal S1x2048 .f32) (cb : Vec Ideal S128x512 .f32) (k : Fin 128) (l : Fin 2048) :
    dist128 zb zn cb (ix2 k l) = Ideal.sqrt (max (zn (ix2 0 l) + ∑ x, cb (ix2 k x) * cb (ix2 k x)
      - Ideal.ofBits FTy.f32 1073741824#32 * ∑ x, cb (ix2 k x) * zb (ix2 x l)) 0) := by
  pointwise [dist128]
theorem least128_apply (d : FVec Ideal S128x2048 .f32) (l : Fin 2048) : least128 d (ix2 0 l) = Finset.fold min ⊤ (fun x => d (ix2 x l)) Finset.univ := by
  pointwise [least128]
  rw [show Ideal.ofBits FTy.f32 2139095040#32 = ⊤ by simp [Ideal.ofBits, Ideal.ieee]]
theorem first128_apply (d : FVec Ideal S128x2048 .f32) (base : BitVec 32) (l : Fin 2048) : first128 d base (ix2 0 l) = Finset.fold IntOp.minsi (2147483647#32)
      (fun x : Fin 128 => if d (ix2 x l) = least128 d (ix2 0 l) then IntOp.addi (BitVec.ofNat 32 x.val) base else 1073741824#32) Finset.univ := by
  pointwise [first128]
theorem heldV128_apply (d : FVec Ideal S128x2048 .f32) (base : BitVec 32) (a : FVec Ideal S1x2048 .f32) (i : IVec S1x2048 32) (l : Fin 2048) :
    heldV128 d base a i (ix2 0 l) = Scalar.select (Vq.before (least128 d (ix2 0 l)) (a (ix2 0 l)) (first128 d base (ix2 0 l)) (i (ix2 0 l))) (least128 d (ix2 0 l)) (a (ix2 0 l)) := by
  pointwise [heldV128, better128]
  rfl
theorem heldI128_apply (d : FVec Ideal S128x2048 .f32) (base : BitVec 32) (a : FVec Ideal S1x2048 .f32) (i : IVec S1x2048 32) (l : Fin 2048) :
    heldI128 d base a i (ix2 0 l) = Scalar.select (Vq.before (least128 d (ix2 0 l)) (a (ix2 0 l)) (first128 d base (ix2 0 l)) (i (ix2 0 l))) (first128 d base (ix2 0 l)) (i (ix2 0 l)) := by
  pointwise [heldI128, better128]
  rfl
/-- One run of 128 codebook rows. -/
theorem step128 (x0 : Vec Ideal S512x2048 .f32) (x1 : Vec Ideal S8192x512 .f32) (zb : FVec Ideal S512x2048 .bf16) (zn : FVec Ideal S1x2048 .f32)
    (l : Fin 2048) (hzb : ∀ x, zb (ix2 x l) = x0 (ix2 x l)) (hzn : zn (ix2 0 l) = ∑ x, x0 (ix2 x l) * x0 (ix2 x l))
    (base : ℕ) (hb : base + 128 ≤ 8192) (cb : Vec Ideal S128x512 .f32) (hcb : ∀ (k : Fin 128) (x : Fin 512), cb (ix2 k x) = x1 (ix2 ⟨base + k.val, by omega⟩ x))
    (a : FVec Ideal S1x2048 .f32) (i : IVec S1x2048 32) (h : Vq.Held (rowDist x0 x1 l) (fun k => k < base) (a (ix2 0 l)) (i (ix2 0 l))) :
    Vq.Held (rowDist x0 x1 l) (fun k => k < base + 128) (heldV128 (dist128 zb zn cb) (BitVec.ofNat 32 base) a i (ix2 0 l))
      (heldI128 (dist128 zb zn cb) (BitVec.ofNat 32 base) a i (ix2 0 l)) := by
  rw [heldV128_apply, heldI128_apply]
  refine Vq.held_congr (fun k => by omega) (Vq.held_merge h (T := fun k => base ≤ k ∧ k < base + 128) ?_)
  rw [first128_apply]
  refine Vq.attained_run (by omega) base hb _ (fun x => dist128 zb zn cb (ix2 x l)) (fun k => ?_) _ (least128_apply _ _)
  have hk := k.isLt
  rw [dist128_apply, rowDist, dif_pos (by omega), hzn]
  simp only [hcb, hzb]

/-- The lanes' vectors the body's products read. -/
theorem lanes (x0 : Vec Ideal S512x2048 .f32) (x1 : Vec Ideal S8192x512 .f32) (l : Fin 2048) (x : Fin 512) : k4_pay154 (F := Ideal) x0 x1 (ix2 x l) = x0 (ix2 x l) := by
  pointwise [k4_pay154, k4_pay3, k4_pay2]
/-- The lanes' squared norms. -/
theorem norms (x0 : Vec Ideal S512x2048 .f32) (x1 : Vec Ideal S8192x512 .f32) (l : Fin 2048) : k4_pay155 (F := Ideal) x0 x1 (ix2 0 l) = ∑ x, x0 (ix2 x l) * x0 (ix2 x l) := by
  pointwise [k4_pay155, k4_pay4, k4_pay2]
theorem none_held (x0 : Vec Ideal S512x2048 .f32) (x1 : Vec Ideal S8192x512 .f32) (l : Fin 2048) :
    Vq.Held (rowDist x0 x1 l) (fun k => k < 0) ((k4_pay5 : FVec Ideal S1x2048 .f32) (ix2 0 l)) ((k4_pay6 : IVec S1x2048 32) (ix2 0 l)) := by
  have e : (k4_pay5 : FVec Ideal S1x2048 .f32) (ix2 0 l) = ⊤ := (by simp [Ideal.ofBits, Ideal.ieee] : Ideal.ofBits FTy.f32 2139095040#32 = ⊤)
  rw [e]
  exact Vq.held_start _ _ (fun k => by omega)
theorem rows1 (x1 : Vec Ideal S8192x512 .f32) (k : Fin 384) (x : Fin 512) : (View.ld x1 r4_1 : Vec Ideal S384x512 .f32) (ix2 k x) = x1 (ix2 ⟨0 + k.val, by omega⟩ x) := by
  pointwise [r4_1]
theorem rows2 (x1 : Vec Ideal S8192x512 .f32) (k : Fin 384) (x : Fin 512) : (View.ld x1 r4_2 : Vec Ideal S384x512 .f32) (ix2 k x) = x1 (ix2 ⟨384 + k.val, by omega⟩ x) := by
  pointwise [r4_2]
theorem rows3 (x1 : Vec Ideal S8192x512 .f32) (k : Fin 384) (x : Fin 512) : (View.ld x1 r4_3 : Vec Ideal S384x512 .f32) (ix2 k x) = x1 (ix2 ⟨768 + k.val, by omega⟩ x) := by
  pointwise [r4_3]
theorem rows4 (x1 : Vec Ideal S8192x512 .f32) (k : Fin 384) (x : Fin 512) : (View.ld x1 r4_4 : Vec Ideal S384x512 .f32) (ix2 k x) = x1 (ix2 ⟨1152 + k.val, by omega⟩ x) := by
  pointwise [r4_4]
theorem rows5 (x1 : Vec Ideal S8192x512 .f32) (k : Fin 384) (x : Fin 512) : (View.ld x1 r4_5 : Vec Ideal S384x512 .f32) (ix2 k x) = x1 (ix2 ⟨1536 + k.val, by omega⟩ x) := by
  pointwise [r4_5]
theorem rows6 (x1 : Vec Ideal S8192x512 .f32) (k : Fin 384) (x : Fin 512) : (View.ld x1 r4_6 : Vec Ideal S384x512 .f32) (ix2 k x) = x1 (ix2 ⟨1920 + k.val, by omega⟩ x) := by
  pointwise [r4_6]
theorem rows7 (x1 : Vec Ideal S8192x512 .f32) (k : Fin 384) (x : Fin 512) : (View.ld x1 r4_7 : Vec Ideal S384x512 .f32) (ix2 k x) = x1 (ix2 ⟨2304 + k.val, by omega⟩ x) := by
  pointwise [r4_7]
theorem rows8 (x1 : Vec Ideal S8192x512 .f32) (k : Fin 384) (x : Fin 512) : (View.ld x1 r4_8 : Vec Ideal S384x512 .f32) (ix2 k x) = x1 (ix2 ⟨2688 + k.val, by omega⟩ x) := by
  pointwise [r4_8]
theorem rows9 (x1 : Vec Ideal S8192x512 .f32) (k : Fin 384) (x : Fin 512) : (View.ld x1 r4_9 : Vec Ideal S384x512 .f32) (ix2 k x) = x1 (ix2 ⟨3072 + k.val, by omega⟩ x) := by
  pointwise [r4_9]
theorem rows10 (x1 : Vec Ideal S8192x512 .f32) (k : Fin 384) (x : Fin 512) : (View.ld x1 r4_10 : Vec Ideal S384x512 .f32) (ix2 k x) = x1 (ix2 ⟨3456 + k.val, by omega⟩ x) := by
  pointwise [r4_10]
theorem rows11 (x1 : Vec Ideal S8192x512 .f32) (k : Fin 384) (x : Fin 512) : (View.ld x1 r4_11 : Vec Ideal S384x512 .f32) (ix2 k x) = x1 (ix2 ⟨3840 + k.val, by omega⟩ x) := by
  pointwise [r4_11]
theorem rows12 (x1 : Vec Ideal S8192x512 .f32) (k : Fin 384) (x : Fin 512) : (View.ld x1 r4_12 : Vec Ideal S384x512 .f32) (ix2 k x) = x1 (ix2 ⟨4224 + k.val, by omega⟩ x) := by
  pointwise [r4_12]
theorem rows13 (x1 : Vec Ideal S8192x512 .f32) (k : Fin 384) (x : Fin 512) : (View.ld x1 r4_13 : Vec Ideal S384x512 .f32) (ix2 k x) = x1 (ix2 ⟨4608 + k.val, by omega⟩ x) := by
  pointwise [r4_13]
theorem rows14 (x1 : Vec Ideal S8192x512 .f32) (k : Fin 384) (x : Fin 512) : (View.ld x1 r4_14 : Vec Ideal S384x512 .f32) (ix2 k x) = x1 (ix2 ⟨4992 + k.val, by omega⟩ x) := by
  pointwise [r4_14]
theorem rows15 (x1 : Vec Ideal S8192x512 .f32) (k : Fin 384) (x : Fin 512) : (View.ld x1 r4_15 : Vec Ideal S384x512 .f32) (ix2 k x) = x1 (ix2 ⟨5376 + k.val, by omega⟩ x) := by
  pointwise [r4_15]
theorem rows16 (x1 : Vec Ideal S8192x512 .f32) (k : Fin 384) (x : Fin 512) : (View.ld x1 r4_16 : Vec Ideal S384x512 .f32) (ix2 k x) = x1 (ix2 ⟨5760 + k.val, by omega⟩ x) := by
  pointwise [r4_16]
theorem rows17 (x1 : Vec Ideal S8192x512 .f32) (k : Fin 384) (x : Fin 512) : (View.ld x1 r4_17 : Vec Ideal S384x512 .f32) (ix2 k x) = x1 (ix2 ⟨6144 + k.val, by omega⟩ x) := by
  pointwise [r4_17]
theorem rows18 (x1 : Vec Ideal S8192x512 .f32) (k : Fin 384) (x : Fin 512) : (View.ld x1 r4_18 : Vec Ideal S384x512 .f32) (ix2 k x) = x1 (ix2 ⟨6528 + k.val, by omega⟩ x) := by
  pointwise [r4_18]
theorem rows19 (x1 : Vec Ideal S8192x512 .f32) (k : Fin 384) (x : Fin 512) : (View.ld x1 r4_19 : Vec Ideal S384x512 .f32) (ix2 k x) = x1 (ix2 ⟨6912 + k.val, by omega⟩ x) := by
  pointwise [r4_19]
theorem rows20 (x1 : Vec Ideal S8192x512 .f32) (k : Fin 384) (x : Fin 512) : (View.ld x1 r4_20 : Vec Ideal S384x512 .f32) (ix2 k x) = x1 (ix2 ⟨7296 + k.val, by omega⟩ x) := by
  pointwise [r4_20]
theorem rows21 (x1 : Vec Ideal S8192x512 .f32) (k : Fin 384) (x : Fin 512) : (View.ld x1 r4_21 : Vec Ideal S384x512 .f32) (ix2 k x) = x1 (ix2 ⟨7680 + k.val, by omega⟩ x) := by
  pointwise [r4_21]
theorem rows22 (x1 : Vec Ideal S8192x512 .f32) (k : Fin 128) (x : Fin 512) : (View.ld x1 r4_22 : Vec Ideal S128x512 .f32) (ix2 k x) = x1 (ix2 ⟨8064 + k.val, by omega⟩ x) := by
  pointwise [r4_22]
theorem v1 (x0 : Vec Ideal S512x2048 .f32) (x1 : Vec Ideal S8192x512 .f32) : (k4_pay156 (F := Ideal) x0 x1) = (heldV384 (dist384 (k4_pay154 (F := Ideal) x0 x1) (k4_pay155 (F := Ideal) x0 x1) (View.ld x1 r4_1)) 0#32 (k4_pay5 (F := Ideal)) k4_pay6) := rfl
theorem i1 (x0 : Vec Ideal S512x2048 .f32) (x1 : Vec Ideal S8192x512 .f32) : (k4_pay157 (F := Ideal) x0 x1) = (heldI384 (dist384 (k4_pay154 (F := Ideal) x0 x1) (k4_pay155 (F := Ideal) x0 x1) (View.ld x1 r4_1)) 0#32 (k4_pay5 (F := Ideal)) k4_pay6) := rfl
theorem held1 (x0 : Vec Ideal S512x2048 .f32) (x1 : Vec Ideal S8192x512 .f32) (l : Fin 2048) : Vq.Held (rowDist x0 x1 l) (fun k => k < 384) ((k4_pay156 (F := Ideal) x0 x1) (ix2 0 l)) ((k4_pay157 (F := Ideal) x0 x1) (ix2 0 l)) := by
  rw [v1, i1]
  exact step384 x0 x1 _ _ l (lanes x0 x1 l) (norms x0 x1 l) 0 (by omega) _ (rows1 x1) _ _ (none_held x0 x1 l)
theorem v2 (x0 : Vec Ideal S512x2048 .f32) (x1 : Vec Ideal S8192x512 .f32) : (k4_pay158 (F := Ideal) x0 x1) = (heldV384 (dist384 (k4_pay154 (F := Ideal) x0 x1) (k4_pay155 (F := Ideal) x0 x1) (View.ld x1 r4_2)) 384#32 (k4_pay156 (F := Ideal) x0 x1) (k4_pay157 (F := Ideal) x0 x1)) := rfl
theorem i2 (x0 : Vec Ideal S512x2048 .f32) (x1 : Vec Ideal S8192x512 .f32) : (k4_pay159 (F := Ideal) x0 x1) = (heldI384 (dist384 (k4_pay154 (F := Ideal) x0 x1) (k4_pay155 (F := Ideal) x0 x1) (View.ld x1 r4_2)) 384#32 (k4_pay156 (F := Ideal) x0 x1) (k4_pay157 (F := Ideal) x0 x1)) := rfl
theorem held2 (x0 : Vec Ideal S512x2048 .f32) (x1 : Vec Ideal S8192x512 .f32) (l : Fin 2048) : Vq.Held (rowDist x0 x1 l) (fun k => k < 768) ((k4_pay158 (F := Ideal) x0 x1) (ix2 0 l)) ((k4_pay159 (F := Ideal) x0 x1) (ix2 0 l)) := by
  rw [v2, i2]
  exact step384 x0 x1 _ _ l (lanes x0 x1 l) (norms x0 x1 l) 384 (by omega) _ (rows2 x1) _ _ (held1 x0 x1 l)
theorem v3 (x0 : Vec Ideal S512x2048 .f32) (x1 : Vec Ideal S8192x512 .f32) : (k4_pay162 (F := Ideal) x0 x1) = (heldV384 (dist384 (k4_pay154 (F := Ideal) x0 x1) (k4_pay155 (F := Ideal) x0 x1) (View.ld x1 r4_3)) 768#32 (k4_pay158 (F := Ideal) x0 x1) (k4_pay159 (F := Ideal) x0 x1)) := rfl
theorem i3 (x0 : Vec Ideal S512x2048 .f32) (x1 : Vec Ideal S8192x512 .f32) : (k4_pay163 (F := Ideal) x0 x1) = (heldI384 (dist384 (k4_pay154 (F := Ideal) x0 x1) (k4_pay155 (F := Ideal) x0 x1) (View.ld x1 r4_3)) 768#32 (k4_pay158 (F := Ideal) x0 x1) (k4_pay159 (F := Ideal) x0 x1)) := rfl
theorem held3 (x0 : Vec Ideal S512x2048 .f32) (x1 : Vec Ideal S8192x512 .f32) (l : Fin 2048) : Vq.Held (rowDist x0 x1 l) (fun k => k < 1152) ((k4_pay162 (F := Ideal) x0 x1) (ix2 0 l)) ((k4_pay163 (F := Ideal) x0 x1) (ix2 0 l)) := by
  rw [v3, i3]
  exact step384 x0 x1 _ _ l (lanes x0 x1 l) (norms x0 x1 l) 768 (by omega) _ (rows3 x1) _ _ (held2 x0 x1 l)
/-- What is held after run 4. -/
def afterV4 (x0 : Vec Ideal S512x2048 .f32) (x1 : Vec Ideal S8192x512 .f32) : FVec Ideal S1x2048 .f32 := (heldV384 (dist384 (k4_pay154 (F := Ideal) x0 x1) (k4_pay155 (F := Ideal) x0 x1) (View.ld x1 r4_4)) 1152#32 (k4_pay162 (F := Ideal) x0 x1) (k4_pay163 (F := Ideal) x0 x1))
def afterI4 (x0 : Vec Ideal S512x2048 .f32) (x1 : Vec Ideal S8192x512 .f32) : IVec S1x2048 32 := (heldI384 (dist384 (k4_pay154 (F := Ideal) x0 x1) (k4_pay155 (F := Ideal) x0 x1) (View.ld x1 r4_4)) 1152#32 (k4_pay162 (F := Ideal) x0 x1) (k4_pay163 (F := Ideal) x0 x1))
theorem v4 (x0 : Vec Ideal S512x2048 .f32) (x1 : Vec Ideal S8192x512 .f32) : (afterV4 x0 x1) = (heldV384 (dist384 (k4_pay154 (F := Ideal) x0 x1) (k4_pay155 (F := Ideal) x0 x1) (View.ld x1 r4_4)) 1152#32 (k4_pay162 (F := Ideal) x0 x1) (k4_pay163 (F := Ideal) x0 x1)) := rfl
theorem i4 (x0 : Vec Ideal S512x2048 .f32) (x1 : Vec Ideal S8192x512 .f32) : (afterI4 x0 x1) = (heldI384 (dist384 (k4_pay154 (F := Ideal) x0 x1) (k4_pay155 (F := Ideal) x0 x1) (View.ld x1 r4_4)) 1152#32 (k4_pay162 (F := Ideal) x0 x1) (k4_pay163 (F := Ideal) x0 x1)) := rfl
theorem held4 (x0 : Vec Ideal S512x2048 .f32) (x1 : Vec Ideal S8192x512 .f32) (l : Fin 2048) : Vq.Held (rowDist x0 x1 l) (fun k => k < 1536) ((afterV4 x0 x1) (ix2 0 l)) ((afterI4 x0 x1) (ix2 0 l)) := by
  rw [v4, i4]
  exact step384 x0 x1 _ _ l (lanes x0 x1 l) (norms x0 x1 l) 1152 (by omega) _ (rows4 x1) _ _ (held3 x0 x1 l)
theorem v5 (x0 : Vec Ideal S512x2048 .f32) (x1 : Vec Ideal S8192x512 .f32) : (k4_pay167 (F := Ideal) x0 x1) = (heldV384 (dist384 (k4_pay154 (F := Ideal) x0 x1) (k4_pay155 (F := Ideal) x0 x1) (View.ld x1 r4_5)) 1536#32 (afterV4 x0 x1) (afterI4 x0 x1)) := rfl
theorem i5 (x0 : Vec Ideal S512x2048 .f32) (x1 : Vec Ideal S8192x512 .f32) : (k4_pay168 (F := Ideal) x0 x1) = (heldI384 (dist384 (k4_pay154 (F := Ideal) x0 x1) (k4_pay155 (F := Ideal) x0 x1) (View.ld x1 r4_5)) 1536#32 (afterV4 x0 x1) (afterI4 x0 x1)) := rfl
theorem held5 (x0 : Vec Ideal S512x2048 .f32) (x1 : Vec Ideal S8192x512 .f32) (l : Fin 2048) : Vq.Held (rowDist x0 x1 l) (fun k => k < 1920) ((k4_pay167 (F := Ideal) x0 x1) (ix2 0 l)) ((k4_pay168 (F := Ideal) x0 x1) (ix2 0 l)) := by
  rw [v5, i5]
  exact step384 x0 x1 _ _ l (lanes x0 x1 l) (norms x0 x1 l) 1536 (by omega) _ (rows5 x1) _ _ (held4 x0 x1 l)
theorem v6 (x0 : Vec Ideal S512x2048 .f32) (x1 : Vec Ideal S8192x512 .f32) : (k4_pay169 (F := Ideal) x0 x1) = (heldV384 (dist384 (k4_pay154 (F := Ideal) x0 x1) (k4_pay155 (F := Ideal) x0 x1) (View.ld x1 r4_6)) 1920#32 (k4_pay167 (F := Ideal) x0 x1) (k4_pay168 (F := Ideal) x0 x1)) := rfl
theorem i6 (x0 : Vec Ideal S512x2048 .f32) (x1 : Vec Ideal S8192x512 .f32) : (k4_pay170 (F := Ideal) x0 x1) = (heldI384 (dist384 (k4_pay154 (F := Ideal) x0 x1) (k4_pay155 (F := Ideal) x0 x1) (View.ld x1 r4_6)) 1920#32 (k4_pay167 (F := Ideal) x0 x1) (k4_pay168 (F := Ideal) x0 x1)) := rfl
theorem held6 (x0 : Vec Ideal S512x2048 .f32) (x1 : Vec Ideal S8192x512 .f32) (l : Fin 2048) : Vq.Held (rowDist x0 x1 l) (fun k => k < 2304) ((k4_pay169 (F := Ideal) x0 x1) (ix2 0 l)) ((k4_pay170 (F := Ideal) x0 x1) (ix2 0 l)) := by
  rw [v6, i6]
  exact step384 x0 x1 _ _ l (lanes x0 x1 l) (norms x0 x1 l) 1920 (by omega) _ (rows6 x1) _ _ (held5 x0 x1 l)
theorem v7 (x0 : Vec Ideal S512x2048 .f32) (x1 : Vec Ideal S8192x512 .f32) : (k4_pay173 (F := Ideal) x0 x1) = (heldV384 (dist384 (k4_pay154 (F := Ideal) x0 x1) (k4_pay155 (F := Ideal) x0 x1) (View.ld x1 r4_7)) 2304#32 (k4_pay169 (F := Ideal) x0 x1) (k4_pay170 (F := Ideal) x0 x1)) := rfl
theorem i7 (x0 : Vec Ideal S512x2048 .f32) (x1 : Vec Ideal S8192x512 .f32) : (k4_pay174 (F := Ideal) x0 x1) = (heldI384 (dist384 (k4_pay154 (F := Ideal) x0 x1) (k4_pay155 (F := Ideal) x0 x1) (View.ld x1 r4_7)) 2304#32 (k4_pay169 (F := Ideal) x0 x1) (k4_pay170 (F := Ideal) x0 x1)) := rfl
theorem held7 (x0 : Vec Ideal S512x2048 .f32) (x1 : Vec Ideal S8192x512 .f32) (l : Fin 2048) : Vq.Held (rowDist x0 x1 l) (fun k => k < 2688) ((k4_pay173 (F := Ideal) x0 x1) (ix2 0 l)) ((k4_pay174 (F := Ideal) x0 x1) (ix2 0 l)) := by
  rw [v7, i7]
  exact step384 x0 x1 _ _ l (lanes x0 x1 l) (norms x0 x1 l) 2304 (by omega) _ (rows7 x1) _ _ (held6 x0 x1 l)
/-- What is held after run 8. -/
def afterV8 (x0 : Vec Ideal S512x2048 .f32) (x1 : Vec Ideal S8192x512 .f32) : FVec Ideal S1x2048 .f32 := (heldV384 (dist384 (k4_pay154 (F := Ideal) x0 x1) (k4_pay155 (F := Ideal) x0 x1) (View.ld x1 r4_8)) 2688#32 (k4_pay173 (F := Ideal) x0 x1) (k4_pay174 (F := Ideal) x0 x1))
def afterI8 (x0 : Vec Ideal S512x2048 .f32) (x1 : Vec Ideal S8192x512 .f32) : IVec S1x2048 32 := (heldI384 (dist384 (k4_pay154 (F := Ideal) x0 x1) (k4_pay155 (F := Ideal) x0 x1) (View.ld x1 r4_8)) 2688#32 (k4_pay173 (F := Ideal) x0 x1) (k4_pay174 (F := Ideal) x0 x1))
theorem v8 (x0 : Vec Ideal S512x2048 .f32) (x1 : Vec Ideal S8192x512 .f32) : (afterV8 x0 x1) = (heldV384 (dist384 (k4_pay154 (F := Ideal) x0 x1) (k4_pay155 (F := Ideal) x0 x1) (View.ld x1 r4_8)) 2688#32 (k4_pay173 (F := Ideal) x0 x1) (k4_pay174 (F := Ideal) x0 x1)) := rfl
theorem i8 (x0 : Vec Ideal S512x2048 .f32) (x1 : Vec Ideal S8192x512 .f32) : (afterI8 x0 x1) = (heldI384 (dist384 (k4_pay154 (F := Ideal) x0 x1) (k4_pay155 (F := Ideal) x0 x1) (View.ld x1 r4_8)) 2688#32 (k4_pay173 (F := Ideal) x0 x1) (k4_pay174 (F := Ideal) x0 x1)) := rfl
theorem held8 (x0 : Vec Ideal S512x2048 .f32) (x1 : Vec Ideal S8192x512 .f32) (l : Fin 2048) : Vq.Held (rowDist x0 x1 l) (fun k => k < 3072) ((afterV8 x0 x1) (ix2 0 l)) ((afterI8 x0 x1) (ix2 0 l)) := by
  rw [v8, i8]
  exact step384 x0 x1 _ _ l (lanes x0 x1 l) (norms x0 x1 l) 2688 (by omega) _ (rows8 x1) _ _ (held7 x0 x1 l)
theorem v9 (x0 : Vec Ideal S512x2048 .f32) (x1 : Vec Ideal S8192x512 .f32) : (k4_pay178 (F := Ideal) x0 x1) = (heldV384 (dist384 (k4_pay154 (F := Ideal) x0 x1) (k4_pay155 (F := Ideal) x0 x1) (View.ld x1 r4_9)) 3072#32 (afterV8 x0 x1) (afterI8 x0 x1)) := rfl
theorem i9 (x0 : Vec Ideal S512x2048 .f32) (x1 : Vec Ideal S8192x512 .f32) : (k4_pay179 (F := Ideal) x0 x1) = (heldI384 (dist384 (k4_pay154 (F := Ideal) x0 x1) (k4_pay155 (F := Ideal) x0 x1) (View.ld x1 r4_9)) 3072#32 (afterV8 x0 x1) (afterI8 x0 x1)) := rfl
theorem held9 (x0 : Vec Ideal S512x2048 .f32) (x1 : Vec Ideal S8192x512 .f32) (l : Fin 2048) : Vq.Held (rowDist x0 x1 l) (fun k => k < 3456) ((k4_pay178 (F := Ideal) x0 x1) (ix2 0 l)) ((k4_pay179 (F := Ideal) x0 x1) (ix2 0 l)) := by
  rw [v9, i9]
  exact step384 x0 x1 _ _ l (lanes x0 x1 l) (norms x0 x1 l) 3072 (by omega) _ (rows9 x1) _ _ (held8 x0 x1 l)
theorem v10 (x0 : Vec Ideal S512x2048 .f32) (x1 : Vec Ideal S8192x512 .f32) : (k4_pay180 (F := Ideal) x0 x1) = (heldV384 (dist384 (k4_pay154 (F := Ideal) x0 x1) (k4_pay155 (F := Ideal) x0 x1) (View.ld x1 r4_10)) 3456#32 (k4_pay178 (F := Ideal) x0 x1) (k4_pay179 (F := Ideal) x0 x1)) := rfl
theorem i10 (x0 : Vec Ideal S512x2048 .f32) (x1 : Vec Ideal S8192x512 .f32) : (k4_pay181 (F := Ideal) x0 x1) = (heldI384 (dist384 (k4_pay154 (F := Ideal) x0 x1) (k4_pay155 (F := Ideal) x0 x1) (View.ld x1 r4_10)) 3456#32 (k4_pay178 (F := Ideal) x0 x1) (k4_pay179 (F := Ideal) x0 x1)) := rfl
theorem held10 (x0 : Vec Ideal S512x2048 .f32) (x1 : Vec Ideal S8192x512 .f32) (l : Fin 2048) : Vq.Held (rowDist x0 x1 l) (fun k => k < 3840) ((k4_pay180 (F := Ideal) x0 x1) (ix2 0 l)) ((k4_pay181 (F := Ideal) x0 x1) (ix2 0 l)) := by
  rw [v10, i10]
  exact step384 x0 x1 _ _ l (lanes x0 x1 l) (norms x0 x1 l) 3456 (by omega) _ (rows10 x1) _ _ (held9 x0 x1 l)
theorem v11 (x0 : Vec Ideal S512x2048 .f32) (x1 : Vec Ideal S8192x512 .f32) : (k4_pay184 (F := Ideal) x0 x1) = (heldV384 (dist384 (k4_pay154 (F := Ideal) x0 x1) (k4_pay155 (F := Ideal) x0 x1) (View.ld x1 r4_11)) 3840#32 (k4_pay180 (F := Ideal) x0 x1) (k4_pay181 (F := Ideal) x0 x1)) := rfl
theorem i11 (x0 : Vec Ideal S512x2048 .f32) (x1 : Vec Ideal S8192x512 .f32) : (k4_pay185 (F := Ideal) x0 x1) = (heldI384 (dist384 (k4_pay154 (F := Ideal) x0 x1) (k4_pay155 (F := Ideal) x0 x1) (View.ld x1 r4_11)) 3840#32 (k4_pay180 (F := Ideal) x0 x1) (k4_pay181 (F := Ideal) x0 x1)) := rfl
theorem held11 (x0 : Vec Ideal S512x2048 .f32) (x1 : Vec Ideal S8192x512 .f32) (l : Fin 2048) : Vq.Held (rowDist x0 x1 l) (fun k => k < 4224) ((k4_pay184 (F := Ideal) x0 x1) (ix2 0 l)) ((k4_pay185 (F := Ideal) x0 x1) (ix2 0 l)) := by
  rw [v11, i11]
  exact step384 x0 x1 _ _ l (lanes x0 x1 l) (norms x0 x1 l) 3840 (by omega) _ (rows11 x1) _ _ (held10 x0 x1 l)
/-- What is held after run 12. -/
def afterV12 (x0 : Vec Ideal S512x2048 .f32) (x1 : Vec Ideal S8192x512 .f32) : FVec Ideal S1x2048 .f32 := (heldV384 (dist384 (k4_pay154 (F := Ideal) x0 x1) (k4_pay155 (F := Ideal) x0 x1) (View.ld x1 r4_12)) 4224#32 (k4_pay184 (F := Ideal) x0 x1) (k4_pay185 (F := Ideal) x0 x1))
def afterI12 (x0 : Vec Ideal S512x2048 .f32) (x1 : Vec Ideal S8192x512 .f32) : IVec S1x2048 32 := (heldI384 (dist384 (k4_pay154 (F := Ideal) x0 x1) (k4_pay155 (F := Ideal) x0 x1) (View.ld x1 r4_12)) 4224#32 (k4_pay184 (F := Ideal) x0 x1) (k4_pay185 (F := Ideal) x0 x1))
theorem v12 (x0 : Vec Ideal S512x2048 .f32) (x1 : Vec Ideal S8192x512 .f32) : (afterV12 x0 x1) = (heldV384 (dist384 (k4_pay154 (F := Ideal) x0 x1) (k4_pay155 (F := Ideal) x0 x1) (View.ld x1 r4_12)) 4224#32 (k4_pay184 (F := Ideal) x0 x1) (k4_pay185 (F := Ideal) x0 x1)) := rfl
theorem i12 (x0 : Vec Ideal S512x2048 .f32) (x1 : Vec Ideal S8192x512 .f32) : (afterI12 x0 x1) = (heldI384 (dist384 (k4_pay154 (F := Ideal) x0 x1) (k4_pay155 (F := Ideal) x0 x1) (View.ld x1 r4_12)) 4224#32 (k4_pay184 (F := Ideal) x0 x1) (k4_pay185 (F := Ideal) x0 x1)) := rfl
theorem held12 (x0 : Vec Ideal S512x2048 .f32) (x1 : Vec Ideal S8192x512 .f32) (l : Fin 2048) : Vq.Held (rowDist x0 x1 l) (fun k => k < 4608) ((afterV12 x0 x1) (ix2 0 l)) ((afterI12 x0 x1) (ix2 0 l)) := by
  rw [v12, i12]
  exact step384 x0 x1 _ _ l (lanes x0 x1 l) (norms x0 x1 l) 4224 (by omega) _ (rows12 x1) _ _ (held11 x0 x1 l)
theorem v13 (x0 : Vec Ideal S512x2048 .f32) (x1 : Vec Ideal S8192x512 .f32) : (k4_pay189 (F := Ideal) x0 x1) = (heldV384 (dist384 (k4_pay154 (F := Ideal) x0 x1) (k4_pay155 (F := Ideal) x0 x1) (View.ld x1 r4_13)) 4608#32 (afterV12 x0 x1) (afterI12 x0 x1)) := rfl
theorem i13 (x0 : Vec Ideal S512x2048 .f32) (x1 : Vec Ideal S8192x512 .f32) : (k4_pay190 (F := Ideal) x0 x1) = (heldI384 (dist384 (k4_pay154 (F := Ideal) x0 x1) (k4_pay155 (F := Ideal) x0 x1) (View.ld x1 r4_13)) 4608#32 (afterV12 x0 x1) (afterI12 x0 x1)) := rfl
theorem held13 (x0 : Vec Ideal S512x2048 .f32) (x1 : Vec Ideal S8192x512 .f32) (l : Fin 2048) : Vq.Held (rowDist x0 x1 l) (fun k => k < 4992) ((k4_pay189 (F := Ideal) x0 x1) (ix2 0 l)) ((k4_pay190 (F := Ideal) x0 x1) (ix2 0 l)) := by
  rw [v13, i13]
  exact step384 x0 x1 _ _ l (lanes x0 x1 l) (norms x0 x1 l) 4608 (by omega) _ (rows13 x1) _ _ (held12 x0 x1 l)
theorem v14 (x0 : Vec Ideal S512x2048 .f32) (x1 : Vec Ideal S8192x512 .f32) : (k4_pay191 (F := Ideal) x0 x1) = (heldV384 (dist384 (k4_pay154 (F := Ideal) x0 x1) (k4_pay155 (F := Ideal) x0 x1) (View.ld x1 r4_14)) 4992#32 (k4_pay189 (F := Ideal) x0 x1) (k4_pay190 (F := Ideal) x0 x1)) := rfl
theorem i14 (x0 : Vec Ideal S512x2048 .f32) (x1 : Vec Ideal S8192x512 .f32) : (k4_pay192 (F := Ideal) x0 x1) = (heldI384 (dist384 (k4_pay154 (F := Ideal) x0 x1) (k4_pay155 (F := Ideal) x0 x1) (View.ld x1 r4_14)) 4992#32 (k4_pay189 (F := Ideal) x0 x1) (k4_pay190 (F := Ideal) x0 x1)) := rfl
theorem held14 (x0 : Vec Ideal S512x2048 .f32) (x1 : Vec Ideal S8192x512 .f32) (l : Fin 2048) : Vq.Held (rowDist x0 x1 l) (fun k => k < 5376) ((k4_pay191 (F := Ideal) x0 x1) (ix2 0 l)) ((k4_pay192 (F := Ideal) x0 x1) (ix2 0 l)) := by
  rw [v14, i14]
  exact step384 x0 x1 _ _ l (lanes x0 x1 l) (norms x0 x1 l) 4992 (by omega) _ (rows14 x1) _ _ (held13 x0 x1 l)
theorem v15 (x0 : Vec Ideal S512x2048 .f32) (x1 : Vec Ideal S8192x512 .f32) : (k4_pay195 (F := Ideal) x0 x1) = (heldV384 (dist384 (k4_pay154 (F := Ideal) x0 x1) (k4_pay155 (F := Ideal) x0 x1) (View.ld x1 r4_15)) 5376#32 (k4_pay191 (F := Ideal) x0 x1) (k4_pay192 (F := Ideal) x0 x1)) := rfl
theorem i15 (x0 : Vec Ideal S512x2048 .f32) (x1 : Vec Ideal S8192x512 .f32) : (k4_pay196 (F := Ideal) x0 x1) = (heldI384 (dist384 (k4_pay154 (F := Ideal) x0 x1) (k4_pay155 (F := Ideal) x0 x1) (View.ld x1 r4_15)) 5376#32 (k4_pay191 (F := Ideal) x0 x1) (k4_pay192 (F := Ideal) x0 x1)) := rfl
theorem held15 (x0 : Vec Ideal S512x2048 .f32) (x1 : Vec Ideal S8192x512 .f32) (l : Fin 2048) : Vq.Held (rowDist x0 x1 l) (fun k => k < 5760) ((k4_pay195 (F := Ideal) x0 x1) (ix2 0 l)) ((k4_pay196 (F := Ideal) x0 x1) (ix2 0 l)) := by
  rw [v15, i15]
  exact step384 x0 x1 _ _ l (lanes x0 x1 l) (norms x0 x1 l) 5376 (by omega) _ (rows15 x1) _ _ (held14 x0 x1 l)
/-- What is held after run 16. -/
def afterV16 (x0 : Vec Ideal S512x2048 .f32) (x1 : Vec Ideal S8192x512 .f32) : FVec Ideal S1x2048 .f32 := (heldV384 (dist384 (k4_pay154 (F := Ideal) x0 x1) (k4_pay155 (F := Ideal) x0 x1) (View.ld x1 r4_16)) 5760#32 (k4_pay195 (F := Ideal) x0 x1) (k4_pay196 (F := Ideal) x0 x1))
def afterI16 (x0 : Vec Ideal S512x2048 .f32) (x1 : Vec Ideal S8192x512 .f32) : IVec S1x2048 32 := (heldI384 (dist384 (k4_pay154 (F := Ideal) x0 x1) (k4_pay155 (F := Ideal) x0 x1) (View.ld x1 r4_16)) 5760#32 (k4_pay195 (F := Ideal) x0 x1) (k4_pay196 (F := Ideal) x0 x1))
theorem v16 (x0 : Vec Ideal S512x2048 .f32) (x1 : Vec Ideal S8192x512 .f32) : (afterV16 x0 x1) = (heldV384 (dist384 (k4_pay154 (F := Ideal) x0 x1) (k4_pay155 (F := Ideal) x0 x1) (View.ld x1 r4_16)) 5760#32 (k4_pay195 (F := Ideal) x0 x1) (k4_pay196 (F := Ideal) x0 x1)) := rfl
theorem i16 (x0 : Vec Ideal S512x2048 .f32) (x1 : Vec Ideal S8192x512 .f32) : (afterI16 x0 x1) = (heldI384 (dist384 (k4_pay154 (F := Ideal) x0 x1) (k4_pay155 (F := Ideal) x0 x1) (View.ld x1 r4_16)) 5760#32 (k4_pay195 (F := Ideal) x0 x1) (k4_pay196 (F := Ideal) x0 x1)) := rfl
theorem held16 (x0 : Vec Ideal S512x2048 .f32) (x1 : Vec Ideal S8192x512 .f32) (l : Fin 2048) : Vq.Held (rowDist x0 x1 l) (fun k => k < 6144) ((afterV16 x0 x1) (ix2 0 l)) ((afterI16 x0 x1) (ix2 0 l)) := by
  rw [v16, i16]
  exact step384 x0 x1 _ _ l (lanes x0 x1 l) (norms x0 x1 l) 5760 (by omega) _ (rows16 x1) _ _ (held15 x0 x1 l)
theorem v17 (x0 : Vec Ideal S512x2048 .f32) (x1 : Vec Ideal S8192x512 .f32) : (k4_pay200 (F := Ideal) x0 x1) = (heldV384 (dist384 (k4_pay154 (F := Ideal) x0 x1) (k4_pay155 (F := Ideal) x0 x1) (View.ld x1 r4_17)) 6144#32 (afterV16 x0 x1) (afterI16 x0 x1)) := rfl
theorem i17 (x0 : Vec Ideal S512x2048 .f32) (x1 : Vec Ideal S8192x512 .f32) : (k4_pay201 (F := Ideal) x0 x1) = (heldI384 (dist384 (k4_pay154 (F := Ideal) x0 x1) (k4_pay155 (F := Ideal) x0 x1) (View.ld x1 r4_17)) 6144#32 (afterV16 x0 x1) (afterI16 x0 x1)) := rfl
theorem held17 (x0 : Vec Ideal S512x2048 .f32) (x1 : Vec Ideal S8192x512 .f32) (l : Fin 2048) : Vq.Held (rowDist x0 x1 l) (fun k => k < 6528) ((k4_pay200 (F := Ideal) x0 x1) (ix2 0 l)) ((k4_pay201 (F := Ideal) x0 x1) (ix2 0 l)) := by
  rw [v17, i17]
  exact step384 x0 x1 _ _ l (lanes x0 x1 l) (norms x0 x1 l) 6144 (by omega) _ (rows17 x1) _ _ (held16 x0 x1 l)
theorem v18 (x0 : Vec Ideal S512x2048 .f32) (x1 : Vec Ideal S8192x512 .f32) : (k4_pay202 (F := Ideal) x0 x1) = (heldV384 (dist384 (k4_pay154 (F := Ideal) x0 x1) (k4_pay155 (F := Ideal) x0 x1) (View.ld x1 r4_18)) 6528#32 (k4_pay200 (F := Ideal) x0 x1) (k4_pay201 (F := Ideal) x0 x1)) := rfl
theorem i18 (x0 : Vec Ideal S512x2048 .f32) (x1 : Vec Ideal S8192x512 .f32) : (k4_pay203 (F := Ideal) x0 x1) = (heldI384 (dist384 (k4_pay154 (F := Ideal) x0 x1) (k4_pay155 (F := Ideal) x0 x1) (View.ld x1 r4_18)) 6528#32 (k4_pay200 (F := Ideal) x0 x1) (k4_pay201 (F := Ideal) x0 x1)) := rfl
theorem held18 (x0 : Vec Ideal S512x2048 .f32) (x1 : Vec Ideal S8192x512 .f32) (l : Fin 2048) : Vq.Held (rowDist x0 x1 l) (fun k => k < 6912) ((k4_pay202 (F := Ideal) x0 x1) (ix2 0 l)) ((k4_pay203 (F := Ideal) x0 x1) (ix2 0 l)) := by
  rw [v18, i18]
  exact step384 x0 x1 _ _ l (lanes x0 x1 l) (norms x0 x1 l) 6528 (by omega) _ (rows18 x1) _ _ (held17 x0 x1 l)
theorem v19 (x0 : Vec Ideal S512x2048 .f32) (x1 : Vec Ideal S8192x512 .f32) : (k4_pay206 (F := Ideal) x0 x1) = (heldV384 (dist384 (k4_pay154 (F := Ideal) x0 x1) (k4_pay155 (F := Ideal) x0 x1) (View.ld x1 r4_19)) 6912#32 (k4_pay202 (F := Ideal) x0 x1) (k4_pay203 (F := Ideal) x0 x1)) := rfl
theorem i19 (x0 : Vec Ideal S512x2048 .f32) (x1 : Vec Ideal S8192x512 .f32) : (k4_pay207 (F := Ideal) x0 x1) = (heldI384 (dist384 (k4_pay154 (F := Ideal) x0 x1) (k4_pay155 (F := Ideal) x0 x1) (View.ld x1 r4_19)) 6912#32 (k4_pay202 (F := Ideal) x0 x1) (k4_pay203 (F := Ideal) x0 x1)) := rfl
theorem held19 (x0 : Vec Ideal S512x2048 .f32) (x1 : Vec Ideal S8192x512 .f32) (l : Fin 2048) : Vq.Held (rowDist x0 x1 l) (fun k => k < 7296) ((k4_pay206 (F := Ideal) x0 x1) (ix2 0 l)) ((k4_pay207 (F := Ideal) x0 x1) (ix2 0 l)) := by
  rw [v19, i19]
  exact step384 x0 x1 _ _ l (lanes x0 x1 l) (norms x0 x1 l) 6912 (by omega) _ (rows19 x1) _ _ (held18 x0 x1 l)
/-- What is held after run 20. -/
def afterV20 (x0 : Vec Ideal S512x2048 .f32) (x1 : Vec Ideal S8192x512 .f32) : FVec Ideal S1x2048 .f32 := (heldV384 (dist384 (k4_pay154 (F := Ideal) x0 x1) (k4_pay155 (F := Ideal) x0 x1) (View.ld x1 r4_20)) 7296#32 (k4_pay206 (F := Ideal) x0 x1) (k4_pay207 (F := Ideal) x0 x1))
def afterI20 (x0 : Vec Ideal S512x2048 .f32) (x1 : Vec Ideal S8192x512 .f32) : IVec S1x2048 32 := (heldI384 (dist384 (k4_pay154 (F := Ideal) x0 x1) (k4_pay155 (F := Ideal) x0 x1) (View.ld x1 r4_20)) 7296#32 (k4_pay206 (F := Ideal) x0 x1) (k4_pay207 (F := Ideal) x0 x1))
theorem v20 (x0 : Vec Ideal S512x2048 .f32) (x1 : Vec Ideal S8192x512 .f32) : (afterV20 x0 x1) = (heldV384 (dist384 (k4_pay154 (F := Ideal) x0 x1) (k4_pay155 (F := Ideal) x0 x1) (View.ld x1 r4_20)) 7296#32 (k4_pay206 (F := Ideal) x0 x1) (k4_pay207 (F := Ideal) x0 x1)) := rfl
theorem i20 (x0 : Vec Ideal S512x2048 .f32) (x1 : Vec Ideal S8192x512 .f32) : (afterI20 x0 x1) = (heldI384 (dist384 (k4_pay154 (F := Ideal) x0 x1) (k4_pay155 (F := Ideal) x0 x1) (View.ld x1 r4_20)) 7296#32 (k4_pay206 (F := Ideal) x0 x1) (k4_pay207 (F := Ideal) x0 x1)) := rfl
theorem held20 (x0 : Vec Ideal S512x2048 .f32) (x1 : Vec Ideal S8192x512 .f32) (l : Fin 2048) : Vq.Held (rowDist x0 x1 l) (fun k => k < 7680) ((afterV20 x0 x1) (ix2 0 l)) ((afterI20 x0 x1) (ix2 0 l)) := by
  rw [v20, i20]
  exact step384 x0 x1 _ _ l (lanes x0 x1 l) (norms x0 x1 l) 7296 (by omega) _ (rows20 x1) _ _ (held19 x0 x1 l)
/-- What is held after run 21. -/
def afterV21 (x0 : Vec Ideal S512x2048 .f32) (x1 : Vec Ideal S8192x512 .f32) : FVec Ideal S1x2048 .f32 := (heldV384 (dist384 (k4_pay154 (F := Ideal) x0 x1) (k4_pay155 (F := Ideal) x0 x1) (View.ld x1 r4_21)) 7680#32 (afterV20 x0 x1) (afterI20 x0 x1))
def afterI21 (x0 : Vec Ideal S512x2048 .f32) (x1 : Vec Ideal S8192x512 .f32) : IVec S1x2048 32 := (heldI384 (dist384 (k4_pay154 (F := Ideal) x0 x1) (k4_pay155 (F := Ideal) x0 x1) (View.ld x1 r4_21)) 7680#32 (afterV20 x0 x1) (afterI20 x0 x1))
theorem v21 (x0 : Vec Ideal S512x2048 .f32) (x1 : Vec Ideal S8192x512 .f32) : (afterV21 x0 x1) = (heldV384 (dist384 (k4_pay154 (F := Ideal) x0 x1) (k4_pay155 (F := Ideal) x0 x1) (View.ld x1 r4_21)) 7680#32 (afterV20 x0 x1) (afterI20 x0 x1)) := rfl
theorem i21 (x0 : Vec Ideal S512x2048 .f32) (x1 : Vec Ideal S8192x512 .f32) : (afterI21 x0 x1) = (heldI384 (dist384 (k4_pay154 (F := Ideal) x0 x1) (k4_pay155 (F := Ideal) x0 x1) (View.ld x1 r4_21)) 7680#32 (afterV20 x0 x1) (afterI20 x0 x1)) := rfl
theorem held21 (x0 : Vec Ideal S512x2048 .f32) (x1 : Vec Ideal S8192x512 .f32) (l : Fin 2048) : Vq.Held (rowDist x0 x1 l) (fun k => k < 8064) ((afterV21 x0 x1) (ix2 0 l)) ((afterI21 x0 x1) (ix2 0 l)) := by
  rw [v21, i21]
  exact step384 x0 x1 _ _ l (lanes x0 x1 l) (norms x0 x1 l) 7680 (by omega) _ (rows21 x1) _ _ (held20 x0 x1 l)
/-- The rows the body leaves. -/
def afterI22 (x0 : Vec Ideal S512x2048 .f32) (x1 : Vec Ideal S8192x512 .f32) : IVec S1x2048 32 := heldI128 (dist128 (k4_pay154 (F := Ideal) x0 x1) (k4_pay155 (F := Ideal) x0 x1) (View.ld x1 r4_22)) 8064#32 (afterV21 x0 x1) (afterI21 x0 x1)
theorem held22 (x0 : Vec Ideal S512x2048 .f32) (x1 : Vec Ideal S8192x512 .f32) (l : Fin 2048) : Vq.Held (rowDist x0 x1 l) (fun k => k < 8192) (heldV128 (dist128 (k4_pay154 (F := Ideal) x0 x1) (k4_pay155 (F := Ideal) x0 x1) (View.ld x1 r4_22)) 8064#32 (afterV21 x0 x1) (afterI21 x0 x1) (ix2 0 l)) (afterI22 x0 x1 (ix2 0 l)) :=
  step128 x0 x1 _ _ l (lanes x0 x1 l) (norms x0 x1 l) 8064 (by omega) _ (rows22 x1) _ _ (held21 x0 x1 l)
theorem left (x0 : Vec Ideal S512x2048 .f32) (x1 : Vec Ideal S8192x512 .f32) : out4_2 (F := Ideal) x0 x1 = View.canon [⟨r4_23, k4_pay1 (shapeCast S2048 (afterI22 x0 x1) shapeCasts_S1x2048_S2048)⟩] := rfl
theorem left_apply (x0 : Vec Ideal S512x2048 .f32) (x1 : Vec Ideal S8192x512 .f32) (l : Fin 2048) : out4_2 (F := Ideal) x0 x1 (ix3 0 0 l) = afterI22 x0 x1 (ix2 0 l) := by
  rw [left]
  frame_out
  pointwise [k4_pay1]
end Cert.KernelIdeal.Hand
-- ==== Proof.QuantRun.lean ====
module

public import proofs.«01_k».proof.Proof.Quant
public import proofs.«01_k».proof.Proof.Gen.KernelIdeal.Frame
public import Idealize.ShloMosaic.Lib.StableHlo.RunRead

/-! The quantiser call in the program: at every lane of every grid point, the first codebook row at the least distance. -/

@[expose] public section
set_option maxRecDepth 16384
noncomputable section
namespace Cert.KernelIdeal.Hand
open Cert.KernelIdeal Cert.KernelIdeal.Gen Idealize.ShloMosaic Idealize.ShloMosaic.TcCoe Idealize.SL.Sem Idealize.ShloMosaic.StableHlo
open Idealize.ShloMosaic.Pipeline (Dat)

variable (V : (c : Dev nD) → (b : Ref sig .tc) → Buf (Elt Ideal) ((c : Thread nD τ).loc b))

/-- The blocks the quantiser reads and writes at a grid point. -/
theorem idx4 : ∀ t : Fin cfg4.N, win4_0.index t = ![0, t.val] ∧ win4_1.index t = ![0, 0] ∧ win4_2.index t = ![t.val, 0, 0] :=
  (by decide +kernel : ∀ t : Fin grid4.N, _)

/-- The lanes of one grid point. -/
def laneBlk (X : Vec Ideal S512x4096 .f32) (t : Fin 2) : Vec Ideal S512x2048 .f32 := fun i =>
  X (ix2 (i 0) ⟨t.val * 2048 + (i 1).val, by have h := (i 1).isLt; have : S512x2048.size 1 = 2048 := rfl; have := t.isLt; omega⟩)

theorem arr4 (c : Dev nD) : (dat4 V c).arrAt 2 cfg4.N =
    (fun j => afterI22 (laneBlk (V c main_v72) (j 0)) (V c main_arg9) (ix2 0 (j 2)) : IVec S2x1x2048 32) := by
  refine (dat4 V c).arrAt_eq_of_covers 2 _ (by decide +kernel) fun t hf y => ?_
  blk_simp
  rw [after4_2]
  have hy : ∀ (z : S1x1x2048.Idx), z = ix3 0 0 (z 2) := fun z => by
    refine funext fun a => ?_
    fin_cases a
    · exact Subsingleton.elim (α := Fin 1) _ _
    · exact Subsingleton.elim (α := Fin 1) _ _
    · rfl
  have e0 : iblk4 V c 0 t = laneBlk (V c main_v72) ((win4_2.blk t).view.emb y 0) := by
    refine funext fun i => ?_
    unfold laneBlk
    blk_point [iblk4, idx4 t]
  have e1 : iblk4 V c 1 t = V c main_arg9 := by
    refine funext fun i => ?_
    blk_point [iblk4, idx4 t]
  rw [← e0, ← e1]
  refine ((congrArg (out4_2 (iblk4 V c 0 t) (iblk4 V c 1 t)) (hy y)).trans (left_apply _ _ (y 2))).trans ?_
  generalize afterI22 (iblk4 V c 0 t) (iblk4 V c 1 t) = A
  blk_point [idx4 t]

theorem out4 (m : (ℓ : Loc nD τ sig) → Buf (Elt Ideal) ℓ) (ρ : Dev nD → PrngReg) (c : Dev nD) :
    W22 m ρ c main_v73 = (fun j => afterI22 (laneBlk (W21 m ρ c main_v72) (j 0)) (W21 m ρ c main_arg9) (ix2 0 (j 2)) : IVec S2x1x2048 32) :=
  (W22_arr m ρ c 2).trans (arr4 (V21 m ρ) c)
theorem rowDist_laneBlk (X : Vec Ideal S512x4096 .f32) (cb : Vec Ideal S8192x512 .f32) (t : Fin 2) (l : Fin 2048) (h : t.val * 2048 + l.val < 4096) :
    rowDist (laneBlk X t) cb l = rowDist X cb ⟨t.val * 2048 + l.val, h⟩ := rfl

/-- The rows of the encoder's output, as columns. -/
def colsOf (X : FVec Ideal S4096x512 .f32) : FVec Ideal S512x4096 .f32 := transpose S512x4096 [1, 0] (shapeCast _ (shapeCast _ X shapeCasts_S4096x512_S4x32x32x512) shapeCasts_S4x32x32x512_S4096x512) transposes_S4096x512_S512x4096_1_0
/-- One code a vector. -/
def flat (X : IVec S2x1x2048 32) : IVec S4096 32 := shapeCast _ X shapeCasts_S2x1x2048_S4096
theorem colsOf_apply (X : FVec Ideal S4096x512 .f32) (x : Fin 512) (n : Fin 4096) : colsOf X (ix2 x n) = X (ix2 n x) := by
  unfold colsOf
  rw [shapeCast_shapeCast]
  pointwise []
theorem flat_apply (X : IVec S2x1x2048 32) (t : Fin 2) (l : Fin 2048) (h : t.val * 2048 + l.val < 4096) : flat X (ix1 ⟨t.val * 2048 + l.val, h⟩) = X (ix3 t 0 l) := by
  pointwise [flat]
theorem colsOf_read (V : Valuation τ sig (Elt Ideal)) : after hostOps4 V main_v72 = colsOf (V main_v69) := rfl
theorem flat_read (V : Valuation τ sig (Elt Ideal)) : after hostOps5 V main_v74 = flat (V main_v73) := rfl

/-- The code of a vector: a row at the least distance, no earlier row being as near. -/
theorem codes (m : (ℓ : Loc nD τ sig) → Buf (Elt Ideal) ℓ) (ρ : Dev nD → PrngReg) (c : Dev nD) (n : Fin 4096) :
    ∃ v, Vq.Held (rowDist (L := 4096) (colsOf (W20 m ρ c main_v69)) (m ((c : Thread nD τ).loc main_arg9)) n) (fun k => k < 8192) v
      ((W23 m ρ c main_v74 : IVec S4096 32) (ix1 n)) := by
  obtain ⟨t, l, h, rfl⟩ : ∃ (t : Fin 2) (l : Fin 2048) (h : t.val * 2048 + l.val < 4096), n = ⟨t.val * 2048 + l.val, h⟩ :=
    ⟨⟨n.val / 2048, by omega⟩, ⟨n.val % 2048, by omega⟩, by dsimp only; omega, Fin.ext (by dsimp only; omega)⟩
  have e1 : (W23 m ρ c main_v74 : IVec S4096 32) (ix1 ⟨t.val * 2048 + l.val, h⟩) = afterI22 (laneBlk (W21 m ρ c main_v72) t) (W21 m ρ c main_arg9) (ix2 0 l) := by
    refine (congrFun ((flat_read (W22 m ρ c)).trans (congrArg flat (out4 m ρ c))) _).trans ?_
    exact flat_apply _ t l h
  have e2 : (W21 m ρ c main_v72 : FVec Ideal S512x4096 .f32) = colsOf (W20 m ρ c main_v69) := colsOf_read (W20 m ρ c)
  rw [e1, ← e2]
  have e3 : W21 m ρ c main_arg9 = m ((c : Thread nD τ).loc main_arg9) := W21_args m ρ c main_arg9 (by decide)
  rw [e3]
  exact ⟨_, held22 (laneBlk (W21 m ρ c main_v72) t) (m ((c : Thread nD τ).loc main_arg9)) l⟩

end Cert.KernelIdeal.Hand
-- ==== Proof.MmEnc.lean ====
module

public import proofs.«01_k».proof.Proof.Gen.KernelIdeal.Frame
public import proofs.«01_k».proof.Proof.Conv
public import Idealize.ShloMosaic.Lib.Pipeline.ValueKit

/-! The matrix-product calls of one stage: each leaves, in every row and column of its result, the
product of its two operands there plus the bias, under the call's activation. -/

@[expose] public section
set_option maxRecDepth 16384
noncomputable section
namespace Cert.KernelIdeal.Hand
open Cert.KernelIdeal Cert.KernelIdeal.Gen Idealize.ShloMosaic Idealize.ShloMosaic.TcCoe Idealize.SL.Sem Idealize.ShloMosaic.StableHlo
open Idealize.ShloMosaic.Pipeline (Dat)

variable (V : (c : Dev nD) → (b : Ref sig .tc) → Buf (Elt Ideal) ((c : Thread nD τ).loc b))

/-- The blocks call 0 reads and writes at a grid point: rows by the point, the rest whole. -/
theorem idx0 : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- Call 0 over any operands. -/
theorem arr0 (c : Dev nD) : (dat0 V c).arrAt 3 cfg0.N =
    (fun j => max (Vq.mm (M := 262144) (K := 32) (N := 64) (V c main_v15) (V c main_v16) (V c main_v17) (j 0) (j 1)) 0 : FVec Ideal S262144x64 .f32) := by
  refine (dat0 V c).arrAt_eq_of_covers 3 _ (by decide +kernel) fun t hf y => ?_
  blk_simp
  rw [after0_3]
  frame_out
  pointwise [k0_pay1, Vq.mm]
  blk_point [iblk0, idx0 t]

/-- Call 0 in the program. -/
theorem out0 (m : (ℓ : Loc nD τ sig) → Buf (Elt Ideal) ℓ) (ρ : Dev nD → PrngReg) (c : Dev nD) :
    W8 m ρ c main_v18 = (fun j => max (Vq.mm (M := 262144) (K := 32) (N := 64) (W7 m ρ c main_v15) (W7 m ρ c main_v16) (W7 m ρ c main_v17) (j 0) (j 1)) 0 : FVec Ideal S262144x64 .f32) :=
  (W8_arr m ρ c 3).trans (arr0 (V7 m ρ) c)

/-- The blocks call 1 reads and writes at a grid point: rows by the point, the rest whole. -/
theorem idx1 : ∀ t : Fin cfg1.N, win1_0.index t = ![t.val, 0] ∧ win1_1.index t = ![0, 0] ∧ win1_2.index t = ![0, 0] ∧ win1_3.index t = ![t.val, 0] :=
  (by decide +kernel : ∀ t : Fin grid1.N, _)

/-- Call 1 over any operands. -/
theorem arr1 (c : Dev nD) : (dat1 V c).arrAt 3 cfg1.N =
    (fun j => max (Vq.mm (M := 65536) (K := 576) (N := 128) (V c main_v31) (V c main_v33) (V c main_v34) (j 0) (j 1)) 0 : FVec Ideal S65536x128 .f32) := by
  refine (dat1 V c).arrAt_eq_of_covers 3 _ (by decide +kernel) fun t hf y => ?_
  blk_simp
  rw [after1_3]
  frame_out
  pointwise [k1_pay1, Vq.mm]
  blk_point [iblk1, idx1 t]

/-- Call 1 in the program. -/
theorem out1 (m : (ℓ : Loc nD τ sig) → Buf (Elt Ideal) ℓ) (ρ : Dev nD → PrngReg) (c : Dev nD) :
    W12 m ρ c main_v35 = (fun j => max (Vq.mm (M := 65536) (K := 576) (N := 128) (W11 m ρ c main_v31) (W11 m ρ c main_v33) (W11 m ρ c main_v34) (j 0) (j 1)) 0 : FVec Ideal S65536x128 .f32) :=
  (W12_arr m ρ c 3).trans (arr1 (V11 m ρ) c)

/-- The blocks call 2 reads and writes at a grid point: rows by the point, the rest whole. -/
theorem idx2 : ∀ t : Fin cfg2.N, win2_0.index t = ![t.val, 0] ∧ win2_1.index t = ![0, 0] ∧ win2_2.index t = ![0, 0] ∧ win2_3.index t = ![t.val, 0] :=
  (by decide +kernel : ∀ t : Fin grid2.N, _)

/-- Call 2 over any operands. -/
theorem arr2 (c : Dev nD) : (dat2 V c).arrAt 3 cfg2.N =
    (fun j => max (Vq.mm (M := 16384) (K := 1152) (N := 256) (V c main_v48) (V c main_v50) (V c main_v51) (j 0) (j 1)) 0 : FVec Ideal S16384x256 .f32) := by
  refine (dat2 V c).arrAt_eq_of_covers 3 _ (by decide +kernel) fun t hf y => ?_
  blk_simp
  rw [after2_3]
  frame_out
  pointwise [k2_pay1, Vq.mm]
  blk_point [iblk2, idx2 t]

/-- Call 2 in the program. -/
theorem out2 (m : (ℓ : Loc nD τ sig) → Buf (Elt Ideal) ℓ) (ρ : Dev nD → PrngReg) (c : Dev nD) :
    W16 m ρ c main_v52 = (fun j => max (Vq.mm (M := 16384) (K := 1152) (N := 256) (W15 m ρ c main_v48) (W15 m ρ c main_v50) (W15 m ρ c main_v51) (j 0) (j 1)) 0 : FVec Ideal S16384x256 .f32) :=
  (W16_arr m ρ c 3).trans (arr2 (V15 m ρ) c)

/-- The blocks call 3 reads and writes at a grid point: rows by the point, the rest whole. -/
theorem idx3 : ∀ t : Fin cfg3.N, win3_0.index t = ![t.val, 0] ∧ win3_1.index t = ![0, 0] ∧ win3_2.index t = ![0, 0] ∧ win3_3.index t = ![t.val, 0] :=
  (by decide +kernel : ∀ t : Fin grid3.N, _)

/-- Call 3 over any operands. -/
theorem arr3 (c : Dev nD) : (dat3 V c).arrAt 3 cfg3.N =
    (fun j => Vq.mm (M := 4096) (K := 2304) (N := 512) (V c main_v65) (V c main_v67) (V c main_v68) (j 0) (j 1) : FVec Ideal S4096x512 .f32) := by
  refine (dat3 V c).arrAt_eq_of_covers 3 _ (by decide +kernel) fun t hf y => ?_
  blk_simp
  rw [after3_3]
  frame_out
  pointwise [k3_pay1, Vq.mm]
  blk_point [iblk3, idx3 t]

/-- Call 3 in the program. -/
theorem out3 (m : (ℓ : Loc nD τ sig) → Buf (Elt Ideal) ℓ) (ρ : Dev nD → PrngReg) (c : Dev nD) :
    W20 m ρ c main_v69 = (fun j => Vq.mm (M := 4096) (K := 2304) (N := 512) (W19 m ρ c main_v65) (W19 m ρ c main_v67) (W19 m ρ c main_v68) (j 0) (j 1) : FVec Ideal S4096x512 .f32) :=
  (W20_arr m ρ c 3).trans (arr3 (V19 m ρ) c)

end Cert.KernelIdeal.Hand
-- ==== Proof.ConvE1.lean ====
module
public import proofs.«01_k».proof.Proof.MmEnc
public import Idealize.ShloMosaic.Lib.StableHlo.RunRead
public import Idealize.ShloMosaic.Lib.KernelVsHost
public import Idealize.ShloMosaic.Lib.Tactic.IndexArith

/-! Call 0: the host stretch before it lays out the nine taps of each place, so the call leaves one convolution layer. -/

@[expose] public section
set_option maxRecDepth 16384
noncomputable section
namespace Cert.KernelIdeal.Hand
open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- The bordered image. -/
def padE1 (X : FVec Ideal S4x3x256x256 .f32) : FVec Ideal S4x258x258x3 .f32 := pad S4x258x258x3 ![0, 1, 1, 0] ![0, 1, 1, 0] ![0, 0, 0, 0] (transpose S4x256x256x3 [0, 2, 3, 1] X transposes_S4x3x256x256_S4x256x256x3_0_2_3_1) (sitofp .f32 (constantI S_ 32 0#32)) pads_S4x256x256x3_S4x258x258x3_000_110_110_000 h_S_
/-- The nine taps of each place, one after another. -/
def colsE1 (P : FVec Ideal S4x258x258x3 .f32) : FVec Ideal S262144x27 .f32 := shapeCast _ (concatenate S4x256x256x27 3 [⟨S4x256x256x3, (extractStridedSlice S4x256x256x3 ![0, 0, 0, 0] P slices_S4x258x258x3_S4x256x256x3_0_0_0_0)⟩, ⟨S4x256x256x3, (extractStridedSlice S4x256x256x3 ![0, 0, 1, 0] P slices_S4x258x258x3_S4x256x256x3_0_0_1_0)⟩, ⟨S4x256x256x3, (extractStridedSlice S4x256x256x3 ![0, 0, 2, 0] P slices_S4x258x258x3_S4x256x256x3_0_0_2_0)⟩, ⟨S4x256x256x3, (extractStridedSlice S4x256x256x3 ![0, 1, 0, 0] P slices_S4x258x258x3_S4x256x256x3_0_1_0_0)⟩, ⟨S4x256x256x3, (extractStridedSlice S4x256x256x3 ![0, 1, 1, 0] P slices_S4x258x258x3_S4x256x256x3_0_1_1_0)⟩, ⟨S4x256x256x3, (extractStridedSlice S4x256x256x3 ![0, 1, 2, 0] P slices_S4x258x258x3_S4x256x256x3_0_1_2_0)⟩, ⟨S4x256x256x3, (extractStridedSlice S4x256x256x3 ![0, 2, 0, 0] P slices_S4x258x258x3_S4x256x256x3_0_2_0_0)⟩, ⟨S4x256x256x3, (extractStridedSlice S4x256x256x3 ![0, 2, 1, 0] P slices_S4x258x258x3_S4x256x256x3_0_2_1_0)⟩, ⟨S4x256x256x3, (extractStridedSlice S4x256x256x3 ![0, 2, 2, 0] P slices_S4x258x258x3_S4x256x256x3_0_2_2_0)⟩] concatenates_S4x256x256x3_S4x256x256x3_S4x256x256x3_S4x256x256x3_S4x256x256x3_S4x256x256x3_S4x256x256x3_S4x256x256x3_S4x256x256x3_S4x256x256x27_d3) shapeCasts_S4x256x256x27_S262144x27
/-- The weights, tap by tap. -/
def wtsE1 (w : FVec Ideal S64x3x3x3 .f32) : FVec Ideal S27x64 .f32 := shapeCast _ (transpose S3x3x3x64 [2, 3, 1, 0] w transposes_S64x3x3x3_S3x3x3x64_2_3_1_0) shapeCasts_S3x3x3x64_S27x64
/-- The biases as one row. -/
def biasE1 (b : FVec Ideal S64 .f32) : FVec Ideal S1x64 .f32 := shapeCast _ b shapeCasts_S64_S1x64

theorem padE1_apply (X : FVec Ideal S4x3x256x256 .f32) (I : Fin 4 → Fin 256 → Fin 256 → Fin 3 → EReal)
    (hX : ∀ b y x c, X (ix4 b c y x) = I b y x c) (b : Fin 4) (i : Fin 258) (j : Fin 258) (c : Fin 3) :
    padE1 X (ix4 b i j c) = Vq.bord I b i j c := by
  unfold Vq.bord
  pointwise [padE1]
  split_ifs with h
  · exact hX b ⟨i.val - 1, h.1.2⟩ ⟨j.val - 1, h.2.2⟩ c
  · exact sitofp_zero

set_option maxHeartbeats 1000000 in
theorem colsE1_apply (P : FVec Ideal S4x258x258x3 .f32) (b : Fin 4) (y : Fin 256) (x : Fin 256) (t : Fin 9) (c : Fin 3) :
    colsE1 P (ix2 ⟨b.val * 65536 + y.val * 256 + x.val, by omega⟩ ⟨t.val * 3 + c.val, by omega⟩)
      = P (ix4 b ⟨1 * y.val + t.val / 3, by omega⟩ ⟨1 * x.val + t.val % 3, by omega⟩ c) := by
  have := c.isLt
  fin_cases t <;> pointwise [colsE1] <;> (try simp (disch := omega) only [dif_pos, dif_neg]) <;>
    exact congrArg P (Vq.ix4_eq (by first | (dsimp only; omega) | rfl) (by first | (dsimp only; omega) | rfl) (by first | (dsimp only; omega) | rfl) (by first | (dsimp only; omega) | rfl))

theorem wtsE1_apply (w : FVec Ideal S64x3x3x3 .f32) (o : Fin 64) (t : Fin 9) (c : Fin 3) :
    wtsE1 w (ix2 ⟨t.val * 3 + c.val, by omega⟩ o) = w (ix4 o c ⟨t.val / 3, by omega⟩ ⟨t.val % 3, by omega⟩) := by
  pointwise [wtsE1]
  exact congrArg w (Vq.ix4_eq rfl rfl (by dsimp only; omega) (by dsimp only; omega))

theorem biasE1_apply (b : FVec Ideal S64 .f32) (o : Fin 64) : biasE1 b (ix2 0 o) = b (ix1 o) := by
  pointwise [biasE1]

theorem padE1_read (V : Valuation τ sig (Elt Ideal)) :
    after hostOps0_1 (after hostOps0 V) main_v1 = padE1 (V main_arg0) := rfl
theorem colsE1_read (V : Valuation τ sig (Elt Ideal)) : after hostOps0_2 V main_v12 = colsE1 (V main_v1) := rfl
theorem wtsE1_read (V : Valuation τ sig (Elt Ideal)) : after hostOps0_2 V main_v14 = wtsE1 (V main_arg1) := rfl
theorem biasE1_read (V : Valuation τ sig (Elt Ideal)) : after hostOps0_6 V main_v17 = biasE1 (V main_arg2) := rfl

/-- The nine taps against the weights are the convolution. -/
theorem coreE1 (X : FVec Ideal S4x3x256x256 .f32) (w : FVec Ideal S64x3x3x3 .f32) (bs : FVec Ideal S64 .f32) (I : Fin 4 → Fin 256 → Fin 256 → Fin 3 → EReal)
    (hX : ∀ b y x c, X (ix4 b c y x) = I b y x c) (b : Fin 4) (y : Fin 256) (x : Fin 256) (o : Fin 64) :
    Vq.mm (M := 262144) (K := 27) (N := 64) (colsE1 (padE1 X)) (wtsE1 w) (biasE1 bs) ⟨b.val * 65536 + y.val * 256 + x.val, by omega⟩ o
      = Vq.convI (H' := 256) (W' := 256) 1 I (Vq.w4 w) (Vq.b1 bs) b y x o :=
  Vq.mm_conv 1 rfl _ _ _ _ o I (Vq.w4 w) (Vq.b1 bs) b y.val x.val o
    (fun t c' => (colsE1_apply _ b y x t c').trans (padE1_apply _ I hX b _ _ c')) (fun t c' => wtsE1_apply _ o t c') (biasE1_apply _ o)

theorem colsAtE1 (c : Dev nD) : W3 m ρ c main_v12 = colsE1 (padE1 (W0 m ρ c main_arg0)) :=
  (colsE1_read (W2 m ρ c)).trans (congrArg colsE1 (padE1_read (W0 m ρ c)))
theorem wtsAtE1 (c : Dev nD) : W3 m ρ c main_v14 = wtsE1 (m ((c : Thread nD τ).loc main_arg1)) :=
  (wtsE1_read (W2 m ρ c)).trans (congrArg wtsE1 (W2_args m ρ c main_arg1 (by decide)))
theorem biasAtE1 (c : Dev nD) : W7 m ρ c main_v17 = biasE1 (m ((c : Thread nD τ).loc main_arg2)) :=
  (biasE1_read (W6 m ρ c)).trans (congrArg biasE1 (W6_args m ρ c main_arg2 (by decide)))

/-- The taps with columns of zeros beside them. -/
def padAE1 (X : FVec Ideal S262144x27 .f32) : FVec Ideal S262144x32 .f32 := pad S262144x32 ![0, 0] ![0, 5] ![0, 0] X (sitofp .f32 ((constantI S_ 32 0#32))) pads_S262144x27_S262144x32_000_050 h_S_
/-- The weights with rows of zeros below them. -/
def padBE1 (X : FVec Ideal S27x64 .f32) : FVec Ideal S32x64 .f32 := pad S32x64 ![0, 0] ![5, 0] ![0, 0] X (sitofp .f32 (constantI S_ 32 0#32)) pads_S27x64_S32x64_050_000 h_S_
theorem padAE1_read (V : Valuation τ sig (Elt Ideal)) :
    after hostOps0_3 (after hostOps0_2 V) main_v15 = padAE1 (after hostOps0_2 V main_v12) := rfl
theorem padBE1_read (V : Valuation τ sig (Elt Ideal)) :
    after hostOps0_5 (after hostOps0_4 V) main_v16 = padBE1 (V main_v14) := rfl
theorem padAE1_apply (X : FVec Ideal S262144x27 .f32) (r : Fin 262144) (k : Fin 32) :
    padAE1 X (ix2 r k) = if h : k.val < 27 then X (ix2 r ⟨k.val, h⟩) else 0 := by
  pointwise [padAE1]
  split_ifs with h
  · rfl
  · exact sitofp_zero
theorem padBE1_apply (X : FVec Ideal S27x64 .f32) (k : Fin 32) (o : Fin 64) :
    padBE1 X (ix2 k o) = if h : k.val < 27 then X (ix2 ⟨k.val, h⟩ o) else 0 := by
  pointwise [padBE1]
  split_ifs with h
  · rfl
  · exact sitofp_zero
theorem padAAtE1 (c : Dev nD) : W7 m ρ c main_v15 = padAE1 (colsE1 (padE1 (W0 m ρ c main_arg0))) :=
  ((W7_of m ρ c main_v15 (by decide)).trans ((W6_of m ρ c main_v15 (by decide)).trans (W5_of m ρ c main_v15 (by decide)))).trans ((padAE1_read (W2 m ρ c)).trans (congrArg padAE1 (colsAtE1 m ρ c)))
theorem padBAtE1 (c : Dev nD) : W7 m ρ c main_v16 = padBE1 (wtsE1 (m ((c : Thread nD τ).loc main_arg1))) :=
  (W7_of m ρ c main_v16 (by decide)).trans ((padBE1_read (W4 m ρ c)).trans (congrArg padBE1 ((W4_of m ρ c main_v14 (by decide)).trans (wtsAtE1 m ρ c))))

/-- The columns and rows of zeros change nothing. -/
theorem padsE1 (A : FVec Ideal S262144x27 .f32) (B : FVec Ideal S27x64 .f32) (bs : FVec Ideal S1x64 .f32) (r : Fin 262144) (o : Fin 64) :
    Vq.mm (M := 262144) (K := 32) (N := 64) (padAE1 A) (padBE1 B) bs r o = Vq.mm (M := 262144) (K := 27) (N := 64) A B bs r o :=
  Vq.mm_pad 5 rfl A B _ _ bs r o (fun k => padAE1_apply A r k) (fun k => padBE1_apply B k o)

/-- The layer, over any image the operand holds. -/
theorem layerE1 (c : Dev nD) (I : Fin 4 → Fin 256 → Fin 256 → Fin 3 → EReal)
    (hX : ∀ (b : Fin 4) (y : Fin 256) (x : Fin 256) (c' : Fin 3), (W0 m ρ c main_arg0 : FVec Ideal S4x3x256x256 .f32) (ix4 b c' y x) = I b y x c')
    (b : Fin 4) (y : Fin 256) (x : Fin 256) (o : Fin 64) :
    (W8 m ρ c main_v18 : FVec Ideal S262144x64 .f32) (ix2 ⟨b.val * 65536 + y.val * 256 + x.val, by omega⟩ o)
      = Vq.relu (Vq.convI 1 I (Vq.w4 (m ((c : Thread nD τ).loc main_arg1) : FVec Ideal S64x3x3x3 .f32)) (Vq.b1 (m ((c : Thread nD τ).loc main_arg2) : FVec Ideal S64 .f32))) b y x o := by
  rw [out0 m ρ c]
  rw [padAAtE1, padBAtE1, biasAtE1]
  refine congrArg (max · (0 : EReal)) ?_
  exact (padsE1 _ _ _ _ _).trans (coreE1 _ _ _ I hX b y x o)

end Cert.KernelIdeal.Hand
-- ==== Proof.ConvE2.lean ====
module
public import proofs.«01_k».proof.Proof.MmEnc
public import Idealize.ShloMosaic.Lib.StableHlo.RunRead
public import Idealize.ShloMosaic.Lib.KernelVsHost
public import Idealize.ShloMosaic.Lib.Tactic.IndexArith

/-! Call 1: the host stretch before it lays out the nine taps of each place, so the call leaves one convolution layer. -/

@[expose] public section
set_option maxRecDepth 16384
noncomputable section
namespace Cert.KernelIdeal.Hand
open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- The bordered image. -/
def padE2 (X : FVec Ideal S262144x64 .f32) : FVec Ideal S4x258x258x64 .f32 := pad S4x258x258x64 ![0, 1, 1, 0] ![0, 1, 1, 0] ![0, 0, 0, 0] (shapeCast _ X shapeCasts_S262144x64_S4x256x256x64) (sitofp .f32 (constantI S_ 32 0#32)) pads_S4x256x256x64_S4x258x258x64_000_110_110_000 h_S_
/-- The nine taps of each place, one after another. -/
def colsE2 (P : FVec Ideal S4x258x258x64 .f32) : FVec Ideal S65536x576 .f32 := shapeCast _ (concatenate S4x128x128x576 3 [⟨S4x128x128x64, (Host.slice S4x128x128x64 ![0, 0, 0, 0] ![1, 2, 2, 1] P slicesBy_S4x258x258x64_S4x128x128x64_0s1_0s2_0s2_0s1)⟩, ⟨S4x128x128x64, (Host.slice S4x128x128x64 ![0, 0, 1, 0] ![1, 2, 2, 1] P slicesBy_S4x258x258x64_S4x128x128x64_0s1_0s2_1s2_0s1)⟩, ⟨S4x128x128x64, (Host.slice S4x128x128x64 ![0, 0, 2, 0] ![1, 2, 2, 1] P slicesBy_S4x258x258x64_S4x128x128x64_0s1_0s2_2s2_0s1)⟩, ⟨S4x128x128x64, (Host.slice S4x128x128x64 ![0, 1, 0, 0] ![1, 2, 2, 1] P slicesBy_S4x258x258x64_S4x128x128x64_0s1_1s2_0s2_0s1)⟩, ⟨S4x128x128x64, (Host.slice S4x128x128x64 ![0, 1, 1, 0] ![1, 2, 2, 1] P slicesBy_S4x258x258x64_S4x128x128x64_0s1_1s2_1s2_0s1)⟩, ⟨S4x128x128x64, (Host.slice S4x128x128x64 ![0, 1, 2, 0] ![1, 2, 2, 1] P slicesBy_S4x258x258x64_S4x128x128x64_0s1_1s2_2s2_0s1)⟩, ⟨S4x128x128x64, (Host.slice S4x128x128x64 ![0, 2, 0, 0] ![1, 2, 2, 1] P slicesBy_S4x258x258x64_S4x128x128x64_0s1_2s2_0s2_0s1)⟩, ⟨S4x128x128x64, (Host.slice S4x128x128x64 ![0, 2, 1, 0] ![1, 2, 2, 1] P slicesBy_S4x258x258x64_S4x128x128x64_0s1_2s2_1s2_0s1)⟩, ⟨S4x128x128x64, (Host.slice S4x128x128x64 ![0, 2, 2, 0] ![1, 2, 2, 1] P slicesBy_S4x258x258x64_S4x128x128x64_0s1_2s2_2s2_0s1)⟩] concatenates_S4x128x128x64_S4x128x128x64_S4x128x128x64_S4x128x128x64_S4x128x128x64_S4x128x128x64_S4x128x128x64_S4x128x128x64_S4x128x128x64_S4x128x128x576_d3) shapeCasts_S4x128x128x576_S65536x576
/-- The weights, tap by tap. -/
def wtsE2 (w : FVec Ideal S128x64x3x3 .f32) : FVec Ideal S576x128 .f32 := shapeCast _ (transpose S3x3x64x128 [2, 3, 1, 0] w transposes_S128x64x3x3_S3x3x64x128_2_3_1_0) shapeCasts_S3x3x64x128_S576x128
/-- The biases as one row. -/
def biasE2 (b : FVec Ideal S128 .f32) : FVec Ideal S1x128 .f32 := shapeCast _ b shapeCasts_S128_S1x128

theorem padE2_apply (X : FVec Ideal S262144x64 .f32) (I : Fin 4 → Fin 256 → Fin 256 → Fin 64 → EReal)
    (hX : ∀ b y x c, X (ix2 ⟨b.val * 65536 + y.val * 256 + x.val, by omega⟩ c) = I b y x c) (b : Fin 4) (i : Fin 258) (j : Fin 258) (c : Fin 64) :
    padE2 X (ix4 b i j c) = Vq.bord I b i j c := by
  unfold Vq.bord
  pointwise [padE2]
  split_ifs with h
  · exact hX b ⟨i.val - 1, h.1.2⟩ ⟨j.val - 1, h.2.2⟩ c
  · exact sitofp_zero

set_option maxHeartbeats 1000000 in
theorem colsE2_apply (P : FVec Ideal S4x258x258x64 .f32) (b : Fin 4) (y : Fin 128) (x : Fin 128) (t : Fin 9) (c : Fin 64) :
    colsE2 P (ix2 ⟨b.val * 16384 + y.val * 128 + x.val, by omega⟩ ⟨t.val * 64 + c.val, by omega⟩)
      = P (ix4 b ⟨2 * y.val + t.val / 3, by omega⟩ ⟨2 * x.val + t.val % 3, by omega⟩ c) := by
  have := c.isLt
  fin_cases t <;> pointwise [colsE2] <;> (try simp (disch := omega) only [dif_pos, dif_neg]) <;>
    exact congrArg P (Vq.ix4_eq (by first | (dsimp only; omega) | rfl) (by first | (dsimp only; omega) | rfl) (by first | (dsimp only; omega) | rfl) (by first | (dsimp only; omega) | rfl))

theorem wtsE2_apply (w : FVec Ideal S128x64x3x3 .f32) (o : Fin 128) (t : Fin 9) (c : Fin 64) :
    wtsE2 w (ix2 ⟨t.val * 64 + c.val, by omega⟩ o) = w (ix4 o c ⟨t.val / 3, by omega⟩ ⟨t.val % 3, by omega⟩) := by
  pointwise [wtsE2]
  exact congrArg w (Vq.ix4_eq rfl rfl (by dsimp only; omega) (by dsimp only; omega))

theorem biasE2_apply (b : FVec Ideal S128 .f32) (o : Fin 128) : biasE2 b (ix2 0 o) = b (ix1 o) := by
  pointwise [biasE2]

theorem padE2_read (V : Valuation τ sig (Elt Ideal)) :
    after hostOps1_1 (after hostOps1 V) main_v20 = padE2 (V main_v18) := rfl
theorem colsE2_read (V : Valuation τ sig (Elt Ideal)) : after hostOps1_2 V main_v31 = colsE2 (V main_v20) := rfl
theorem wtsE2_read (V : Valuation τ sig (Elt Ideal)) : after hostOps1_2 V main_v33 = wtsE2 (V main_arg3) := rfl
theorem biasE2_read (V : Valuation τ sig (Elt Ideal)) : after hostOps1_2 V main_v34 = biasE2 (V main_arg4) := rfl

theorem colsAtE2 (c : Dev nD) : W11 m ρ c main_v31 = colsE2 (padE2 (W8 m ρ c main_v18)) :=
  (colsE2_read (W10 m ρ c)).trans (congrArg colsE2 (padE2_read (W8 m ρ c)))
theorem wtsAtE2 (c : Dev nD) : W11 m ρ c main_v33 = wtsE2 (m ((c : Thread nD τ).loc main_arg3)) :=
  (wtsE2_read (W10 m ρ c)).trans (congrArg wtsE2 (W10_args m ρ c main_arg3 (by decide)))
theorem biasAtE2 (c : Dev nD) : W11 m ρ c main_v34 = biasE2 (m ((c : Thread nD τ).loc main_arg4)) :=
  (biasE2_read (W10 m ρ c)).trans (congrArg biasE2 (W10_args m ρ c main_arg4 (by decide)))

/-- The layer, over any image the operand holds. -/
theorem layerE2 (c : Dev nD) (I : Fin 4 → Fin 256 → Fin 256 → Fin 64 → EReal)
    (hX : ∀ (b : Fin 4) (y : Fin 256) (x : Fin 256) (c' : Fin 64), (W8 m ρ c main_v18 : FVec Ideal S262144x64 .f32) (ix2 ⟨b.val * 65536 + y.val * 256 + x.val, by omega⟩ c') = I b y x c')
    (b : Fin 4) (y : Fin 128) (x : Fin 128) (o : Fin 128) :
    (W12 m ρ c main_v35 : FVec Ideal S65536x128 .f32) (ix2 ⟨b.val * 16384 + y.val * 128 + x.val, by omega⟩ o)
      = Vq.relu (Vq.convI 2 I (Vq.w4 (m ((c : Thread nD τ).loc main_arg3) : FVec Ideal S128x64x3x3 .f32)) (Vq.b1 (m ((c : Thread nD τ).loc main_arg4) : FVec Ideal S128 .f32))) b y x o := by
  rw [out1 m ρ c]
  rw [colsAtE2, wtsAtE2, biasAtE2]
  refine congrArg (max · (0 : EReal)) ?_
  exact Vq.mm_conv 2 rfl (colsE2 (padE2 (W8 m ρ c main_v18))) (wtsE2 (m ((c : Thread nD τ).loc main_arg3))) (biasE2 (m ((c : Thread nD τ).loc main_arg4))) _ o I (Vq.w4 (m ((c : Thread nD τ).loc main_arg3) : FVec Ideal S128x64x3x3 .f32)) (Vq.b1 (m ((c : Thread nD τ).loc main_arg4) : FVec Ideal S128 .f32)) b y.val x.val o
    (fun t c' => (colsE2_apply _ b y x t c').trans (padE2_apply _ I hX b _ _ c')) (fun t c' => wtsE2_apply _ o t c') (biasE2_apply _ o)

end Cert.KernelIdeal.Hand
-- ==== Proof.ConvE3.lean ====
module
public import proofs.«01_k».proof.Proof.MmEnc
public import Idealize.ShloMosaic.Lib.StableHlo.RunRead
public import Idealize.ShloMosaic.Lib.KernelVsHost
public import Idealize.ShloMosaic.Lib.Tactic.IndexArith

/-! Call 2: the host stretch before it lays out the nine taps of each place, so the call leaves one convolution layer. -/

@[expose] public section
set_option maxRecDepth 16384
noncomputable section
namespace Cert.KernelIdeal.Hand
open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- The bordered image. -/
def padE3 (X : FVec Ideal S65536x128 .f32) : FVec Ideal S4x130x130x128 .f32 := pad S4x130x130x128 ![0, 1, 1, 0] ![0, 1, 1, 0] ![0, 0, 0, 0] (shapeCast _ X shapeCasts_S65536x128_S4x128x128x128) (sitofp .f32 (constantI S_ 32 0#32)) pads_S4x128x128x128_S4x130x130x128_000_110_110_000 h_S_
/-- The nine taps of each place, one after another. -/
def colsE3 (P : FVec Ideal S4x130x130x128 .f32) : FVec Ideal S16384x1152 .f32 := shapeCast _ (concatenate S4x64x64x1152 3 [⟨S4x64x64x128, (Host.slice S4x64x64x128 ![0, 0, 0, 0] ![1, 2, 2, 1] P slicesBy_S4x130x130x128_S4x64x64x128_0s1_0s2_0s2_0s1)⟩, ⟨S4x64x64x128, (Host.slice S4x64x64x128 ![0, 0, 1, 0] ![1, 2, 2, 1] P slicesBy_S4x130x130x128_S4x64x64x128_0s1_0s2_1s2_0s1)⟩, ⟨S4x64x64x128, (Host.slice S4x64x64x128 ![0, 0, 2, 0] ![1, 2, 2, 1] P slicesBy_S4x130x130x128_S4x64x64x128_0s1_0s2_2s2_0s1)⟩, ⟨S4x64x64x128, (Host.slice S4x64x64x128 ![0, 1, 0, 0] ![1, 2, 2, 1] P slicesBy_S4x130x130x128_S4x64x64x128_0s1_1s2_0s2_0s1)⟩, ⟨S4x64x64x128, (Host.slice S4x64x64x128 ![0, 1, 1, 0] ![1, 2, 2, 1] P slicesBy_S4x130x130x128_S4x64x64x128_0s1_1s2_1s2_0s1)⟩, ⟨S4x64x64x128, (Host.slice S4x64x64x128 ![0, 1, 2, 0] ![1, 2, 2, 1] P slicesBy_S4x130x130x128_S4x64x64x128_0s1_1s2_2s2_0s1)⟩, ⟨S4x64x64x128, (Host.slice S4x64x64x128 ![0, 2, 0, 0] ![1, 2, 2, 1] P slicesBy_S4x130x130x128_S4x64x64x128_0s1_2s2_0s2_0s1)⟩, ⟨S4x64x64x128, (Host.slice S4x64x64x128 ![0, 2, 1, 0] ![1, 2, 2, 1] P slicesBy_S4x130x130x128_S4x64x64x128_0s1_2s2_1s2_0s1)⟩, ⟨S4x64x64x128, (Host.slice S4x64x64x128 ![0, 2, 2, 0] ![1, 2, 2, 1] P slicesBy_S4x130x130x128_S4x64x64x128_0s1_2s2_2s2_0s1)⟩] concatenates_S4x64x64x128_S4x64x64x128_S4x64x64x128_S4x64x64x128_S4x64x64x128_S4x64x64x128_S4x64x64x128_S4x64x64x128_S4x64x64x128_S4x64x64x1152_d3) shapeCasts_S4x64x64x1152_S16384x1152
/-- The weights, tap by tap. -/
def wtsE3 (w : FVec Ideal S256x128x3x3 .f32) : FVec Ideal S1152x256 .f32 := shapeCast _ (transpose S3x3x128x256 [2, 3, 1, 0] w transposes_S256x128x3x3_S3x3x128x256_2_3_1_0) shapeCasts_S3x3x128x256_S1152x256
/-- The biases as one row. -/
def biasE3 (b : FVec Ideal S256 .f32) : FVec Ideal S1x256 .f32 := shapeCast _ b shapeCasts_S256_S1x256

theorem padE3_apply (X : FVec Ideal S65536x128 .f32) (I : Fin 4 → Fin 128 → Fin 128 → Fin 128 → EReal)
    (hX : ∀ b y x c, X (ix2 ⟨b.val * 16384 + y.val * 128 + x.val, by omega⟩ c) = I b y x c) (b : Fin 4) (i : Fin 130) (j : Fin 130) (c : Fin 128) :
    padE3 X (ix4 b i j c) = Vq.bord I b i j c := by
  unfold Vq.bord
  pointwise [padE3]
  split_ifs with h
  · exact hX b ⟨i.val - 1, h.1.2⟩ ⟨j.val - 1, h.2.2⟩ c
  · exact sitofp_zero

set_option maxHeartbeats 1000000 in
theorem colsE3_apply (P : FVec Ideal S4x130x130x128 .f32) (b : Fin 4) (y : Fin 64) (x : Fin 64) (t : Fin 9) (c : Fin 128) :
    colsE3 P (ix2 ⟨b.val * 4096 + y.val * 64 + x.val, by omega⟩ ⟨t.val * 128 + c.val, by omega⟩)
      = P (ix4 b ⟨2 * y.val + t.val / 3, by omega⟩ ⟨2 * x.val + t.val % 3, by omega⟩ c) := by
  have := c.isLt
  fin_cases t <;> pointwise [colsE3] <;> (try simp (disch := omega) only [dif_pos, dif_neg]) <;>
    exact congrArg P (Vq.ix4_eq (by first | (dsimp only; omega) | rfl) (by first | (dsimp only; omega) | rfl) (by first | (dsimp only; omega) | rfl) (by first | (dsimp only; omega) | rfl))

theorem wtsE3_apply (w : FVec Ideal S256x128x3x3 .f32) (o : Fin 256) (t : Fin 9) (c : Fin 128) :
    wtsE3 w (ix2 ⟨t.val * 128 + c.val, by omega⟩ o) = w (ix4 o c ⟨t.val / 3, by omega⟩ ⟨t.val % 3, by omega⟩) := by
  pointwise [wtsE3]
  exact congrArg w (Vq.ix4_eq rfl rfl (by dsimp only; omega) (by dsimp only; omega))

theorem biasE3_apply (b : FVec Ideal S256 .f32) (o : Fin 256) : biasE3 b (ix2 0 o) = b (ix1 o) := by
  pointwise [biasE3]

theorem padE3_read (V : Valuation τ sig (Elt Ideal)) :
    after hostOps2_1 (after hostOps2 V) main_v37 = padE3 (V main_v35) := rfl
theorem colsE3_read (V : Valuation τ sig (Elt Ideal)) : after hostOps2_2 V main_v48 = colsE3 (V main_v37) := rfl
theorem wtsE3_read (V : Valuation τ sig (Elt Ideal)) : after hostOps2_2 V main_v50 = wtsE3 (V main_arg5) := rfl
theorem biasE3_read (V : Valuation τ sig (Elt Ideal)) : after hostOps2_2 V main_v51 = biasE3 (V main_arg6) := rfl

theorem colsAtE3 (c : Dev nD) : W15 m ρ c main_v48 = colsE3 (padE3 (W12 m ρ c main_v35)) :=
  (colsE3_read (W14 m ρ c)).trans (congrArg colsE3 (padE3_read (W12 m ρ c)))
theorem wtsAtE3 (c : Dev nD) : W15 m ρ c main_v50 = wtsE3 (m ((c : Thread nD τ).loc main_arg5)) :=
  (wtsE3_read (W14 m ρ c)).trans (congrArg wtsE3 (W14_args m ρ c main_arg5 (by decide)))
theorem biasAtE3 (c : Dev nD) : W15 m ρ c main_v51 = biasE3 (m ((c : Thread nD τ).loc main_arg6)) :=
  (biasE3_read (W14 m ρ c)).trans (congrArg biasE3 (W14_args m ρ c main_arg6 (by decide)))

/-- The layer, over any image the operand holds. -/
theorem layerE3 (c : Dev nD) (I : Fin 4 → Fin 128 → Fin 128 → Fin 128 → EReal)
    (hX : ∀ (b : Fin 4) (y : Fin 128) (x : Fin 128) (c' : Fin 128), (W12 m ρ c main_v35 : FVec Ideal S65536x128 .f32) (ix2 ⟨b.val * 16384 + y.val * 128 + x.val, by omega⟩ c') = I b y x c')
    (b : Fin 4) (y : Fin 64) (x : Fin 64) (o : Fin 256) :
    (W16 m ρ c main_v52 : FVec Ideal S16384x256 .f32) (ix2 ⟨b.val * 4096 + y.val * 64 + x.val, by omega⟩ o)
      = Vq.relu (Vq.convI 2 I (Vq.w4 (m ((c : Thread nD τ).loc main_arg5) : FVec Ideal S256x128x3x3 .f32)) (Vq.b1 (m ((c : Thread nD τ).loc main_arg6) : FVec Ideal S256 .f32))) b y x o := by
  rw [out2 m ρ c]
  rw [colsAtE3, wtsAtE3, biasAtE3]
  refine congrArg (max · (0 : EReal)) ?_
  exact Vq.mm_conv 2 rfl (colsE3 (padE3 (W12 m ρ c main_v35))) (wtsE3 (m ((c : Thread nD τ).loc main_arg5))) (biasE3 (m ((c : Thread nD τ).loc main_arg6))) _ o I (Vq.w4 (m ((c : Thread nD τ).loc main_arg5) : FVec Ideal S256x128x3x3 .f32)) (Vq.b1 (m ((c : Thread nD τ).loc main_arg6) : FVec Ideal S256 .f32)) b y.val x.val o
    (fun t c' => (colsE3_apply _ b y x t c').trans (padE3_apply _ I hX b _ _ c')) (fun t c' => wtsE3_apply _ o t c') (biasE3_apply _ o)

end Cert.KernelIdeal.Hand
-- ==== Proof.ConvE4.lean ====
module
public import proofs.«01_k».proof.Proof.MmEnc
public import Idealize.ShloMosaic.Lib.StableHlo.RunRead
public import Idealize.ShloMosaic.Lib.KernelVsHost
public import Idealize.ShloMosaic.Lib.Tactic.IndexArith

/-! Call 3: the host stretch before it lays out the nine taps of each place, so the call leaves one convolution layer. -/

@[expose] public section
set_option maxRecDepth 16384
noncomputable section
namespace Cert.KernelIdeal.Hand
open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- The bordered image. -/
def padE4 (X : FVec Ideal S16384x256 .f32) : FVec Ideal S4x66x66x256 .f32 := pad S4x66x66x256 ![0, 1, 1, 0] ![0, 1, 1, 0] ![0, 0, 0, 0] (shapeCast _ X shapeCasts_S16384x256_S4x64x64x256) (sitofp .f32 (constantI S_ 32 0#32)) pads_S4x64x64x256_S4x66x66x256_000_110_110_000 h_S_
/-- The nine taps of each place, one after another. -/
def colsE4 (P : FVec Ideal S4x66x66x256 .f32) : FVec Ideal S4096x2304 .f32 := shapeCast _ (concatenate S4x32x32x2304 3 [⟨S4x32x32x256, (Host.slice S4x32x32x256 ![0, 0, 0, 0] ![1, 2, 2, 1] P slicesBy_S4x66x66x256_S4x32x32x256_0s1_0s2_0s2_0s1)⟩, ⟨S4x32x32x256, (Host.slice S4x32x32x256 ![0, 0, 1, 0] ![1, 2, 2, 1] P slicesBy_S4x66x66x256_S4x32x32x256_0s1_0s2_1s2_0s1)⟩, ⟨S4x32x32x256, (Host.slice S4x32x32x256 ![0, 0, 2, 0] ![1, 2, 2, 1] P slicesBy_S4x66x66x256_S4x32x32x256_0s1_0s2_2s2_0s1)⟩, ⟨S4x32x32x256, (Host.slice S4x32x32x256 ![0, 1, 0, 0] ![1, 2, 2, 1] P slicesBy_S4x66x66x256_S4x32x32x256_0s1_1s2_0s2_0s1)⟩, ⟨S4x32x32x256, (Host.slice S4x32x32x256 ![0, 1, 1, 0] ![1, 2, 2, 1] P slicesBy_S4x66x66x256_S4x32x32x256_0s1_1s2_1s2_0s1)⟩, ⟨S4x32x32x256, (Host.slice S4x32x32x256 ![0, 1, 2, 0] ![1, 2, 2, 1] P slicesBy_S4x66x66x256_S4x32x32x256_0s1_1s2_2s2_0s1)⟩, ⟨S4x32x32x256, (Host.slice S4x32x32x256 ![0, 2, 0, 0] ![1, 2, 2, 1] P slicesBy_S4x66x66x256_S4x32x32x256_0s1_2s2_0s2_0s1)⟩, ⟨S4x32x32x256, (Host.slice S4x32x32x256 ![0, 2, 1, 0] ![1, 2, 2, 1] P slicesBy_S4x66x66x256_S4x32x32x256_0s1_2s2_1s2_0s1)⟩, ⟨S4x32x32x256, (Host.slice S4x32x32x256 ![0, 2, 2, 0] ![1, 2, 2, 1] P slicesBy_S4x66x66x256_S4x32x32x256_0s1_2s2_2s2_0s1)⟩] concatenates_S4x32x32x256_S4x32x32x256_S4x32x32x256_S4x32x32x256_S4x32x32x256_S4x32x32x256_S4x32x32x256_S4x32x32x256_S4x32x32x256_S4x32x32x2304_d3) shapeCasts_S4x32x32x2304_S4096x2304
/-- The weights, tap by tap. -/
def wtsE4 (w : FVec Ideal S512x256x3x3 .f32) : FVec Ideal S2304x512 .f32 := shapeCast _ (transpose S3x3x256x512 [2, 3, 1, 0] w transposes_S512x256x3x3_S3x3x256x512_2_3_1_0) shapeCasts_S3x3x256x512_S2304x512
/-- The biases as one row. -/
def biasE4 (b : FVec Ideal S512 .f32) : FVec Ideal S1x512 .f32 := shapeCast _ b shapeCasts_S512_S1x512

theorem padE4_apply (X : FVec Ideal S16384x256 .f32) (I : Fin 4 → Fin 64 → Fin 64 → Fin 256 → EReal)
    (hX : ∀ b y x c, X (ix2 ⟨b.val * 4096 + y.val * 64 + x.val, by omega⟩ c) = I b y x c) (b : Fin 4) (i : Fin 66) (j : Fin 66) (c : Fin 256) :
    padE4 X (ix4 b i j c) = Vq.bord I b i j c := by
  unfold Vq.bord
  pointwise [padE4]
  split_ifs with h
  · exact hX b ⟨i.val - 1, h.1.2⟩ ⟨j.val - 1, h.2.2⟩ c
  · exact sitofp_zero

set_option maxHeartbeats 1000000 in
theorem colsE4_apply (P : FVec Ideal S4x66x66x256 .f32) (b : Fin 4) (y : Fin 32) (x : Fin 32) (t : Fin 9) (c : Fin 256) :
    colsE4 P (ix2 ⟨b.val * 1024 + y.val * 32 + x.val, by omega⟩ ⟨t.val * 256 + c.val, by omega⟩)
      = P (ix4 b ⟨2 * y.val + t.val / 3, by omega⟩ ⟨2 * x.val + t.val % 3, by omega⟩ c) := by
  have := c.isLt
  fin_cases t <;> pointwise [colsE4] <;> (try simp (disch := omega) only [dif_pos, dif_neg]) <;>
    exact congrArg P (Vq.ix4_eq (by first | (dsimp only; omega) | rfl) (by first | (dsimp only; omega) | rfl) (by first | (dsimp only; omega) | rfl) (by first | (dsimp only; omega) | rfl))

theorem wtsE4_apply (w : FVec Ideal S512x256x3x3 .f32) (o : Fin 512) (t : Fin 9) (c : Fin 256) :
    wtsE4 w (ix2 ⟨t.val * 256 + c.val, by omega⟩ o) = w (ix4 o c ⟨t.val / 3, by omega⟩ ⟨t.val % 3, by omega⟩) := by
  pointwise [wtsE4]
  exact congrArg w (Vq.ix4_eq rfl rfl (by dsimp only; omega) (by dsimp only; omega))

theorem biasE4_apply (b : FVec Ideal S512 .f32) (o : Fin 512) : biasE4 b (ix2 0 o) = b (ix1 o) := by
  pointwise [biasE4]

theorem padE4_read (V : Valuation τ sig (Elt Ideal)) :
    after hostOps3_1 (after hostOps3 V) main_v54 = padE4 (V main_v52) := rfl
theorem colsE4_read (V : Valuation τ sig (Elt Ideal)) : after hostOps3_2 V main_v65 = colsE4 (V main_v54) := rfl
theorem wtsE4_read (V : Valuation τ sig (Elt Ideal)) : after hostOps3_2 V main_v67 = wtsE4 (V main_arg7) := rfl
theorem biasE4_read (V : Valuation τ sig (Elt Ideal)) : after hostOps3_2 V main_v68 = biasE4 (V main_arg8) := rfl

theorem colsAtE4 (c : Dev nD) : W19 m ρ c main_v65 = colsE4 (padE4 (W16 m ρ c main_v52)) :=
  (colsE4_read (W18 m ρ c)).trans (congrArg colsE4 (padE4_read (W16 m ρ c)))
theorem wtsAtE4 (c : Dev nD) : W19 m ρ c main_v67 = wtsE4 (m ((c : Thread nD τ).loc main_arg7)) :=
  (wtsE4_read (W18 m ρ c)).trans (congrArg wtsE4 (W18_args m ρ c main_arg7 (by decide)))
theorem biasAtE4 (c : Dev nD) : W19 m ρ c main_v68 = biasE4 (m ((c : Thread nD τ).loc main_arg8)) :=
  (biasE4_read (W18 m ρ c)).trans (congrArg biasE4 (W18_args m ρ c main_arg8 (by decide)))

/-- The layer, over any image the operand holds. -/
theorem layerE4 (c : Dev nD) (I : Fin 4 → Fin 64 → Fin 64 → Fin 256 → EReal)
    (hX : ∀ (b : Fin 4) (y : Fin 64) (x : Fin 64) (c' : Fin 256), (W16 m ρ c main_v52 : FVec Ideal S16384x256 .f32) (ix2 ⟨b.val * 4096 + y.val * 64 + x.val, by omega⟩ c') = I b y x c')
    (b : Fin 4) (y : Fin 32) (x : Fin 32) (o : Fin 512) :
    (W20 m ρ c main_v69 : FVec Ideal S4096x512 .f32) (ix2 ⟨b.val * 1024 + y.val * 32 + x.val, by omega⟩ o)
      = Vq.convI 2 I (Vq.w4 (m ((c : Thread nD τ).loc main_arg7) : FVec Ideal S512x256x3x3 .f32)) (Vq.b1 (m ((c : Thread nD τ).loc main_arg8) : FVec Ideal S512 .f32)) b y x o := by
  rw [out3 m ρ c]
  rw [colsAtE4, wtsAtE4, biasAtE4]

  exact Vq.mm_conv 2 rfl (colsE4 (padE4 (W16 m ρ c main_v52))) (wtsE4 (m ((c : Thread nD τ).loc main_arg7))) (biasE4 (m ((c : Thread nD τ).loc main_arg8))) _ o I (Vq.w4 (m ((c : Thread nD τ).loc main_arg7) : FVec Ideal S512x256x3x3 .f32)) (Vq.b1 (m ((c : Thread nD τ).loc main_arg8) : FVec Ideal S512 .f32)) b y.val x.val o
    (fun t c' => (colsE4_apply _ b y x t c').trans (padE4_apply _ I hX b _ _ c')) (fun t c' => wtsE4_apply _ o t c') (biasE4_apply _ o)

end Cert.KernelIdeal.Hand
-- ==== Proof.KFinal.lean ====
module
public import proofs.«01_k».proof.Proof.Spec
public import proofs.«01_k».proof.Proof.QuantRun
public import proofs.«01_k».proof.Proof.ConvE1
public import proofs.«01_k».proof.Proof.ConvE2
public import proofs.«01_k».proof.Proof.ConvE3
public import proofs.«01_k».proof.Proof.ConvE4

/-! What the kernel program leaves before its last call. -/

@[expose] public section
set_option maxRecDepth 16384
noncomputable section
namespace Cert.KernelIdeal.Hand
open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- The encoder's image. -/
def encK (c : Dev nD) : Fin 4 → Fin 32 → Fin 32 → Fin 512 → EReal :=
  Vq.encoded (m ((c : Thread nD τ).loc main_arg0) : FVec Ideal S4x3x256x256 .f32) (m ((c : Thread nD τ).loc main_arg1) : FVec Ideal S64x3x3x3 .f32) (m ((c : Thread nD τ).loc main_arg2) : FVec Ideal S64 .f32) (m ((c : Thread nD τ).loc main_arg3) : FVec Ideal S128x64x3x3 .f32) (m ((c : Thread nD τ).loc main_arg4) : FVec Ideal S128 .f32) (m ((c : Thread nD τ).loc main_arg5) : FVec Ideal S256x128x3x3 .f32) (m ((c : Thread nD τ).loc main_arg6) : FVec Ideal S256 .f32) (m ((c : Thread nD τ).loc main_arg7) : FVec Ideal S512x256x3x3 .f32) (m ((c : Thread nD τ).loc main_arg8) : FVec Ideal S512 .f32)

/-- The rows the quantiser reads are the encoder's image. -/
theorem enc_rows (c : Dev nD) (b : Fin 4) (y x : Fin 32) (o : Fin 512) :
    (W20 m ρ c main_v69 : FVec Ideal S4096x512 .f32) (ix2 ⟨b.val * 1024 + y.val * 32 + x.val, by omega⟩ o) = encK m c b y x o :=
  layerE4 m ρ c _ (layerE3 m ρ c _ (layerE2 m ρ c _ (layerE1 m ρ c (Vq.img (m ((c : Thread nD τ).loc main_arg0) : FVec Ideal S4x3x256x256 .f32)) (fun _ _ _ _ => rfl)))) b y x o

end Cert.KernelIdeal.Hand
-- ==== Proof.RefFacts.lean ====
module
public import proofs.«01_k».proof.ReferenceIdeal
public import Idealize.ShloMosaic.Lib.Decide

/-! The side conditions that the reference program states. -/

@[expose] public section
set_option synthInstance.maxSize 4096
namespace Cert.ReferenceIdeal.Hand
open Cert.ReferenceIdeal Idealize.ShloMosaic Idealize.SL.Sem

/-- A side condition of the reference program. -/
theorem pads_S4x3x256x256_S4x3x258x258_000_000_110_110 : S4x3x256x256.Pads (![0, 0, 1, 1] : Fin 4 → Nat) ![0, 0, 1, 1] ![0, 0, 0, 0] S4x3x258x258 := by decide
/-- A side condition of the reference program. -/
theorem h_S_ : 0 < S_.numel := by decide
/-- A side condition of the reference program. -/
theorem slices_S64x3x3x4x258x258_S64x1x1x4x256x256_0_0_0_0_0_0 : S64x3x3x4x258x258.Slices ![0, 0, 0, 0, 0, 0] S64x1x1x4x256x256 := by decide
/-- A side condition of the reference program. -/
theorem shapeCasts_S64x1x1x4x256x256_S64x4x256x256 : S64x1x1x4x256x256.ShapeCasts S64x4x256x256 := by decide
/-- A side condition of the reference program. -/
theorem slices_S64x3x3x4x258x258_S64x1x1x4x256x256_0_0_1_0_0_1 : S64x3x3x4x258x258.Slices ![0, 0, 1, 0, 0, 1] S64x1x1x4x256x256 := by decide
/-- A side condition of the reference program. -/
theorem slices_S64x3x3x4x258x258_S64x1x1x4x256x256_0_0_2_0_0_2 : S64x3x3x4x258x258.Slices ![0, 0, 2, 0, 0, 2] S64x1x1x4x256x256 := by decide
/-- A side condition of the reference program. -/
theorem slices_S64x3x3x4x258x258_S64x1x1x4x256x256_0_1_0_0_1_0 : S64x3x3x4x258x258.Slices ![0, 1, 0, 0, 1, 0] S64x1x1x4x256x256 := by decide
/-- A side condition of the reference program. -/
theorem slices_S64x3x3x4x258x258_S64x1x1x4x256x256_0_1_1_0_1_1 : S64x3x3x4x258x258.Slices ![0, 1, 1, 0, 1, 1] S64x1x1x4x256x256 := by decide
/-- A side condition of the reference program. -/
theorem slices_S64x3x3x4x258x258_S64x1x1x4x256x256_0_1_2_0_1_2 : S64x3x3x4x258x258.Slices ![0, 1, 2, 0, 1, 2] S64x1x1x4x256x256 := by decide
/-- A side condition of the reference program. -/
theorem slices_S64x3x3x4x258x258_S64x1x1x4x256x256_0_2_0_0_2_0 : S64x3x3x4x258x258.Slices ![0, 2, 0, 0, 2, 0] S64x1x1x4x256x256 := by decide
/-- A side condition of the reference program. -/
theorem slices_S64x3x3x4x258x258_S64x1x1x4x256x256_0_2_1_0_2_1 : S64x3x3x4x258x258.Slices ![0, 2, 1, 0, 2, 1] S64x1x1x4x256x256 := by decide
/-- A side condition of the reference program. -/
theorem slices_S64x3x3x4x258x258_S64x1x1x4x256x256_0_2_2_0_2_2 : S64x3x3x4x258x258.Slices ![0, 2, 2, 0, 2, 2] S64x1x1x4x256x256 := by decide
/-- A side condition of the reference program. -/
theorem transposes_S64x4x256x256_S4x64x256x256_1_0_2_3 : S64x4x256x256.Transposes [1, 0, 2, 3] S4x64x256x256 := by decide
/-- A side condition of the reference program. -/
theorem bcast_S64_S1x64x1x1_1 : S64.BroadcastsInDim S1x64x1x1 (![1] : Fin 1 → Fin S1x64x1x1.rank) := by decide
/-- A side condition of the reference program. -/
theorem bcast_S1x64x1x1_S4x64x256x256_0_1_2_3 : S1x64x1x1.BroadcastsInDim S4x64x256x256 (![0, 1, 2, 3] : Fin 4 → Fin S4x64x256x256.rank) := by decide
/-- A side condition of the reference program. -/
theorem bcast_S_S4x64x256x256 : S_.BroadcastsInDim S4x64x256x256 (![] : Fin 0 → Fin S4x64x256x256.rank) := by decide
/-- A side condition of the reference program. -/
theorem pads_S4x64x256x256_S4x64x258x258_000_000_110_110 : S4x64x256x256.Pads (![0, 0, 1, 1] : Fin 4 → Nat) ![0, 0, 1, 1] ![0, 0, 0, 0] S4x64x258x258 := by decide
/-- A side condition of the reference program. -/
theorem slicesBy_S128x3x3x4x258x258_S128x1x1x4x128x128_0s1_0s1_0s1_0s1_0s2_0s2 : S128x3x3x4x258x258.SlicesBy (![0, 0, 0, 0, 0, 0] : Fin 6 → Nat) ![1, 1, 1, 1, 2, 2] S128x1x1x4x128x128 := by decide
/-- A side condition of the reference program. -/
theorem shapeCasts_S128x1x1x4x128x128_S128x4x128x128 : S128x1x1x4x128x128.ShapeCasts S128x4x128x128 := by decide
/-- A side condition of the reference program. -/
theorem slicesBy_S128x3x3x4x258x258_S128x1x1x4x128x128_0s1_0s1_1s1_0s1_0s2_1s2 : S128x3x3x4x258x258.SlicesBy (![0, 0, 1, 0, 0, 1] : Fin 6 → Nat) ![1, 1, 1, 1, 2, 2] S128x1x1x4x128x128 := by decide
/-- A side condition of the reference program. -/
theorem slicesBy_S128x3x3x4x258x258_S128x1x1x4x128x128_0s1_0s1_2s1_0s1_0s2_2s2 : S128x3x3x4x258x258.SlicesBy (![0, 0, 2, 0, 0, 2] : Fin 6 → Nat) ![1, 1, 1, 1, 2, 2] S128x1x1x4x128x128 := by decide
/-- A side condition of the reference program. -/
theorem slicesBy_S128x3x3x4x258x258_S128x1x1x4x128x128_0s1_1s1_0s1_0s1_1s2_0s2 : S128x3x3x4x258x258.SlicesBy (![0, 1, 0, 0, 1, 0] : Fin 6 → Nat) ![1, 1, 1, 1, 2, 2] S128x1x1x4x128x128 := by decide
/-- A side condition of the reference program. -/
theorem slicesBy_S128x3x3x4x258x258_S128x1x1x4x128x128_0s1_1s1_1s1_0s1_1s2_1s2 : S128x3x3x4x258x258.SlicesBy (![0, 1, 1, 0, 1, 1] : Fin 6 → Nat) ![1, 1, 1, 1, 2, 2] S128x1x1x4x128x128 := by decide
/-- A side condition of the reference program. -/
theorem slicesBy_S128x3x3x4x258x258_S128x1x1x4x128x128_0s1_1s1_2s1_0s1_1s2_2s2 : S128x3x3x4x258x258.SlicesBy (![0, 1, 2, 0, 1, 2] : Fin 6 → Nat) ![1, 1, 1, 1, 2, 2] S128x1x1x4x128x128 := by decide
/-- A side condition of the reference program. -/
theorem slicesBy_S128x3x3x4x258x258_S128x1x1x4x128x128_0s1_2s1_0s1_0s1_2s2_0s2 : S128x3x3x4x258x258.SlicesBy (![0, 2, 0, 0, 2, 0] : Fin 6 → Nat) ![1, 1, 1, 1, 2, 2] S128x1x1x4x128x128 := by decide
/-- A side condition of the reference program. -/
theorem slicesBy_S128x3x3x4x258x258_S128x1x1x4x128x128_0s1_2s1_1s1_0s1_2s2_1s2 : S128x3x3x4x258x258.SlicesBy (![0, 2, 1, 0, 2, 1] : Fin 6 → Nat) ![1, 1, 1, 1, 2, 2] S128x1x1x4x128x128 := by decide
/-- A side condition of the reference program. -/
theorem slicesBy_S128x3x3x4x258x258_S128x1x1x4x128x128_0s1_2s1_2s1_0s1_2s2_2s2 : S128x3x3x4x258x258.SlicesBy (![0, 2, 2, 0, 2, 2] : Fin 6 → Nat) ![1, 1, 1, 1, 2, 2] S128x1x1x4x128x128 := by decide
/-- A side condition of the reference program. -/
theorem transposes_S128x4x128x128_S4x128x128x128_1_0_2_3 : S128x4x128x128.Transposes [1, 0, 2, 3] S4x128x128x128 := by decide
/-- A side condition of the reference program. -/
theorem bcast_S128_S1x128x1x1_1 : S128.BroadcastsInDim S1x128x1x1 (![1] : Fin 1 → Fin S1x128x1x1.rank) := by decide
/-- A side condition of the reference program. -/
theorem bcast_S1x128x1x1_S4x128x128x128_0_1_2_3 : S1x128x1x1.BroadcastsInDim S4x128x128x128 (![0, 1, 2, 3] : Fin 4 → Fin S4x128x128x128.rank) := by decide
/-- A side condition of the reference program. -/
theorem bcast_S_S4x128x128x128 : S_.BroadcastsInDim S4x128x128x128 (![] : Fin 0 → Fin S4x128x128x128.rank) := by decide
/-- A side condition of the reference program. -/
theorem pads_S4x128x128x128_S4x128x130x130_000_000_110_110 : S4x128x128x128.Pads (![0, 0, 1, 1] : Fin 4 → Nat) ![0, 0, 1, 1] ![0, 0, 0, 0] S4x128x130x130 := by decide
/-- A side condition of the reference program. -/
theorem slicesBy_S256x3x3x4x130x130_S256x1x1x4x64x64_0s1_0s1_0s1_0s1_0s2_0s2 : S256x3x3x4x130x130.SlicesBy (![0, 0, 0, 0, 0, 0] : Fin 6 → Nat) ![1, 1, 1, 1, 2, 2] S256x1x1x4x64x64 := by decide
/-- A side condition of the reference program. -/
theorem shapeCasts_S256x1x1x4x64x64_S256x4x64x64 : S256x1x1x4x64x64.ShapeCasts S256x4x64x64 := by decide
/-- A side condition of the reference program. -/
theorem slicesBy_S256x3x3x4x130x130_S256x1x1x4x64x64_0s1_0s1_1s1_0s1_0s2_1s2 : S256x3x3x4x130x130.SlicesBy (![0, 0, 1, 0, 0, 1] : Fin 6 → Nat) ![1, 1, 1, 1, 2, 2] S256x1x1x4x64x64 := by decide
/-- A side condition of the reference program. -/
theorem slicesBy_S256x3x3x4x130x130_S256x1x1x4x64x64_0s1_0s1_2s1_0s1_0s2_2s2 : S256x3x3x4x130x130.SlicesBy (![0, 0, 2, 0, 0, 2] : Fin 6 → Nat) ![1, 1, 1, 1, 2, 2] S256x1x1x4x64x64 := by decide
/-- A side condition of the reference program. -/
theorem slicesBy_S256x3x3x4x130x130_S256x1x1x4x64x64_0s1_1s1_0s1_0s1_1s2_0s2 : S256x3x3x4x130x130.SlicesBy (![0, 1, 0, 0, 1, 0] : Fin 6 → Nat) ![1, 1, 1, 1, 2, 2] S256x1x1x4x64x64 := by decide
/-- A side condition of the reference program. -/
theorem slicesBy_S256x3x3x4x130x130_S256x1x1x4x64x64_0s1_1s1_1s1_0s1_1s2_1s2 : S256x3x3x4x130x130.SlicesBy (![0, 1, 1, 0, 1, 1] : Fin 6 → Nat) ![1, 1, 1, 1, 2, 2] S256x1x1x4x64x64 := by decide
/-- A side condition of the reference program. -/
theorem slicesBy_S256x3x3x4x130x130_S256x1x1x4x64x64_0s1_1s1_2s1_0s1_1s2_2s2 : S256x3x3x4x130x130.SlicesBy (![0, 1, 2, 0, 1, 2] : Fin 6 → Nat) ![1, 1, 1, 1, 2, 2] S256x1x1x4x64x64 := by decide
/-- A side condition of the reference program. -/
theorem slicesBy_S256x3x3x4x130x130_S256x1x1x4x64x64_0s1_2s1_0s1_0s1_2s2_0s2 : S256x3x3x4x130x130.SlicesBy (![0, 2, 0, 0, 2, 0] : Fin 6 → Nat) ![1, 1, 1, 1, 2, 2] S256x1x1x4x64x64 := by decide
/-- A side condition of the reference program. -/
theorem slicesBy_S256x3x3x4x130x130_S256x1x1x4x64x64_0s1_2s1_1s1_0s1_2s2_1s2 : S256x3x3x4x130x130.SlicesBy (![0, 2, 1, 0, 2, 1] : Fin 6 → Nat) ![1, 1, 1, 1, 2, 2] S256x1x1x4x64x64 := by decide
/-- A side condition of the reference program. -/
theorem slicesBy_S256x3x3x4x130x130_S256x1x1x4x64x64_0s1_2s1_2s1_0s1_2s2_2s2 : S256x3x3x4x130x130.SlicesBy (![0, 2, 2, 0, 2, 2] : Fin 6 → Nat) ![1, 1, 1, 1, 2, 2] S256x1x1x4x64x64 := by decide
/-- A side condition of the reference program. -/
theorem transposes_S256x4x64x64_S4x256x64x64_1_0_2_3 : S256x4x64x64.Transposes [1, 0, 2, 3] S4x256x64x64 := by decide
/-- A side condition of the reference program. -/
theorem bcast_S256_S1x256x1x1_1 : S256.BroadcastsInDim S1x256x1x1 (![1] : Fin 1 → Fin S1x256x1x1.rank) := by decide
/-- A side condition of the reference program. -/
theorem bcast_S1x256x1x1_S4x256x64x64_0_1_2_3 : S1x256x1x1.BroadcastsInDim S4x256x64x64 (![0, 1, 2, 3] : Fin 4 → Fin S4x256x64x64.rank) := by decide
/-- A side condition of the reference program. -/
theorem bcast_S_S4x256x64x64 : S_.BroadcastsInDim S4x256x64x64 (![] : Fin 0 → Fin S4x256x64x64.rank) := by decide
/-- A side condition of the reference program. -/
theorem pads_S4x256x64x64_S4x256x66x66_000_000_110_110 : S4x256x64x64.Pads (![0, 0, 1, 1] : Fin 4 → Nat) ![0, 0, 1, 1] ![0, 0, 0, 0] S4x256x66x66 := by decide
/-- A side condition of the reference program. -/
theorem slicesBy_S512x3x3x4x66x66_S512x1x1x4x32x32_0s1_0s1_0s1_0s1_0s2_0s2 : S512x3x3x4x66x66.SlicesBy (![0, 0, 0, 0, 0, 0] : Fin 6 → Nat) ![1, 1, 1, 1, 2, 2] S512x1x1x4x32x32 := by decide
/-- A side condition of the reference program. -/
theorem shapeCasts_S512x1x1x4x32x32_S512x4x32x32 : S512x1x1x4x32x32.ShapeCasts S512x4x32x32 := by decide
/-- A side condition of the reference program. -/
theorem slicesBy_S512x3x3x4x66x66_S512x1x1x4x32x32_0s1_0s1_1s1_0s1_0s2_1s2 : S512x3x3x4x66x66.SlicesBy (![0, 0, 1, 0, 0, 1] : Fin 6 → Nat) ![1, 1, 1, 1, 2, 2] S512x1x1x4x32x32 := by decide
/-- A side condition of the reference program. -/
theorem slicesBy_S512x3x3x4x66x66_S512x1x1x4x32x32_0s1_0s1_2s1_0s1_0s2_2s2 : S512x3x3x4x66x66.SlicesBy (![0, 0, 2, 0, 0, 2] : Fin 6 → Nat) ![1, 1, 1, 1, 2, 2] S512x1x1x4x32x32 := by decide
/-- A side condition of the reference program. -/
theorem slicesBy_S512x3x3x4x66x66_S512x1x1x4x32x32_0s1_1s1_0s1_0s1_1s2_0s2 : S512x3x3x4x66x66.SlicesBy (![0, 1, 0, 0, 1, 0] : Fin 6 → Nat) ![1, 1, 1, 1, 2, 2] S512x1x1x4x32x32 := by decide
/-- A side condition of the reference program. -/
theorem slicesBy_S512x3x3x4x66x66_S512x1x1x4x32x32_0s1_1s1_1s1_0s1_1s2_1s2 : S512x3x3x4x66x66.SlicesBy (![0, 1, 1, 0, 1, 1] : Fin 6 → Nat) ![1, 1, 1, 1, 2, 2] S512x1x1x4x32x32 := by decide
/-- A side condition of the reference program. -/
theorem slicesBy_S512x3x3x4x66x66_S512x1x1x4x32x32_0s1_1s1_2s1_0s1_1s2_2s2 : S512x3x3x4x66x66.SlicesBy (![0, 1, 2, 0, 1, 2] : Fin 6 → Nat) ![1, 1, 1, 1, 2, 2] S512x1x1x4x32x32 := by decide
/-- A side condition of the reference program. -/
theorem slicesBy_S512x3x3x4x66x66_S512x1x1x4x32x32_0s1_2s1_0s1_0s1_2s2_0s2 : S512x3x3x4x66x66.SlicesBy (![0, 2, 0, 0, 2, 0] : Fin 6 → Nat) ![1, 1, 1, 1, 2, 2] S512x1x1x4x32x32 := by decide
/-- A side condition of the reference program. -/
theorem slicesBy_S512x3x3x4x66x66_S512x1x1x4x32x32_0s1_2s1_1s1_0s1_2s2_1s2 : S512x3x3x4x66x66.SlicesBy (![0, 2, 1, 0, 2, 1] : Fin 6 → Nat) ![1, 1, 1, 1, 2, 2] S512x1x1x4x32x32 := by decide
/-- A side condition of the reference program. -/
theorem slicesBy_S512x3x3x4x66x66_S512x1x1x4x32x32_0s1_2s1_2s1_0s1_2s2_2s2 : S512x3x3x4x66x66.SlicesBy (![0, 2, 2, 0, 2, 2] : Fin 6 → Nat) ![1, 1, 1, 1, 2, 2] S512x1x1x4x32x32 := by decide
/-- A side condition of the reference program. -/
theorem transposes_S512x4x32x32_S4x512x32x32_1_0_2_3 : S512x4x32x32.Transposes [1, 0, 2, 3] S4x512x32x32 := by decide
/-- A side condition of the reference program. -/
theorem bcast_S512_S1x512x1x1_1 : S512.BroadcastsInDim S1x512x1x1 (![1] : Fin 1 → Fin S1x512x1x1.rank) := by decide
/-- A side condition of the reference program. -/
theorem bcast_S1x512x1x1_S4x512x32x32_0_1_2_3 : S1x512x1x1.BroadcastsInDim S4x512x32x32 (![0, 1, 2, 3] : Fin 4 → Fin S4x512x32x32.rank) := by decide
/-- A side condition of the reference program. -/
theorem transposes_S4x512x32x32_S4x32x32x512_0_2_3_1 : S4x512x32x32.Transposes [0, 2, 3, 1] S4x32x32x512 := by decide
/-- A side condition of the reference program. -/
theorem shapeCasts_S4x32x32x512_S4096x512 : S4x32x32x512.ShapeCasts S4096x512 := by decide
/-- A side condition of the reference program. -/
theorem reducesTo_S4096x512_S4096_d1 : S4096x512.ReducesTo [1] S4096 := by decide
/-- A side condition of the reference program. -/
theorem bcast_S4096_S4096x1_0 : S4096.BroadcastsInDim S4096x1 (![0] : Fin 1 → Fin S4096x1.rank) := by decide
/-- A side condition of the reference program. -/
theorem reducesTo_S8192x512_S8192_d1 : S8192x512.ReducesTo [1] S8192 := by decide
/-- A side condition of the reference program. -/
theorem bcast_S8192_S1x8192_1 : S8192.BroadcastsInDim S1x8192 (![1] : Fin 1 → Fin S1x8192.rank) := by decide
/-- A side condition of the reference program. -/
theorem bcast_S4096x1_S4096x8192_0_1 : S4096x1.BroadcastsInDim S4096x8192 (![0, 1] : Fin 2 → Fin S4096x8192.rank) := by decide
/-- A side condition of the reference program. -/
theorem bcast_S1x8192_S4096x8192_0_1 : S1x8192.BroadcastsInDim S4096x8192 (![0, 1] : Fin 2 → Fin S4096x8192.rank) := by decide
/-- A side condition of the reference program. -/
theorem bcast_S_S4096x512 : S_.BroadcastsInDim S4096x512 (![] : Fin 0 → Fin S4096x512.rank) := by decide
/-- A side condition of the reference program. -/
theorem transposes_S8192x512_S512x8192_1_0 : S8192x512.Transposes [1, 0] S512x8192 := by decide
/-- A side condition of the reference program. -/
theorem bcast_S_S4096x8192 : S_.BroadcastsInDim S4096x8192 (![] : Fin 0 → Fin S4096x8192.rank) := by decide
/-- A side condition of the reference program. -/
theorem reducesTo_S4096x8192_S4096_d1 : S4096x8192.ReducesTo [1] S4096 := by decide
/-- A side condition of the reference program. -/
theorem dot_S64x3x3x3_S4x3x258x258_S64x3x3x4x258x258_1_1_023_023_n_n_wf : DotDims.WF S64x3x3x3 S4x3x258x258 S64x3x3x4x258x258 [1] [1] [0, 2, 3] [0, 2, 3] [] [] := by decide
/-- A side condition of the reference program. -/
theorem dot_S128x64x3x3_S4x64x258x258_S128x3x3x4x258x258_1_1_023_023_n_n_wf : DotDims.WF S128x64x3x3 S4x64x258x258 S128x3x3x4x258x258 [1] [1] [0, 2, 3] [0, 2, 3] [] [] := by decide
/-- A side condition of the reference program. -/
theorem dot_S256x128x3x3_S4x128x130x130_S256x3x3x4x130x130_1_1_023_023_n_n_wf : DotDims.WF S256x128x3x3 S4x128x130x130 S256x3x3x4x130x130 [1] [1] [0, 2, 3] [0, 2, 3] [] [] := by decide
/-- A side condition of the reference program. -/
theorem dot_S512x256x3x3_S4x256x66x66_S512x3x3x4x66x66_1_1_023_023_n_n_wf : DotDims.WF S512x256x3x3 S4x256x66x66 S512x3x3x4x66x66 [1] [1] [0, 2, 3] [0, 2, 3] [] [] := by decide
/-- A side condition of the reference program. -/
theorem dot_S4096x512_S512x8192_S4096x8192_1_0_0_1_n_n_wf : DotDims.WF S4096x512 S512x8192 S4096x8192 [1] [0] [0] [1] [] [] := by decide

/-- The reference program's side conditions hold. -/
instance facts₀ : Cert.ReferenceIdeal.Facts₀ where
  pads_S4x3x256x256_S4x3x258x258_000_000_110_110 := pads_S4x3x256x256_S4x3x258x258_000_000_110_110
  h_S_ := h_S_
  slices_S64x3x3x4x258x258_S64x1x1x4x256x256_0_0_0_0_0_0 := slices_S64x3x3x4x258x258_S64x1x1x4x256x256_0_0_0_0_0_0
  shapeCasts_S64x1x1x4x256x256_S64x4x256x256 := shapeCasts_S64x1x1x4x256x256_S64x4x256x256
  slices_S64x3x3x4x258x258_S64x1x1x4x256x256_0_0_1_0_0_1 := slices_S64x3x3x4x258x258_S64x1x1x4x256x256_0_0_1_0_0_1
  slices_S64x3x3x4x258x258_S64x1x1x4x256x256_0_0_2_0_0_2 := slices_S64x3x3x4x258x258_S64x1x1x4x256x256_0_0_2_0_0_2
  slices_S64x3x3x4x258x258_S64x1x1x4x256x256_0_1_0_0_1_0 := slices_S64x3x3x4x258x258_S64x1x1x4x256x256_0_1_0_0_1_0
  slices_S64x3x3x4x258x258_S64x1x1x4x256x256_0_1_1_0_1_1 := slices_S64x3x3x4x258x258_S64x1x1x4x256x256_0_1_1_0_1_1
  slices_S64x3x3x4x258x258_S64x1x1x4x256x256_0_1_2_0_1_2 := slices_S64x3x3x4x258x258_S64x1x1x4x256x256_0_1_2_0_1_2
  slices_S64x3x3x4x258x258_S64x1x1x4x256x256_0_2_0_0_2_0 := slices_S64x3x3x4x258x258_S64x1x1x4x256x256_0_2_0_0_2_0
  slices_S64x3x3x4x258x258_S64x1x1x4x256x256_0_2_1_0_2_1 := slices_S64x3x3x4x258x258_S64x1x1x4x256x256_0_2_1_0_2_1
  slices_S64x3x3x4x258x258_S64x1x1x4x256x256_0_2_2_0_2_2 := slices_S64x3x3x4x258x258_S64x1x1x4x256x256_0_2_2_0_2_2
  transposes_S64x4x256x256_S4x64x256x256_1_0_2_3 := transposes_S64x4x256x256_S4x64x256x256_1_0_2_3
  bcast_S64_S1x64x1x1_1 := bcast_S64_S1x64x1x1_1
  bcast_S1x64x1x1_S4x64x256x256_0_1_2_3 := bcast_S1x64x1x1_S4x64x256x256_0_1_2_3
  bcast_S_S4x64x256x256 := bcast_S_S4x64x256x256
  pads_S4x64x256x256_S4x64x258x258_000_000_110_110 := pads_S4x64x256x256_S4x64x258x258_000_000_110_110
  slicesBy_S128x3x3x4x258x258_S128x1x1x4x128x128_0s1_0s1_0s1_0s1_0s2_0s2 := slicesBy_S128x3x3x4x258x258_S128x1x1x4x128x128_0s1_0s1_0s1_0s1_0s2_0s2
  shapeCasts_S128x1x1x4x128x128_S128x4x128x128 := shapeCasts_S128x1x1x4x128x128_S128x4x128x128
  slicesBy_S128x3x3x4x258x258_S128x1x1x4x128x128_0s1_0s1_1s1_0s1_0s2_1s2 := slicesBy_S128x3x3x4x258x258_S128x1x1x4x128x128_0s1_0s1_1s1_0s1_0s2_1s2
  slicesBy_S128x3x3x4x258x258_S128x1x1x4x128x128_0s1_0s1_2s1_0s1_0s2_2s2 := slicesBy_S128x3x3x4x258x258_S128x1x1x4x128x128_0s1_0s1_2s1_0s1_0s2_2s2
  slicesBy_S128x3x3x4x258x258_S128x1x1x4x128x128_0s1_1s1_0s1_0s1_1s2_0s2 := slicesBy_S128x3x3x4x258x258_S128x1x1x4x128x128_0s1_1s1_0s1_0s1_1s2_0s2
  slicesBy_S128x3x3x4x258x258_S128x1x1x4x128x128_0s1_1s1_1s1_0s1_1s2_1s2 := slicesBy_S128x3x3x4x258x258_S128x1x1x4x128x128_0s1_1s1_1s1_0s1_1s2_1s2
  slicesBy_S128x3x3x4x258x258_S128x1x1x4x128x128_0s1_1s1_2s1_0s1_1s2_2s2 := slicesBy_S128x3x3x4x258x258_S128x1x1x4x128x128_0s1_1s1_2s1_0s1_1s2_2s2
  slicesBy_S128x3x3x4x258x258_S128x1x1x4x128x128_0s1_2s1_0s1_0s1_2s2_0s2 := slicesBy_S128x3x3x4x258x258_S128x1x1x4x128x128_0s1_2s1_0s1_0s1_2s2_0s2
  slicesBy_S128x3x3x4x258x258_S128x1x1x4x128x128_0s1_2s1_1s1_0s1_2s2_1s2 := slicesBy_S128x3x3x4x258x258_S128x1x1x4x128x128_0s1_2s1_1s1_0s1_2s2_1s2
  slicesBy_S128x3x3x4x258x258_S128x1x1x4x128x128_0s1_2s1_2s1_0s1_2s2_2s2 := slicesBy_S128x3x3x4x258x258_S128x1x1x4x128x128_0s1_2s1_2s1_0s1_2s2_2s2
  transposes_S128x4x128x128_S4x128x128x128_1_0_2_3 := transposes_S128x4x128x128_S4x128x128x128_1_0_2_3
  bcast_S128_S1x128x1x1_1 := bcast_S128_S1x128x1x1_1
  bcast_S1x128x1x1_S4x128x128x128_0_1_2_3 := bcast_S1x128x1x1_S4x128x128x128_0_1_2_3
  bcast_S_S4x128x128x128 := bcast_S_S4x128x128x128
  pads_S4x128x128x128_S4x128x130x130_000_000_110_110 := pads_S4x128x128x128_S4x128x130x130_000_000_110_110
  slicesBy_S256x3x3x4x130x130_S256x1x1x4x64x64_0s1_0s1_0s1_0s1_0s2_0s2 := slicesBy_S256x3x3x4x130x130_S256x1x1x4x64x64_0s1_0s1_0s1_0s1_0s2_0s2
  shapeCasts_S256x1x1x4x64x64_S256x4x64x64 := shapeCasts_S256x1x1x4x64x64_S256x4x64x64
  slicesBy_S256x3x3x4x130x130_S256x1x1x4x64x64_0s1_0s1_1s1_0s1_0s2_1s2 := slicesBy_S256x3x3x4x130x130_S256x1x1x4x64x64_0s1_0s1_1s1_0s1_0s2_1s2
  slicesBy_S256x3x3x4x130x130_S256x1x1x4x64x64_0s1_0s1_2s1_0s1_0s2_2s2 := slicesBy_S256x3x3x4x130x130_S256x1x1x4x64x64_0s1_0s1_2s1_0s1_0s2_2s2
  slicesBy_S256x3x3x4x130x130_S256x1x1x4x64x64_0s1_1s1_0s1_0s1_1s2_0s2 := slicesBy_S256x3x3x4x130x130_S256x1x1x4x64x64_0s1_1s1_0s1_0s1_1s2_0s2
  slicesBy_S256x3x3x4x130x130_S256x1x1x4x64x64_0s1_1s1_1s1_0s1_1s2_1s2 := slicesBy_S256x3x3x4x130x130_S256x1x1x4x64x64_0s1_1s1_1s1_0s1_1s2_1s2
  slicesBy_S256x3x3x4x130x130_S256x1x1x4x64x64_0s1_1s1_2s1_0s1_1s2_2s2 := slicesBy_S256x3x3x4x130x130_S256x1x1x4x64x64_0s1_1s1_2s1_0s1_1s2_2s2
  slicesBy_S256x3x3x4x130x130_S256x1x1x4x64x64_0s1_2s1_0s1_0s1_2s2_0s2 := slicesBy_S256x3x3x4x130x130_S256x1x1x4x64x64_0s1_2s1_0s1_0s1_2s2_0s2
  slicesBy_S256x3x3x4x130x130_S256x1x1x4x64x64_0s1_2s1_1s1_0s1_2s2_1s2 := slicesBy_S256x3x3x4x130x130_S256x1x1x4x64x64_0s1_2s1_1s1_0s1_2s2_1s2
  slicesBy_S256x3x3x4x130x130_S256x1x1x4x64x64_0s1_2s1_2s1_0s1_2s2_2s2 := slicesBy_S256x3x3x4x130x130_S256x1x1x4x64x64_0s1_2s1_2s1_0s1_2s2_2s2
  transposes_S256x4x64x64_S4x256x64x64_1_0_2_3 := transposes_S256x4x64x64_S4x256x64x64_1_0_2_3
  bcast_S256_S1x256x1x1_1 := bcast_S256_S1x256x1x1_1
  bcast_S1x256x1x1_S4x256x64x64_0_1_2_3 := bcast_S1x256x1x1_S4x256x64x64_0_1_2_3
  bcast_S_S4x256x64x64 := bcast_S_S4x256x64x64
  pads_S4x256x64x64_S4x256x66x66_000_000_110_110 := pads_S4x256x64x64_S4x256x66x66_000_000_110_110
  slicesBy_S512x3x3x4x66x66_S512x1x1x4x32x32_0s1_0s1_0s1_0s1_0s2_0s2 := slicesBy_S512x3x3x4x66x66_S512x1x1x4x32x32_0s1_0s1_0s1_0s1_0s2_0s2
  shapeCasts_S512x1x1x4x32x32_S512x4x32x32 := shapeCasts_S512x1x1x4x32x32_S512x4x32x32
  slicesBy_S512x3x3x4x66x66_S512x1x1x4x32x32_0s1_0s1_1s1_0s1_0s2_1s2 := slicesBy_S512x3x3x4x66x66_S512x1x1x4x32x32_0s1_0s1_1s1_0s1_0s2_1s2
  slicesBy_S512x3x3x4x66x66_S512x1x1x4x32x32_0s1_0s1_2s1_0s1_0s2_2s2 := slicesBy_S512x3x3x4x66x66_S512x1x1x4x32x32_0s1_0s1_2s1_0s1_0s2_2s2
  slicesBy_S512x3x3x4x66x66_S512x1x1x4x32x32_0s1_1s1_0s1_0s1_1s2_0s2 := slicesBy_S512x3x3x4x66x66_S512x1x1x4x32x32_0s1_1s1_0s1_0s1_1s2_0s2
  slicesBy_S512x3x3x4x66x66_S512x1x1x4x32x32_0s1_1s1_1s1_0s1_1s2_1s2 := slicesBy_S512x3x3x4x66x66_S512x1x1x4x32x32_0s1_1s1_1s1_0s1_1s2_1s2
  slicesBy_S512x3x3x4x66x66_S512x1x1x4x32x32_0s1_1s1_2s1_0s1_1s2_2s2 := slicesBy_S512x3x3x4x66x66_S512x1x1x4x32x32_0s1_1s1_2s1_0s1_1s2_2s2
  slicesBy_S512x3x3x4x66x66_S512x1x1x4x32x32_0s1_2s1_0s1_0s1_2s2_0s2 := slicesBy_S512x3x3x4x66x66_S512x1x1x4x32x32_0s1_2s1_0s1_0s1_2s2_0s2
  slicesBy_S512x3x3x4x66x66_S512x1x1x4x32x32_0s1_2s1_1s1_0s1_2s2_1s2 := slicesBy_S512x3x3x4x66x66_S512x1x1x4x32x32_0s1_2s1_1s1_0s1_2s2_1s2
  slicesBy_S512x3x3x4x66x66_S512x1x1x4x32x32_0s1_2s1_2s1_0s1_2s2_2s2 := slicesBy_S512x3x3x4x66x66_S512x1x1x4x32x32_0s1_2s1_2s1_0s1_2s2_2s2
  transposes_S512x4x32x32_S4x512x32x32_1_0_2_3 := transposes_S512x4x32x32_S4x512x32x32_1_0_2_3
  bcast_S512_S1x512x1x1_1 := bcast_S512_S1x512x1x1_1
  bcast_S1x512x1x1_S4x512x32x32_0_1_2_3 := bcast_S1x512x1x1_S4x512x32x32_0_1_2_3
  transposes_S4x512x32x32_S4x32x32x512_0_2_3_1 := transposes_S4x512x32x32_S4x32x32x512_0_2_3_1
  shapeCasts_S4x32x32x512_S4096x512 := shapeCasts_S4x32x32x512_S4096x512
  reducesTo_S4096x512_S4096_d1 := reducesTo_S4096x512_S4096_d1
  bcast_S4096_S4096x1_0 := bcast_S4096_S4096x1_0
  reducesTo_S8192x512_S8192_d1 := reducesTo_S8192x512_S8192_d1
  bcast_S8192_S1x8192_1 := bcast_S8192_S1x8192_1
  bcast_S4096x1_S4096x8192_0_1 := bcast_S4096x1_S4096x8192_0_1
  bcast_S1x8192_S4096x8192_0_1 := bcast_S1x8192_S4096x8192_0_1
  bcast_S_S4096x512 := bcast_S_S4096x512
  transposes_S8192x512_S512x8192_1_0 := transposes_S8192x512_S512x8192_1_0
  bcast_S_S4096x8192 := bcast_S_S4096x8192
  reducesTo_S4096x8192_S4096_d1 := reducesTo_S4096x8192_S4096_d1
  dot_S64x3x3x3_S4x3x258x258_S64x3x3x4x258x258_1_1_023_023_n_n_wf := dot_S64x3x3x3_S4x3x258x258_S64x3x3x4x258x258_1_1_023_023_n_n_wf
  dot_S128x64x3x3_S4x64x258x258_S128x3x3x4x258x258_1_1_023_023_n_n_wf := dot_S128x64x3x3_S4x64x258x258_S128x3x3x4x258x258_1_1_023_023_n_n_wf
  dot_S256x128x3x3_S4x128x130x130_S256x3x3x4x130x130_1_1_023_023_n_n_wf := dot_S256x128x3x3_S4x128x130x130_S256x3x3x4x130x130_1_1_023_023_n_n_wf
  dot_S512x256x3x3_S4x256x66x66_S512x3x3x4x66x66_1_1_023_023_n_n_wf := dot_S512x256x3x3_S4x256x66x66_S512x3x3x4x66x66_1_1_023_023_n_n_wf
  dot_S4096x512_S512x8192_S4096x8192_1_0_0_1_n_n_wf := dot_S4096x512_S512x8192_S4096x8192_1_0_0_1_n_n_wf
/-- All of the reference program's side conditions. -/
instance facts : Cert.ReferenceIdeal.Facts where

end Cert.ReferenceIdeal.Hand
-- ==== Proof.RefRun.lean ====
module
public import proofs.«01_k».proof.Proof.RefFacts
public import Idealize.ShloMosaic.Lib.StableHlo.Run
public import Idealize.ShloMosaic.Lib.Pipeline.Frame

/-! The reference program as a list of operations, cut into its layers, and its run. -/

@[expose] public section
noncomputable section
namespace Cert.ReferenceIdeal.Hand
open Cert.ReferenceIdeal Idealize.ShloMosaic Idealize.ShloMosaic.TcCoe Idealize.SL.Sem Idealize.ShloMosaic.StableHlo

variable {F : FTy → Type} [FloatOps F]

/-- The operations of `enc1`. -/
abbrev enc1 : List (HloOp τ sig (Elt F)) :=
  [ StableHlo.nullary main_cst (constant S_ .f32 0x00000000#32),
    StableHlo.binary main_arg0 main_cst main_v0 ((fun x v => pad S4x3x258x258 ![0, 0, 1, 1] ![0, 0, 1, 1] ![0, 0, 0, 0] x v pads_S4x3x256x256_S4x3x258x258_000_000_110_110 h_S_) : (⟨S4x3x256x256, .f32⟩ : BufTy).Contents (Elt F) → (⟨S_, .f32⟩ : BufTy).Contents (Elt F) → (⟨S4x3x258x258, .f32⟩ : BufTy).Contents (Elt F)),
    StableHlo.binary main_arg1 main_v0 main_v1 ((fun l r => Host.dotGeneral dot_S64x3x3x3_S4x3x258x258_S64x3x3x4x258x258_1_1_023_023_n_n none l r) : (⟨S64x3x3x3, .f32⟩ : BufTy).Contents (Elt F) → (⟨S4x3x258x258, .f32⟩ : BufTy).Contents (Elt F) → (⟨S64x3x3x4x258x258, .f32⟩ : BufTy).Contents (Elt F)),
    StableHlo.unary main_v1 main_v2 ((extractStridedSlice S64x1x1x4x256x256 ![0, 0, 0, 0, 0, 0] · slices_S64x3x3x4x258x258_S64x1x1x4x256x256_0_0_0_0_0_0) : (⟨S64x3x3x4x258x258, .f32⟩ : BufTy).Contents (Elt F) → (⟨S64x1x1x4x256x256, .f32⟩ : BufTy).Contents (Elt F)),
    StableHlo.reshape main_v2 main_v3 (rfl : (.f32 : EltTy) = .f32) shapeCasts_S64x1x1x4x256x256_S64x4x256x256,
    StableHlo.unary main_v1 main_v4 ((extractStridedSlice S64x1x1x4x256x256 ![0, 0, 1, 0, 0, 1] · slices_S64x3x3x4x258x258_S64x1x1x4x256x256_0_0_1_0_0_1) : (⟨S64x3x3x4x258x258, .f32⟩ : BufTy).Contents (Elt F) → (⟨S64x1x1x4x256x256, .f32⟩ : BufTy).Contents (Elt F)),
    StableHlo.reshape main_v4 main_v5 (rfl : (.f32 : EltTy) = .f32) shapeCasts_S64x1x1x4x256x256_S64x4x256x256,
    StableHlo.binary main_v3 main_v5 main_v6 (addf : (⟨S64x4x256x256, .f32⟩ : BufTy).Contents (Elt F) → (⟨S64x4x256x256, .f32⟩ : BufTy).Contents (Elt F) → (⟨S64x4x256x256, .f32⟩ : BufTy).Contents (Elt F)),
    StableHlo.unary main_v1 main_v7 ((extractStridedSlice S64x1x1x4x256x256 ![0, 0, 2, 0, 0, 2] · slices_S64x3x3x4x258x258_S64x1x1x4x256x256_0_0_2_0_0_2) : (⟨S64x3x3x4x258x258, .f32⟩ : BufTy).Contents (Elt F) → (⟨S64x1x1x4x256x256, .f32⟩ : BufTy).Contents (Elt F)),
    StableHlo.reshape main_v7 main_v8 (rfl : (.f32 : EltTy) = .f32) shapeCasts_S64x1x1x4x256x256_S64x4x256x256,
    StableHlo.binary main_v6 main_v8 main_v9 (addf : (⟨S64x4x256x256, .f32⟩ : BufTy).Contents (Elt F) → (⟨S64x4x256x256, .f32⟩ : BufTy).Contents (Elt F) → (⟨S64x4x256x256, .f32⟩ : BufTy).Contents (Elt F)),
    StableHlo.unary main_v1 main_v10 ((extractStridedSlice S64x1x1x4x256x256 ![0, 1, 0, 0, 1, 0] · slices_S64x3x3x4x258x258_S64x1x1x4x256x256_0_1_0_0_1_0) : (⟨S64x3x3x4x258x258, .f32⟩ : BufTy).Contents (Elt F) → (⟨S64x1x1x4x256x256, .f32⟩ : BufTy).Contents (Elt F)),
    StableHlo.reshape main_v10 main_v11 (rfl : (.f32 : EltTy) = .f32) shapeCasts_S64x1x1x4x256x256_S64x4x256x256,
    StableHlo.binary main_v9 main_v11 main_v12 (addf : (⟨S64x4x256x256, .f32⟩ : BufTy).Contents (Elt F) → (⟨S64x4x256x256, .f32⟩ : BufTy).Contents (Elt F) → (⟨S64x4x256x256, .f32⟩ : BufTy).Contents (Elt F)),
    StableHlo.unary main_v1 main_v13 ((extractStridedSlice S64x1x1x4x256x256 ![0, 1, 1, 0, 1, 1] · slices_S64x3x3x4x258x258_S64x1x1x4x256x256_0_1_1_0_1_1) : (⟨S64x3x3x4x258x258, .f32⟩ : BufTy).Contents (Elt F) → (⟨S64x1x1x4x256x256, .f32⟩ : BufTy).Contents (Elt F)),
    StableHlo.reshape main_v13 main_v14 (rfl : (.f32 : EltTy) = .f32) shapeCasts_S64x1x1x4x256x256_S64x4x256x256,
    StableHlo.binary main_v12 main_v14 main_v15 (addf : (⟨S64x4x256x256, .f32⟩ : BufTy).Contents (Elt F) → (⟨S64x4x256x256, .f32⟩ : BufTy).Contents (Elt F) → (⟨S64x4x256x256, .f32⟩ : BufTy).Contents (Elt F)),
    StableHlo.unary main_v1 main_v16 ((extractStridedSlice S64x1x1x4x256x256 ![0, 1, 2, 0, 1, 2] · slices_S64x3x3x4x258x258_S64x1x1x4x256x256_0_1_2_0_1_2) : (⟨S64x3x3x4x258x258, .f32⟩ : BufTy).Contents (Elt F) → (⟨S64x1x1x4x256x256, .f32⟩ : BufTy).Contents (Elt F)),
    StableHlo.reshape main_v16 main_v17 (rfl : (.f32 : EltTy) = .f32) shapeCasts_S64x1x1x4x256x256_S64x4x256x256,
    StableHlo.binary main_v15 main_v17 main_v18 (addf : (⟨S64x4x256x256, .f32⟩ : BufTy).Contents (Elt F) → (⟨S64x4x256x256, .f32⟩ : BufTy).Contents (Elt F) → (⟨S64x4x256x256, .f32⟩ : BufTy).Contents (Elt F)),
    StableHlo.unary main_v1 main_v19 ((extractStridedSlice S64x1x1x4x256x256 ![0, 2, 0, 0, 2, 0] · slices_S64x3x3x4x258x258_S64x1x1x4x256x256_0_2_0_0_2_0) : (⟨S64x3x3x4x258x258, .f32⟩ : BufTy).Contents (Elt F) → (⟨S64x1x1x4x256x256, .f32⟩ : BufTy).Contents (Elt F)),
    StableHlo.reshape main_v19 main_v20 (rfl : (.f32 : EltTy) = .f32) shapeCasts_S64x1x1x4x256x256_S64x4x256x256,
    StableHlo.binary main_v18 main_v20 main_v21 (addf : (⟨S64x4x256x256, .f32⟩ : BufTy).Contents (Elt F) → (⟨S64x4x256x256, .f32⟩ : BufTy).Contents (Elt F) → (⟨S64x4x256x256, .f32⟩ : BufTy).Contents (Elt F)),
    StableHlo.unary main_v1 main_v22 ((extractStridedSlice S64x1x1x4x256x256 ![0, 2, 1, 0, 2, 1] · slices_S64x3x3x4x258x258_S64x1x1x4x256x256_0_2_1_0_2_1) : (⟨S64x3x3x4x258x258, .f32⟩ : BufTy).Contents (Elt F) → (⟨S64x1x1x4x256x256, .f32⟩ : BufTy).Contents (Elt F)),
    StableHlo.reshape main_v22 main_v23 (rfl : (.f32 : EltTy) = .f32) shapeCasts_S64x1x1x4x256x256_S64x4x256x256,
    StableHlo.binary main_v21 main_v23 main_v24 (addf : (⟨S64x4x256x256, .f32⟩ : BufTy).Contents (Elt F) → (⟨S64x4x256x256, .f32⟩ : BufTy).Contents (Elt F) → (⟨S64x4x256x256, .f32⟩ : BufTy).Contents (Elt F)),
    StableHlo.unary main_v1 main_v25 ((extractStridedSlice S64x1x1x4x256x256 ![0, 2, 2, 0, 2, 2] · slices_S64x3x3x4x258x258_S64x1x1x4x256x256_0_2_2_0_2_2) : (⟨S64x3x3x4x258x258, .f32⟩ : BufTy).Contents (Elt F) → (⟨S64x1x1x4x256x256, .f32⟩ : BufTy).Contents (Elt F)),
    StableHlo.reshape main_v25 main_v26 (rfl : (.f32 : EltTy) = .f32) shapeCasts_S64x1x1x4x256x256_S64x4x256x256,
    StableHlo.binary main_v24 main_v26 main_v27 (addf : (⟨S64x4x256x256, .f32⟩ : BufTy).Contents (Elt F) → (⟨S64x4x256x256, .f32⟩ : BufTy).Contents (Elt F) → (⟨S64x4x256x256, .f32⟩ : BufTy).Contents (Elt F)),
    StableHlo.unary main_v27 main_v28 ((transpose S4x64x256x256 [1, 0, 2, 3] · transposes_S64x4x256x256_S4x64x256x256_1_0_2_3) : (⟨S64x4x256x256, .f32⟩ : BufTy).Contents (Elt F) → (⟨S4x64x256x256, .f32⟩ : BufTy).Contents (Elt F)),
    StableHlo.unary main_arg2 main_v29 (broadcastInDim S1x64x1x1 ![1] bcast_S64_S1x64x1x1_1 : (⟨S64, .f32⟩ : BufTy).Contents (Elt F) → (⟨S1x64x1x1, .f32⟩ : BufTy).Contents (Elt F)),
    StableHlo.unary main_v29 main_v30 (broadcastInDim S4x64x256x256 ![0, 1, 2, 3] bcast_S1x64x1x1_S4x64x256x256_0_1_2_3 : (⟨S1x64x1x1, .f32⟩ : BufTy).Contents (Elt F) → (⟨S4x64x256x256, .f32⟩ : BufTy).Contents (Elt F)),
    StableHlo.binary main_v28 main_v30 main_v31 (addf : (⟨S4x64x256x256, .f32⟩ : BufTy).Contents (Elt F) → (⟨S4x64x256x256, .f32⟩ : BufTy).Contents (Elt F) → (⟨S4x64x256x256, .f32⟩ : BufTy).Contents (Elt F)),
    StableHlo.TRef.nullary (StableHlo.TRef.of (T := ⟨S_, .f32⟩) main_call0_cst) (constant S_ .f32 0x00000000#32),
    StableHlo.TRef.unary (StableHlo.TRef.of (T := ⟨S_, .f32⟩) main_call0_cst) (StableHlo.TRef.of (T := ⟨S4x64x256x256, .f32⟩) main_call0_v0) (broadcastInDim S4x64x256x256 ![] bcast_S_S4x64x256x256),
    StableHlo.TRef.binary (StableHlo.TRef.of (T := ⟨S4x64x256x256, .f32⟩) main_v31) (StableHlo.TRef.of (T := ⟨S4x64x256x256, .f32⟩) main_call0_v0) (StableHlo.TRef.of (T := ⟨S4x64x256x256, .f32⟩) main_v32) maximumf ]
/-- What `enc1` writes. -/
abbrev enc1_W : List (Ref sig .tc) := [main_cst, main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_call0_cst, main_call0_v0, main_v32]
set_option maxRecDepth 8192 in
/-- `enc1` writes what is listed. -/
theorem enc1_writes : (enc1 : List (HloOp τ sig (Elt F))).Forall fun op => op.writes ⊆ (enc1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, Finset.singleton_subset_iff, List.mem_toFinset]; exact List.mem_map_of_mem (by decide))
set_option maxRecDepth 8192 in
/-- `enc1` touches only named buffers. -/
theorem enc1_sub : (enc1 : List (HloOp τ sig (Elt F))).Forall fun op => op.bufs ⊆ tcRefs τ sig :=
  ⟨nullary_bufs_sub .., binary_bufs_sub .., binary_bufs_sub .., unary_bufs_sub .., reshape_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., unary_bufs_sub .., unary_bufs_sub .., binary_bufs_sub .., nullary_bufs_sub .., unary_bufs_sub .., binary_bufs_sub ..⟩
set_option maxRecDepth 8192 in
/-- `enc1` makes no buffer. -/
theorem enc1_fresh : (enc1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations of `enc2a`. -/
abbrev enc2a : List (HloOp τ sig (Elt F)) :=
  [ StableHlo.nullary main_cst_0 (constant S_ .f32 0x00000000#32),
    StableHlo.binary main_v32 main_cst_0 main_v33 ((fun x v => pad S4x64x258x258 ![0, 0, 1, 1] ![0, 0, 1, 1] ![0, 0, 0, 0] x v pads_S4x64x256x256_S4x64x258x258_000_000_110_110 h_S_) : (⟨S4x64x256x256, .f32⟩ : BufTy).Contents (Elt F) → (⟨S_, .f32⟩ : BufTy).Contents (Elt F) → (⟨S4x64x258x258, .f32⟩ : BufTy).Contents (Elt F)),
    StableHlo.binary main_arg3 main_v33 main_v34 ((fun l r => Host.dotGeneral dot_S128x64x3x3_S4x64x258x258_S128x3x3x4x258x258_1_1_023_023_n_n none l r) : (⟨S128x64x3x3, .f32⟩ : BufTy).Contents (Elt F) → (⟨S4x64x258x258, .f32⟩ : BufTy).Contents (Elt F) → (⟨S128x3x3x4x258x258, .f32⟩ : BufTy).Contents (Elt F)),
    StableHlo.unary main_v34 main_v35 ((Host.slice S128x1x1x4x128x128 ![0, 0, 0, 0, 0, 0] ![1, 1, 1, 1, 2, 2] · slicesBy_S128x3x3x4x258x258_S128x1x1x4x128x128_0s1_0s1_0s1_0s1_0s2_0s2) : (⟨S128x3x3x4x258x258, .f32⟩ : BufTy).Contents (Elt F) → (⟨S128x1x1x4x128x128, .f32⟩ : BufTy).Contents (Elt F)),
    StableHlo.reshape main_v35 main_v36 (rfl : (.f32 : EltTy) = .f32) shapeCasts_S128x1x1x4x128x128_S128x4x128x128,
    StableHlo.unary main_v34 main_v37 ((Host.slice S128x1x1x4x128x128 ![0, 0, 1, 0, 0, 1] ![1, 1, 1, 1, 2, 2] · slicesBy_S128x3x3x4x258x258_S128x1x1x4x128x128_0s1_0s1_1s1_0s1_0s2_1s2) : (⟨S128x3x3x4x258x258, .f32⟩ : BufTy).Contents (Elt F) → (⟨S128x1x1x4x128x128, .f32⟩ : BufTy).Contents (Elt F)),
    StableHlo.reshape main_v37 main_v38 (rfl : (.f32 : EltTy) = .f32) shapeCasts_S128x1x1x4x128x128_S128x4x128x128,
    StableHlo.binary main_v36 main_v38 main_v39 (addf : (⟨S128x4x128x128, .f32⟩ : BufTy).Contents (Elt F) → (⟨S128x4x128x128, .f32⟩ : BufTy).Contents (Elt F) → (⟨S128x4x128x128, .f32⟩ : BufTy).Contents (Elt F)),
    StableHlo.unary main_v34 main_v40 ((Host.slice S128x1x1x4x128x128 ![0, 0, 2, 0, 0, 2] ![1, 1, 1, 1, 2, 2] · slicesBy_S128x3x3x4x258x258_S128x1x1x4x128x128_0s1_0s1_2s1_0s1_0s2_2s2) : (⟨S128x3x3x4x258x258, .f32⟩ : BufTy).Contents (Elt F) → (⟨S128x1x1x4x128x128, .f32⟩ : BufTy).Contents (Elt F)),
    StableHlo.reshape main_v40 main_v41 (rfl : (.f32 : EltTy) = .f32) shapeCasts_S128x1x1x4x128x128_S128x4x128x128,
    StableHlo.binary main_v39 main_v41 main_v42 (addf : (⟨S128x4x128x128, .f32⟩ : BufTy).Contents (Elt F) → (⟨S128x4x128x128, .f32⟩ : BufTy).Contents (Elt F) → (⟨S128x4x128x128, .f32⟩ : BufTy).Contents (Elt F)),
    StableHlo.unary main_v34 main_v43 ((Host.slice S128x1x1x4x128x128 ![0, 1, 0, 0, 1, 0] ![1, 1, 1, 1, 2, 2] · slicesBy_S128x3x3x4x258x258_S128x1x1x4x128x128_0s1_1s1_0s1_0s1_1s2_0s2) : (⟨S128x3x3x4x258x258, .f32⟩ : BufTy).Contents (Elt F) → (⟨S128x1x1x4x128x128, .f32⟩ : BufTy).Contents (Elt F)),
    StableHlo.reshape main_v43 main_v44 (rfl : (.f32 : EltTy) = .f32) shapeCasts_S128x1x1x4x128x128_S128x4x128x128,
    StableHlo.binary main_v42 main_v44 main_v45 (addf : (⟨S128x4x128x128, .f32⟩ : BufTy).Contents (Elt F) → (⟨S128x4x128x128, .f32⟩ : BufTy).Contents (Elt F) → (⟨S128x4x128x128, .f32⟩ : BufTy).Contents (Elt F)),
    StableHlo.unary main_v34 main_v46 ((Host.slice S128x1x1x4x128x128 ![0, 1, 1, 0, 1, 1] ![1, 1, 1, 1, 2, 2] · slicesBy_S128x3x3x4x258x258_S128x1x1x4x128x128_0s1_1s1_1s1_0s1_1s2_1s2) : (⟨S128x3x3x4x258x258, .f32⟩ : BufTy).Contents (Elt F) → (⟨S128x1x1x4x128x128, .f32⟩ : BufTy).Contents (Elt F)),
    StableHlo.reshape main_v46 main_v47 (rfl : (.f32 : EltTy) = .f32) shapeCasts_S128x1x1x4x128x128_S128x4x128x128,
    StableHlo.binary main_v45 main_v47 main_v48 (addf : (⟨S128x4x128x128, .f32⟩ : BufTy).Contents (Elt F) → (⟨S128x4x128x128, .f32⟩ : BufTy).Contents (Elt F) → (⟨S128x4x128x128, .f32⟩ : BufTy).Contents (Elt F)),
    StableHlo.unary main_v34 main_v49 ((Host.slice S128x1x1x4x128x128 ![0, 1, 2, 0, 1, 2] ![1, 1, 1, 1, 2, 2] · slicesBy_S128x3x3x4x258x258_S128x1x1x4x128x128_0s1_1s1_2s1_0s1_1s2_2s2) : (⟨S128x3x3x4x258x258, .f32⟩ : BufTy).Contents (Elt F) → (⟨S128x1x1x4x128x128, .f32⟩ : BufTy).Contents (Elt F)),
    StableHlo.reshape main_v49 main_v50 (rfl : (.f32 : EltTy) = .f32) shapeCasts_S128x1x1x4x128x128_S128x4x128x128,
    StableHlo.binary main_v48 main_v50 main_v51 (addf : (⟨S128x4x128x128, .f32⟩ : BufTy).Contents (Elt F) → (⟨S128x4x128x128, .f32⟩ : BufTy).Contents (Elt F) → (⟨S128x4x128x128, .f32⟩ : BufTy).Contents (Elt F)),
    StableHlo.unary main_v34 main_v52 ((Host.slice S128x1x1x4x128x128 ![0, 2, 0, 0, 2, 0] ![1, 1, 1, 1, 2, 2] · slicesBy_S128x3x3x4x258x258_S128x1x1x4x128x128_0s1_2s1_0s1_0s1_2s2_0s2) : (⟨S128x3x3x4x258x258, .f32⟩ : BufTy).Contents (Elt F) → (⟨S128x1x1x4x128x128, .f32⟩ : BufTy).Contents (Elt F)),
    StableHlo.reshape main_v52 main_v53 (rfl : (.f32 : EltTy) = .f32) shapeCasts_S128x1x1x4x128x128_S128x4x128x128,
    StableHlo.binary main_v51 main_v53 main_v54 (addf : (⟨S128x4x128x128, .f32⟩ : BufTy).Contents (Elt F) → (⟨S128x4x128x128, .f32⟩ : BufTy).Contents (Elt F) → (⟨S128x4x128x128, .f32⟩ : BufTy).Contents (Elt F)),
    StableHlo.unary main_v34 main_v55 ((Host.slice S128x1x1x4x128x128 ![0, 2, 1, 0, 2, 1] ![1, 1, 1, 1, 2, 2] · slicesBy_S128x3x3x4x258x258_S128x1x1x4x128x128_0s1_2s1_1s1_0s1_2s2_1s2) : (⟨S128x3x3x4x258x258, .f32⟩ : BufTy).Contents (Elt F) → (⟨S128x1x1x4x128x128, .f32⟩ : BufTy).Contents (Elt F)),
    StableHlo.reshape main_v55 main_v56 (rfl : (.f32 : EltTy) = .f32) shapeCasts_S128x1x1x4x128x128_S128x4x128x128,
    StableHlo.binary main_v54 main_v56 main_v57 (addf : (⟨S128x4x128x128, .f32⟩ : BufTy).Contents (Elt F) → (⟨S128x4x128x128, .f32⟩ : BufTy).Contents (Elt F) → (⟨S128x4x128x128, .f32⟩ : BufTy).Contents (Elt F)) ]
/-- What `enc2a` writes. -/
abbrev enc2a_W : List (Ref sig .tc) := [main_cst_0, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57]
set_option maxRecDepth 8192 in
/-- `enc2a` writes what is listed. -/
theorem enc2a_writes : (enc2a : List (HloOp τ sig (Elt F))).Forall fun op => op.writes ⊆ (enc2a_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, Finset.singleton_subset_iff, List.mem_toFinset]; exact List.mem_map_of_mem (by decide))
set_option maxRecDepth 8192 in
/-- `enc2a` touches only named buffers. -/
theorem enc2a_sub : (enc2a : List (HloOp τ sig (Elt F))).Forall fun op => op.bufs ⊆ tcRefs τ sig :=
  ⟨nullary_bufs_sub .., binary_bufs_sub .., binary_bufs_sub .., unary_bufs_sub .., reshape_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub ..⟩
set_option maxRecDepth 8192 in
/-- `enc2a` makes no buffer. -/
theorem enc2a_fresh : (enc2a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

/-- The operations of `enc2b`. -/
abbrev enc2b : List (HloOp τ sig (Elt F)) :=
  [ StableHlo.unary main_v34 main_v58 ((Host.slice S128x1x1x4x128x128 ![0, 2, 2, 0, 2, 2] ![1, 1, 1, 1, 2, 2] · slicesBy_S128x3x3x4x258x258_S128x1x1x4x128x128_0s1_2s1_2s1_0s1_2s2_2s2) : (⟨S128x3x3x4x258x258, .f32⟩ : BufTy).Contents (Elt F) → (⟨S128x1x1x4x128x128, .f32⟩ : BufTy).Contents (Elt F)),
    StableHlo.reshape main_v58 main_v59 (rfl : (.f32 : EltTy) = .f32) shapeCasts_S128x1x1x4x128x128_S128x4x128x128,
    StableHlo.binary main_v57 main_v59 main_v60 (addf : (⟨S128x4x128x128, .f32⟩ : BufTy).Contents (Elt F) → (⟨S128x4x128x128, .f32⟩ : BufTy).Contents (Elt F) → (⟨S128x4x128x128, .f32⟩ : BufTy).Contents (Elt F)),
    StableHlo.unary main_v60 main_v61 ((transpose S4x128x128x128 [1, 0, 2, 3] · transposes_S128x4x128x128_S4x128x128x128_1_0_2_3) : (⟨S128x4x128x128, .f32⟩ : BufTy).Contents (Elt F) → (⟨S4x128x128x128, .f32⟩ : BufTy).Contents (Elt F)),
    StableHlo.unary main_arg4 main_v62 (broadcastInDim S1x128x1x1 ![1] bcast_S128_S1x128x1x1_1 : (⟨S128, .f32⟩ : BufTy).Contents (Elt F) → (⟨S1x128x1x1, .f32⟩ : BufTy).Contents (Elt F)),
    StableHlo.unary main_v62 main_v63 (broadcastInDim S4x128x128x128 ![0, 1, 2, 3] bcast_S1x128x1x1_S4x128x128x128_0_1_2_3 : (⟨S1x128x1x1, .f32⟩ : BufTy).Contents (Elt F) → (⟨S4x128x128x128, .f32⟩ : BufTy).Contents (Elt F)),
    StableHlo.binary main_v61 main_v63 main_v64 (addf : (⟨S4x128x128x128, .f32⟩ : BufTy).Contents (Elt F) → (⟨S4x128x128x128, .f32⟩ : BufTy).Contents (Elt F) → (⟨S4x128x128x128, .f32⟩ : BufTy).Contents (Elt F)),
    StableHlo.TRef.nullary (StableHlo.TRef.of (T := ⟨S_, .f32⟩) main_call1_cst) (constant S_ .f32 0x00000000#32),
    StableHlo.TRef.unary (StableHlo.TRef.of (T := ⟨S_, .f32⟩) main_call1_cst) (StableHlo.TRef.of (T := ⟨S4x128x128x128, .f32⟩) main_call1_v0) (broadcastInDim S4x128x128x128 ![] bcast_S_S4x128x128x128),
    StableHlo.TRef.binary (StableHlo.TRef.of (T := ⟨S4x128x128x128, .f32⟩) main_v64) (StableHlo.TRef.of (T := ⟨S4x128x128x128, .f32⟩) main_call1_v0) (StableHlo.TRef.of (T := ⟨S4x128x128x128, .f32⟩) main_v65) maximumf ]
/-- What `enc2b` writes. -/
abbrev enc2b_W : List (Ref sig .tc) := [main_v58, main_v59, main_v60, main_v61, main_v62, main_v63, main_v64, main_call1_cst, main_call1_v0, main_v65]
set_option maxRecDepth 8192 in
/-- `enc2b` writes what is listed. -/
theorem enc2b_writes : (enc2b : List (HloOp τ sig (Elt F))).Forall fun op => op.writes ⊆ (enc2b_W.map (Proc.devRef (τ := τ) .tc)).toFinset := by
  simp only [List.Forall]
  refine ⟨?_, ?_, ?_, ?_, ?_, ?_, ?_, ?_, ?_, ?_⟩ <;> (simp only [nullary_writes, unary_writes, binary_writes, ternary_writes, quaternary_writes, reshape_writes, Finset.singleton_subset_iff, List.mem_toFinset]; exact List.mem_map_of_mem (by decide))
set_option maxRecDepth 8192 in
/-- `enc2b` touches only named buffers. -/
theorem enc2b_sub : (enc2b : List (HloOp τ sig (Elt F))).Forall fun op => op.bufs ⊆ tcRefs τ sig :=
  ⟨unary_bufs_sub .., reshape_bufs_sub .., binary_bufs_sub .., unary_bufs_sub .., unary_bufs_sub .., unary_bufs_sub .., binary_bufs_sub .., nullary_bufs_sub .., unary_bufs_sub .., binary_bufs_sub ..⟩
set_option maxRecDepth 8192 in
/-- `enc2b` makes no buffer. -/
theorem enc2b_fresh : (enc2b : List (HloOp τ sig (Elt F))).Forall fun op => op.fresh = ∅ :=
  ⟨rfl, rfl, rfl, rfl, rfl, rfl, rfl, rfl, rfl, rfl⟩

/-- The operations of `enc3`. -/
abbrev enc3 : List (HloOp τ sig (Elt F)) :=
  [ StableHlo.nullary main_cst_1 (constant S_ .f32 0x00000000#32),
    StableHlo.binary main_v65 main_cst_1 main_v66 ((fun x v => pad S4x128x130x130 ![0, 0, 1, 1] ![0, 0, 1, 1] ![0, 0, 0, 0] x v pads_S4x128x128x128_S4x128x130x130_000_000_110_110 h_S_) : (⟨S4x128x128x128, .f32⟩ : BufTy).Contents (Elt F) → (⟨S_, .f32⟩ : BufTy).Contents (Elt F) → (⟨S4x128x130x130, .f32⟩ : BufTy).Contents (Elt F)),
    StableHlo.binary main_arg5 main_v66 main_v67 ((fun l r => Host.dotGeneral dot_S256x128x3x3_S4x128x130x130_S256x3x3x4x130x130_1_1_023_023_n_n none l r) : (⟨S256x128x3x3, .f32⟩ : BufTy).Contents (Elt F) → (⟨S4x128x130x130, .f32⟩ : BufTy).Contents (Elt F) → (⟨S256x3x3x4x130x130, .f32⟩ : BufTy).Contents (Elt F)),
    StableHlo.unary main_v67 main_v68 ((Host.slice S256x1x1x4x64x64 ![0, 0, 0, 0, 0, 0] ![1, 1, 1, 1, 2, 2] · slicesBy_S256x3x3x4x130x130_S256x1x1x4x64x64_0s1_0s1_0s1_0s1_0s2_0s2) : (⟨S256x3x3x4x130x130, .f32⟩ : BufTy).Contents (Elt F) → (⟨S256x1x1x4x64x64, .f32⟩ : BufTy).Contents (Elt F)),
    StableHlo.reshape main_v68 main_v69 (rfl : (.f32 : EltTy) = .f32) shapeCasts_S256x1x1x4x64x64_S256x4x64x64,
    StableHlo.unary main_v67 main_v70 ((Host.slice S256x1x1x4x64x64 ![0, 0, 1, 0, 0, 1] ![1, 1, 1, 1, 2, 2] · slicesBy_S256x3x3x4x130x130_S256x1x1x4x64x64_0s1_0s1_1s1_0s1_0s2_1s2) : (⟨S256x3x3x4x130x130, .f32⟩ : BufTy).Contents (Elt F) → (⟨S256x1x1x4x64x64, .f32⟩ : BufTy).Contents (Elt F)),
    StableHlo.reshape main_v70 main_v71 (rfl : (.f32 : EltTy) = .f32) shapeCasts_S256x1x1x4x64x64_S256x4x64x64,
    StableHlo.binary main_v69 main_v71 main_v72 (addf : (⟨S256x4x64x64, .f32⟩ : BufTy).Contents (Elt F) → (⟨S256x4x64x64, .f32⟩ : BufTy).Contents (Elt F) → (⟨S256x4x64x64, .f32⟩ : BufTy).Contents (Elt F)),
    StableHlo.unary main_v67 main_v73 ((Host.slice S256x1x1x4x64x64 ![0, 0, 2, 0, 0, 2] ![1, 1, 1, 1, 2, 2] · slicesBy_S256x3x3x4x130x130_S256x1x1x4x64x64_0s1_0s1_2s1_0s1_0s2_2s2) : (⟨S256x3x3x4x130x130, .f32⟩ : BufTy).Contents (Elt F) → (⟨S256x1x1x4x64x64, .f32⟩ : BufTy).Contents (Elt F)),
    StableHlo.reshape main_v73 main_v74 (rfl : (.f32 : EltTy) = .f32) shapeCasts_S256x1x1x4x64x64_S256x4x64x64,
    StableHlo.binary main_v72 main_v74 main_v75 (addf : (⟨S256x4x64x64, .f32⟩ : BufTy).Contents (Elt F) → (⟨S256x4x64x64, .f32⟩ : BufTy).Contents (Elt F) → (⟨S256x4x64x64, .f32⟩ : BufTy).Contents (Elt F)),
    StableHlo.unary main_v67 main_v76 ((Host.slice S256x1x1x4x64x64 ![0, 1, 0, 0, 1, 0] ![1, 1, 1, 1, 2, 2] · slicesBy_S256x3x3x4x130x130_S256x1x1x4x64x64_0s1_1s1_0s1_0s1_1s2_0s2) : (⟨S256x3x3x4x130x130, .f32⟩ : BufTy).Contents (Elt F) → (⟨S256x1x1x4x64x64, .f32⟩ : BufTy).Contents (Elt F)),
    StableHlo.reshape main_v76 main_v77 (rfl : (.f32 : EltTy) = .f32) shapeCasts_S256x1x1x4x64x64_S256x4x64x64,
    StableHlo.binary main_v75 main_v77 main_v78 (addf : (⟨S256x4x64x64, .f32⟩ : BufTy).Contents (Elt F) → (⟨S256x4x64x64, .f32⟩ : BufTy).Contents (Elt F) → (⟨S256x4x64x64, .f32⟩ : BufTy).Contents (Elt F)),
    StableHlo.unary main_v67 main_v79 ((Host.slice S256x1x1x4x64x64 ![0, 1, 1, 0, 1, 1] ![1, 1, 1, 1, 2, 2] · slicesBy_S256x3x3x4x130x130_S256x1x1x4x64x64_0s1_1s1_1s1_0s1_1s2_1s2) : (⟨S256x3x3x4x130x130, .f32⟩ : BufTy).Contents (Elt F) → (⟨S256x1x1x4x64x64, .f32⟩ : BufTy).Contents (Elt F)),
    StableHlo.reshape main_v79 main_v80 (rfl : (.f32 : EltTy) = .f32) shapeCasts_S256x1x1x4x64x64_S256x4x64x64,
    StableHlo.binary main_v78 main_v80 main_v81 (addf : (⟨S256x4x64x64, .f32⟩ : BufTy).Contents (Elt F) → (⟨S256x4x64x64, .f32⟩ : BufTy).Contents (Elt F) → (⟨S256x4x64x64, .f32⟩ : BufTy).Contents (Elt F)),
    StableHlo.unary main_v67 main_v82 ((Host.slice S256x1x1x4x64x64 ![0, 1, 2, 0, 1, 2] ![1, 1, 1, 1, 2, 2] · slicesBy_S256x3x3x4x130x130_S256x1x1x4x64x64_0s1_1s1_2s1_0s1_1s2_2s2) : (⟨S256x3x3x4x130x130, .f32⟩ : BufTy).Contents (Elt F) → (⟨S256x1x1x4x64x64, .f32⟩ : BufTy).Contents (Elt F)),
    StableHlo.reshape main_v82 main_v83 (rfl : (.f32 : EltTy) = .f32) shapeCasts_S256x1x1x4x64x64_S256x4x64x64,
    StableHlo.binary main_v81 main_v83 main_v84 (addf : (⟨S256x4x64x64, .f32⟩ : BufTy).Contents (Elt F) → (⟨S256x4x64x64, .f32⟩ : BufTy).Contents (Elt F) → (⟨S256x4x64x64, .f32⟩ : BufTy).Contents (Elt F)),
    StableHlo.unary main_v67 main_v85 ((Host.slice S256x1x1x4x64x64 ![0, 2, 0, 0, 2, 0] ![1, 1, 1, 1, 2, 2] · slicesBy_S256x3x3x4x130x130_S256x1x1x4x64x64_0s1_2s1_0s1_0s1_2s2_0s2) : (⟨S256x3x3x4x130x130, .f32⟩ : BufTy).Contents (Elt F) → (⟨S256x1x1x4x64x64, .f32⟩ : BufTy).Contents (Elt F)),
    StableHlo.reshape main_v85 main_v86 (rfl : (.f32 : EltTy) = .f32) shapeCasts_S256x1x1x4x64x64_S256x4x64x64,
    StableHlo.binary main_v84 main_v86 main_v87 (addf : (⟨S256x4x64x64, .f32⟩ : BufTy).Contents (Elt F) → (⟨S256x4x64x64, .f32⟩ : BufTy).Contents (Elt F) → (⟨S256x4x64x64, .f32⟩ : BufTy).Contents (Elt F)),
    StableHlo.unary main_v67 main_v88 ((Host.slice S256x1x1x4x64x64 ![0, 2, 1, 0, 2, 1] ![1, 1, 1, 1, 2, 2] · slicesBy_S256x3x3x4x130x130_S256x1x1x4x64x64_0s1_2s1_1s1_0s1_2s2_1s2) : (⟨S256x3x3x4x130x130, .f32⟩ : BufTy).Contents (Elt F) → (⟨S256x1x1x4x64x64, .f32⟩ : BufTy).Contents (Elt F)),
    StableHlo.reshape main_v88 main_v89 (rfl : (.f32 : EltTy) = .f32) shapeCasts_S256x1x1x4x64x64_S256x4x64x64,
    StableHlo.binary main_v87 main_v89 main_v90 (addf : (⟨S256x4x64x64, .f32⟩ : BufTy).Contents (Elt F) → (⟨S256x4x64x64, .f32⟩ : BufTy).Contents (Elt F) → (⟨S256x4x64x64, .f32⟩ : BufTy).Contents (Elt F)),
    StableHlo.unary main_v67 main_v91 ((Host.slice S256x1x1x4x64x64 ![0, 2, 2, 0, 2, 2] ![1, 1, 1, 1, 2, 2] · slicesBy_S256x3x3x4x130x130_S256x1x1x4x64x64_0s1_2s1_2s1_0s1_2s2_2s2) : (⟨S256x3x3x4x130x130, .f32⟩ : BufTy).Contents (Elt F) → (⟨S256x1x1x4x64x64, .f32⟩ : BufTy).Contents (Elt F)),
    StableHlo.reshape main_v91 main_v92 (rfl : (.f32 : EltTy) = .f32) shapeCasts_S256x1x1x4x64x64_S256x4x64x64,
    StableHlo.binary main_v90 main_v92 main_v93 (addf : (⟨S256x4x64x64, .f32⟩ : BufTy).Contents (Elt F) → (⟨S256x4x64x64, .f32⟩ : BufTy).Contents (Elt F) → (⟨S256x4x64x64, .f32⟩ : BufTy).Contents (Elt F)),
    StableHlo.unary main_v93 main_v94 ((transpose S4x256x64x64 [1, 0, 2, 3] · transposes_S256x4x64x64_S4x256x64x64_1_0_2_3) : (⟨S256x4x64x64, .f32⟩ : BufTy).Contents (Elt F) → (⟨S4x256x64x64, .f32⟩ : BufTy).Contents (Elt F)),
    StableHlo.unary main_arg6 main_v95 (broadcastInDim S1x256x1x1 ![1] bcast_S256_S1x256x1x1_1 : (⟨S256, .f32⟩ : BufTy).Contents (Elt F) → (⟨S1x256x1x1, .f32⟩ : BufTy).Contents (Elt F)),
    StableHlo.unary main_v95 main_v96 (broadcastInDim S4x256x64x64 ![0, 1, 2, 3] bcast_S1x256x1x1_S4x256x64x64_0_1_2_3 : (⟨S1x256x1x1, .f32⟩ : BufTy).Contents (Elt F) → (⟨S4x256x64x64, .f32⟩ : BufTy).Contents (Elt F)),
    StableHlo.binary main_v94 main_v96 main_v97 (addf : (⟨S4x256x64x64, .f32⟩ : BufTy).Contents (Elt F) → (⟨S4x256x64x64, .f32⟩ : BufTy).Contents (Elt F) → (⟨S4x256x64x64, .f32⟩ : BufTy).Contents (Elt F)),
    StableHlo.TRef.nullary (StableHlo.TRef.of (T := ⟨S_, .f32⟩) main_call2_cst) (constant S_ .f32 0x00000000#32),
    StableHlo.TRef.unary (StableHlo.TRef.of (T := ⟨S_, .f32⟩) main_call2_cst) (StableHlo.TRef.of (T := ⟨S4x256x64x64, .f32⟩) main_call2_v0) (broadcastInDim S4x256x64x64 ![] bcast_S_S4x256x64x64),
    StableHlo.TRef.binary (StableHlo.TRef.of (T := ⟨S4x256x64x64, .f32⟩) main_v97) (StableHlo.TRef.of (T := ⟨S4x256x64x64, .f32⟩) main_call2_v0) (StableHlo.TRef.of (T := ⟨S4x256x64x64, .f32⟩) main_v98) maximumf ]
/-- What `enc3` writes. -/
abbrev enc3_W : List (Ref sig .tc) := [main_cst_1, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_call2_cst, main_call2_v0, main_v98]
set_option maxRecDepth 8192 in
/-- `enc3` writes what is listed. -/
theorem enc3_writes : (enc3 : List (HloOp τ sig (Elt F))).Forall fun op => op.writes ⊆ (enc3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, Finset.singleton_subset_iff, List.mem_toFinset]; exact List.mem_map_of_mem (by decide))
set_option maxRecDepth 8192 in
/-- `enc3` touches only named buffers. -/
theorem enc3_sub : (enc3 : List (HloOp τ sig (Elt F))).Forall fun op => op.bufs ⊆ tcRefs τ sig :=
  ⟨nullary_bufs_sub .., binary_bufs_sub .., binary_bufs_sub .., unary_bufs_sub .., reshape_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., unary_bufs_sub .., unary_bufs_sub .., binary_bufs_sub .., nullary_bufs_sub .., unary_bufs_sub .., binary_bufs_sub ..⟩
set_option maxRecDepth 8192 in
/-- `enc3` makes no buffer. -/
theorem enc3_fresh : (enc3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations of `enc4a`. -/
abbrev enc4a : List (HloOp τ sig (Elt F)) :=
  [ StableHlo.nullary main_cst_2 (constant S_ .f32 0x00000000#32),
    StableHlo.binary main_v98 main_cst_2 main_v99 ((fun x v => pad S4x256x66x66 ![0, 0, 1, 1] ![0, 0, 1, 1] ![0, 0, 0, 0] x v pads_S4x256x64x64_S4x256x66x66_000_000_110_110 h_S_) : (⟨S4x256x64x64, .f32⟩ : BufTy).Contents (Elt F) → (⟨S_, .f32⟩ : BufTy).Contents (Elt F) → (⟨S4x256x66x66, .f32⟩ : BufTy).Contents (Elt F)),
    StableHlo.binary main_arg7 main_v99 main_v100 ((fun l r => Host.dotGeneral dot_S512x256x3x3_S4x256x66x66_S512x3x3x4x66x66_1_1_023_023_n_n none l r) : (⟨S512x256x3x3, .f32⟩ : BufTy).Contents (Elt F) → (⟨S4x256x66x66, .f32⟩ : BufTy).Contents (Elt F) → (⟨S512x3x3x4x66x66, .f32⟩ : BufTy).Contents (Elt F)),
    StableHlo.unary main_v100 main_v101 ((Host.slice S512x1x1x4x32x32 ![0, 0, 0, 0, 0, 0] ![1, 1, 1, 1, 2, 2] · slicesBy_S512x3x3x4x66x66_S512x1x1x4x32x32_0s1_0s1_0s1_0s1_0s2_0s2) : (⟨S512x3x3x4x66x66, .f32⟩ : BufTy).Contents (Elt F) → (⟨S512x1x1x4x32x32, .f32⟩ : BufTy).Contents (Elt F)),
    StableHlo.reshape main_v101 main_v102 (rfl : (.f32 : EltTy) = .f32) shapeCasts_S512x1x1x4x32x32_S512x4x32x32,
    StableHlo.unary main_v100 main_v103 ((Host.slice S512x1x1x4x32x32 ![0, 0, 1, 0, 0, 1] ![1, 1, 1, 1, 2, 2] · slicesBy_S512x3x3x4x66x66_S512x1x1x4x32x32_0s1_0s1_1s1_0s1_0s2_1s2) : (⟨S512x3x3x4x66x66, .f32⟩ : BufTy).Contents (Elt F) → (⟨S512x1x1x4x32x32, .f32⟩ : BufTy).Contents (Elt F)),
    StableHlo.reshape main_v103 main_v104 (rfl : (.f32 : EltTy) = .f32) shapeCasts_S512x1x1x4x32x32_S512x4x32x32,
    StableHlo.binary main_v102 main_v104 main_v105 (addf : (⟨S512x4x32x32, .f32⟩ : BufTy).Contents (Elt F) → (⟨S512x4x32x32, .f32⟩ : BufTy).Contents (Elt F) → (⟨S512x4x32x32, .f32⟩ : BufTy).Contents (Elt F)),
    StableHlo.unary main_v100 main_v106 ((Host.slice S512x1x1x4x32x32 ![0, 0, 2, 0, 0, 2] ![1, 1, 1, 1, 2, 2] · slicesBy_S512x3x3x4x66x66_S512x1x1x4x32x32_0s1_0s1_2s1_0s1_0s2_2s2) : (⟨S512x3x3x4x66x66, .f32⟩ : BufTy).Contents (Elt F) → (⟨S512x1x1x4x32x32, .f32⟩ : BufTy).Contents (Elt F)),
    StableHlo.reshape main_v106 main_v107 (rfl : (.f32 : EltTy) = .f32) shapeCasts_S512x1x1x4x32x32_S512x4x32x32,
    StableHlo.binary main_v105 main_v107 main_v108 (addf : (⟨S512x4x32x32, .f32⟩ : BufTy).Contents (Elt F) → (⟨S512x4x32x32, .f32⟩ : BufTy).Contents (Elt F) → (⟨S512x4x32x32, .f32⟩ : BufTy).Contents (Elt F)),
    StableHlo.unary main_v100 main_v109 ((Host.slice S512x1x1x4x32x32 ![0, 1, 0, 0, 1, 0] ![1, 1, 1, 1, 2, 2] · slicesBy_S512x3x3x4x66x66_S512x1x1x4x32x32_0s1_1s1_0s1_0s1_1s2_0s2) : (⟨S512x3x3x4x66x66, .f32⟩ : BufTy).Contents (Elt F) → (⟨S512x1x1x4x32x32, .f32⟩ : BufTy).Contents (Elt F)),
    StableHlo.reshape main_v109 main_v110 (rfl : (.f32 : EltTy) = .f32) shapeCasts_S512x1x1x4x32x32_S512x4x32x32,
    StableHlo.binary main_v108 main_v110 main_v111 (addf : (⟨S512x4x32x32, .f32⟩ : BufTy).Contents (Elt F) → (⟨S512x4x32x32, .f32⟩ : BufTy).Contents (Elt F) → (⟨S512x4x32x32, .f32⟩ : BufTy).Contents (Elt F)),
    StableHlo.unary main_v100 main_v112 ((Host.slice S512x1x1x4x32x32 ![0, 1, 1, 0, 1, 1] ![1, 1, 1, 1, 2, 2] · slicesBy_S512x3x3x4x66x66_S512x1x1x4x32x32_0s1_1s1_1s1_0s1_1s2_1s2) : (⟨S512x3x3x4x66x66, .f32⟩ : BufTy).Contents (Elt F) → (⟨S512x1x1x4x32x32, .f32⟩ : BufTy).Contents (Elt F)),
    StableHlo.reshape main_v112 main_v113 (rfl : (.f32 : EltTy) = .f32) shapeCasts_S512x1x1x4x32x32_S512x4x32x32,
    StableHlo.binary main_v111 main_v113 main_v114 (addf : (⟨S512x4x32x32, .f32⟩ : BufTy).Contents (Elt F) → (⟨S512x4x32x32, .f32⟩ : BufTy).Contents (Elt F) → (⟨S512x4x32x32, .f32⟩ : BufTy).Contents (Elt F)),
    StableHlo.unary main_v100 main_v115 ((Host.slice S512x1x1x4x32x32 ![0, 1, 2, 0, 1, 2] ![1, 1, 1, 1, 2, 2] · slicesBy_S512x3x3x4x66x66_S512x1x1x4x32x32_0s1_1s1_2s1_0s1_1s2_2s2) : (⟨S512x3x3x4x66x66, .f32⟩ : BufTy).Contents (Elt F) → (⟨S512x1x1x4x32x32, .f32⟩ : BufTy).Contents (Elt F)) ]
/-- What `enc4a` writes. -/
abbrev enc4a_W : List (Ref sig .tc) := [main_cst_2, main_v99, main_v100, main_v101, main_v102, main_v103, main_v104, main_v105, main_v106, main_v107, main_v108, main_v109, main_v110, main_v111, main_v112, main_v113, main_v114, main_v115]
set_option maxRecDepth 8192 in
/-- `enc4a` writes what is listed. -/
theorem enc4a_writes : (enc4a : List (HloOp τ sig (Elt F))).Forall fun op => op.writes ⊆ (enc4a_W.map (Proc.devRef (τ := τ) .tc)).toFinset := by
  simp only [List.Forall]
  refine ⟨?_, ?_, ?_, ?_, ?_, ?_, ?_, ?_, ?_, ?_, ?_, ?_, ?_, ?_, ?_, ?_, ?_, ?_⟩ <;> (simp only [nullary_writes, unary_writes, binary_writes, ternary_writes, quaternary_writes, reshape_writes, Finset.singleton_subset_iff, List.mem_toFinset]; exact List.mem_map_of_mem (by decide))
set_option maxRecDepth 8192 in
/-- `enc4a` touches only named buffers. -/
theorem enc4a_sub : (enc4a : List (HloOp τ sig (Elt F))).Forall fun op => op.bufs ⊆ tcRefs τ sig :=
  ⟨nullary_bufs_sub .., binary_bufs_sub .., binary_bufs_sub .., unary_bufs_sub .., reshape_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub ..⟩
set_option maxRecDepth 8192 in
/-- `enc4a` makes no buffer. -/
theorem enc4a_fresh : (enc4a : List (HloOp τ sig (Elt F))).Forall fun op => op.fresh = ∅ :=
  ⟨rfl, rfl, rfl, rfl, rfl, rfl, rfl, rfl, rfl, rfl, rfl, rfl, rfl, rfl, rfl, rfl, rfl, rfl⟩

/-- The operations of `enc4b`. -/
abbrev enc4b : List (HloOp τ sig (Elt F)) :=
  [ StableHlo.reshape main_v115 main_v116 (rfl : (.f32 : EltTy) = .f32) shapeCasts_S512x1x1x4x32x32_S512x4x32x32,
    StableHlo.binary main_v114 main_v116 main_v117 (addf : (⟨S512x4x32x32, .f32⟩ : BufTy).Contents (Elt F) → (⟨S512x4x32x32, .f32⟩ : BufTy).Contents (Elt F) → (⟨S512x4x32x32, .f32⟩ : BufTy).Contents (Elt F)),
    StableHlo.unary main_v100 main_v118 ((Host.slice S512x1x1x4x32x32 ![0, 2, 0, 0, 2, 0] ![1, 1, 1, 1, 2, 2] · slicesBy_S512x3x3x4x66x66_S512x1x1x4x32x32_0s1_2s1_0s1_0s1_2s2_0s2) : (⟨S512x3x3x4x66x66, .f32⟩ : BufTy).Contents (Elt F) → (⟨S512x1x1x4x32x32, .f32⟩ : BufTy).Contents (Elt F)),
    StableHlo.reshape main_v118 main_v119 (rfl : (.f32 : EltTy) = .f32) shapeCasts_S512x1x1x4x32x32_S512x4x32x32,
    StableHlo.binary main_v117 main_v119 main_v120 (addf : (⟨S512x4x32x32, .f32⟩ : BufTy).Contents (Elt F) → (⟨S512x4x32x32, .f32⟩ : BufTy).Contents (Elt F) → (⟨S512x4x32x32, .f32⟩ : BufTy).Contents (Elt F)),
    StableHlo.unary main_v100 main_v121 ((Host.slice S512x1x1x4x32x32 ![0, 2, 1, 0, 2, 1] ![1, 1, 1, 1, 2, 2] · slicesBy_S512x3x3x4x66x66_S512x1x1x4x32x32_0s1_2s1_1s1_0s1_2s2_1s2) : (⟨S512x3x3x4x66x66, .f32⟩ : BufTy).Contents (Elt F) → (⟨S512x1x1x4x32x32, .f32⟩ : BufTy).Contents (Elt F)),
    StableHlo.reshape main_v121 main_v122 (rfl : (.f32 : EltTy) = .f32) shapeCasts_S512x1x1x4x32x32_S512x4x32x32,
    StableHlo.binary main_v120 main_v122 main_v123 (addf : (⟨S512x4x32x32, .f32⟩ : BufTy).Contents (Elt F) → (⟨S512x4x32x32, .f32⟩ : BufTy).Contents (Elt F) → (⟨S512x4x32x32, .f32⟩ : BufTy).Contents (Elt F)),
    StableHlo.unary main_v100 main_v124 ((Host.slice S512x1x1x4x32x32 ![0, 2, 2, 0, 2, 2] ![1, 1, 1, 1, 2, 2] · slicesBy_S512x3x3x4x66x66_S512x1x1x4x32x32_0s1_2s1_2s1_0s1_2s2_2s2) : (⟨S512x3x3x4x66x66, .f32⟩ : BufTy).Contents (Elt F) → (⟨S512x1x1x4x32x32, .f32⟩ : BufTy).Contents (Elt F)),
    StableHlo.reshape main_v124 main_v125 (rfl : (.f32 : EltTy) = .f32) shapeCasts_S512x1x1x4x32x32_S512x4x32x32,
    StableHlo.binary main_v123 main_v125 main_v126 (addf : (⟨S512x4x32x32, .f32⟩ : BufTy).Contents (Elt F) → (⟨S512x4x32x32, .f32⟩ : BufTy).Contents (Elt F) → (⟨S512x4x32x32, .f32⟩ : BufTy).Contents (Elt F)),
    StableHlo.unary main_v126 main_v127 ((transpose S4x512x32x32 [1, 0, 2, 3] · transposes_S512x4x32x32_S4x512x32x32_1_0_2_3) : (⟨S512x4x32x32, .f32⟩ : BufTy).Contents (Elt F) → (⟨S4x512x32x32, .f32⟩ : BufTy).Contents (Elt F)),
    StableHlo.unary main_arg8 main_v128 (broadcastInDim S1x512x1x1 ![1] bcast_S512_S1x512x1x1_1 : (⟨S512, .f32⟩ : BufTy).Contents (Elt F) → (⟨S1x512x1x1, .f32⟩ : BufTy).Contents (Elt F)),
    StableHlo.unary main_v128 main_v129 (broadcastInDim S4x512x32x32 ![0, 1, 2, 3] bcast_S1x512x1x1_S4x512x32x32_0_1_2_3 : (⟨S1x512x1x1, .f32⟩ : BufTy).Contents (Elt F) → (⟨S4x512x32x32, .f32⟩ : BufTy).Contents (Elt F)),
    StableHlo.binary main_v127 main_v129 main_v130 (addf : (⟨S4x512x32x32, .f32⟩ : BufTy).Contents (Elt F) → (⟨S4x512x32x32, .f32⟩ : BufTy).Contents (Elt F) → (⟨S4x512x32x32, .f32⟩ : BufTy).Contents (Elt F)),
    StableHlo.unary main_v130 main_v131 ((transpose S4x32x32x512 [0, 2, 3, 1] · transposes_S4x512x32x32_S4x32x32x512_0_2_3_1) : (⟨S4x512x32x32, .f32⟩ : BufTy).Contents (Elt F) → (⟨S4x32x32x512, .f32⟩ : BufTy).Contents (Elt F)) ]
/-- What `enc4b` writes. -/
abbrev enc4b_W : List (Ref sig .tc) := [main_v116, main_v117, main_v118, main_v119, main_v120, main_v121, main_v122, main_v123, main_v124, main_v125, main_v126, main_v127, main_v128, main_v129, main_v130, main_v131]
set_option maxRecDepth 8192 in
/-- `enc4b` writes what is listed. -/
theorem enc4b_writes : (enc4b : List (HloOp τ sig (Elt F))).Forall fun op => op.writes ⊆ (enc4b_W.map (Proc.devRef (τ := τ) .tc)).toFinset := by
  simp only [List.Forall]
  refine ⟨?_, ?_, ?_, ?_, ?_, ?_, ?_, ?_, ?_, ?_, ?_, ?_, ?_, ?_, ?_, ?_⟩ <;> (simp only [nullary_writes, unary_writes, binary_writes, ternary_writes, quaternary_writes, reshape_writes, Finset.singleton_subset_iff, List.mem_toFinset]; exact List.mem_map_of_mem (by decide))
set_option maxRecDepth 8192 in
/-- `enc4b` touches only named buffers. -/
theorem enc4b_sub : (enc4b : List (HloOp τ sig (Elt F))).Forall fun op => op.bufs ⊆ tcRefs τ sig :=
  ⟨reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., unary_bufs_sub .., unary_bufs_sub .., binary_bufs_sub .., unary_bufs_sub ..⟩
set_option maxRecDepth 8192 in
/-- `enc4b` makes no buffer. -/
theorem enc4b_fresh : (enc4b : List (HloOp τ sig (Elt F))).Forall fun op => op.fresh = ∅ :=
  ⟨rfl, rfl, rfl, rfl, rfl, rfl, rfl, rfl, rfl, rfl, rfl, rfl, rfl, rfl, rfl, rfl⟩

/-- The operations of `dist`. -/
abbrev dist : List (HloOp τ sig (Elt F)) :=
  [ StableHlo.reshape main_v131 main_v132 (rfl : (.f32 : EltTy) = .f32) shapeCasts_S4x32x32x512_S4096x512,
    StableHlo.binary main_v132 main_v132 main_v133 (mulf : (⟨S4096x512, .f32⟩ : BufTy).Contents (Elt F) → (⟨S4096x512, .f32⟩ : BufTy).Contents (Elt F) → (⟨S4096x512, .f32⟩ : BufTy).Contents (Elt F)),
    StableHlo.nullary main_cst_3 (constant S_ .f32 0x00000000#32),
    StableHlo.binary main_v133 main_cst_3 main_v134 ((fun x v => Host.reduceAdd x v reducesTo_S4096x512_S4096_d1 h_S_) : (⟨S4096x512, .f32⟩ : BufTy).Contents (Elt F) → (⟨S_, .f32⟩ : BufTy).Contents (Elt F) → (⟨S4096, .f32⟩ : BufTy).Contents (Elt F)),
    StableHlo.unary main_v134 main_v135 (broadcastInDim S4096x1 ![0] bcast_S4096_S4096x1_0 : (⟨S4096, .f32⟩ : BufTy).Contents (Elt F) → (⟨S4096x1, .f32⟩ : BufTy).Contents (Elt F)),
    StableHlo.binary main_arg9 main_arg9 main_v136 (mulf : (⟨S8192x512, .f32⟩ : BufTy).Contents (Elt F) → (⟨S8192x512, .f32⟩ : BufTy).Contents (Elt F) → (⟨S8192x512, .f32⟩ : BufTy).Contents (Elt F)),
    StableHlo.nullary main_cst_4 (constant S_ .f32 0x00000000#32),
    StableHlo.binary main_v136 main_cst_4 main_v137 ((fun x v => Host.reduceAdd x v reducesTo_S8192x512_S8192_d1 h_S_) : (⟨S8192x512, .f32⟩ : BufTy).Contents (Elt F) → (⟨S_, .f32⟩ : BufTy).Contents (Elt F) → (⟨S8192, .f32⟩ : BufTy).Contents (Elt F)),
    StableHlo.unary main_v137 main_v138 (broadcastInDim S1x8192 ![1] bcast_S8192_S1x8192_1 : (⟨S8192, .f32⟩ : BufTy).Contents (Elt F) → (⟨S1x8192, .f32⟩ : BufTy).Contents (Elt F)),
    StableHlo.unary main_v135 main_v139 (broadcastInDim S4096x8192 ![0, 1] bcast_S4096x1_S4096x8192_0_1 : (⟨S4096x1, .f32⟩ : BufTy).Contents (Elt F) → (⟨S4096x8192, .f32⟩ : BufTy).Contents (Elt F)),
    StableHlo.unary main_v138 main_v140 (broadcastInDim S4096x8192 ![0, 1] bcast_S1x8192_S4096x8192_0_1 : (⟨S1x8192, .f32⟩ : BufTy).Contents (Elt F) → (⟨S4096x8192, .f32⟩ : BufTy).Contents (Elt F)),
    StableHlo.binary main_v139 main_v140 main_v141 (addf : (⟨S4096x8192, .f32⟩ : BufTy).Contents (Elt F) → (⟨S4096x8192, .f32⟩ : BufTy).Contents (Elt F) → (⟨S4096x8192, .f32⟩ : BufTy).Contents (Elt F)),
    StableHlo.nullary main_cst_5 (constant S_ .f32 0x40000000#32),
    StableHlo.unary main_cst_5 main_v142 (broadcastInDim S4096x512 ![] bcast_S_S4096x512 : (⟨S_, .f32⟩ : BufTy).Contents (Elt F) → (⟨S4096x512, .f32⟩ : BufTy).Contents (Elt F)),
    StableHlo.binary main_v142 main_v132 main_v143 (mulf : (⟨S4096x512, .f32⟩ : BufTy).Contents (Elt F) → (⟨S4096x512, .f32⟩ : BufTy).Contents (Elt F) → (⟨S4096x512, .f32⟩ : BufTy).Contents (Elt F)),
    StableHlo.unary main_arg9 main_v144 ((transpose S512x8192 [1, 0] · transposes_S8192x512_S512x8192_1_0) : (⟨S8192x512, .f32⟩ : BufTy).Contents (Elt F) → (⟨S512x8192, .f32⟩ : BufTy).Contents (Elt F)),
    StableHlo.binary main_v143 main_v144 main_v145 ((fun l r => Host.dotGeneral dot_S4096x512_S512x8192_S4096x8192_1_0_0_1_n_n none l r) : (⟨S4096x512, .f32⟩ : BufTy).Contents (Elt F) → (⟨S512x8192, .f32⟩ : BufTy).Contents (Elt F) → (⟨S4096x8192, .f32⟩ : BufTy).Contents (Elt F)),
    StableHlo.binary main_v141 main_v145 main_v146 (subf : (⟨S4096x8192, .f32⟩ : BufTy).Contents (Elt F) → (⟨S4096x8192, .f32⟩ : BufTy).Contents (Elt F) → (⟨S4096x8192, .f32⟩ : BufTy).Contents (Elt F)),
    StableHlo.nullary main_cst_6 (constant S_ .f32 0x00000000#32),
    StableHlo.unary main_cst_6 main_v147 (broadcastInDim S4096x8192 ![] bcast_S_S4096x8192 : (⟨S_, .f32⟩ : BufTy).Contents (Elt F) → (⟨S4096x8192, .f32⟩ : BufTy).Contents (Elt F)),
    StableHlo.binary main_v146 main_v147 main_v148 (maximumf : (⟨S4096x8192, .f32⟩ : BufTy).Contents (Elt F) → (⟨S4096x8192, .f32⟩ : BufTy).Contents (Elt F) → (⟨S4096x8192, .f32⟩ : BufTy).Contents (Elt F)),
    StableHlo.unary main_v148 main_v149 (Host.sqrt : (⟨S4096x8192, .f32⟩ : BufTy).Contents (Elt F) → (⟨S4096x8192, .f32⟩ : BufTy).Contents (Elt F)) ]
/-- What `dist` writes. -/
abbrev dist_W : List (Ref sig .tc) := [main_v132, main_v133, main_cst_3, main_v134, main_v135, main_v136, main_cst_4, main_v137, main_v138, main_v139, main_v140, main_v141, main_cst_5, main_v142, main_v143, main_v144, main_v145, main_v146, main_cst_6, main_v147, main_v148, main_v149]
set_option maxRecDepth 8192 in
/-- `dist` writes what is listed. -/
theorem dist_writes : (dist : List (HloOp τ sig (Elt F))).Forall fun op => op.writes ⊆ (dist_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, Finset.singleton_subset_iff, List.mem_toFinset]; exact List.mem_map_of_mem (by decide))
set_option maxRecDepth 8192 in
/-- `dist` touches only named buffers. -/
theorem dist_sub : (dist : List (HloOp τ sig (Elt F))).Forall fun op => op.bufs ⊆ tcRefs τ sig :=
  ⟨reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., nullary_bufs_sub .., unary_bufs_sub .., binary_bufs_sub .., unary_bufs_sub .., binary_bufs_sub .., binary_bufs_sub .., nullary_bufs_sub .., unary_bufs_sub .., binary_bufs_sub .., unary_bufs_sub ..⟩
set_option maxRecDepth 8192 in
/-- `dist` makes no buffer. -/
theorem dist_fresh : (dist : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

/-- The operations of `amin`. -/
abbrev amin : List (HloOp τ sig (Elt F)) :=
  [ StableHlo.TRef.nullary (StableHlo.TRef.of (T := ⟨S4096x8192, .i32⟩) main_call3_v0) (iotaInDim S4096x8192 32 1),
    StableHlo.TRef.nullary (StableHlo.TRef.of (T := ⟨S_, .f32⟩) main_call3_cst) (constant S_ .f32 0x7F800000#32),
    StableHlo.TRef.nullary (StableHlo.TRef.of (T := ⟨S_, .i32⟩) main_call3_c) (constantI S_ 32 0#32),
    StableHlo.TRef.quaternary (StableHlo.TRef.of (T := ⟨S4096x8192, .f32⟩) main_v149) (StableHlo.TRef.of (T := ⟨S4096x8192, .i32⟩) main_call3_v0) (StableHlo.TRef.of (T := ⟨S_, .f32⟩) main_call3_cst) (StableHlo.TRef.of (T := ⟨S_, .i32⟩) main_call3_c) (StableHlo.TRef.of (T := ⟨S4096, .f32⟩) main_call3_v1_0) (fun x y u v j => (Host.argReduce reducer_argmin_f32_i32 x y u v reducesTo_S4096x8192_S4096_d1 h_S_ j).1),
    StableHlo.TRef.quaternary (StableHlo.TRef.of (T := ⟨S4096x8192, .f32⟩) main_v149) (StableHlo.TRef.of (T := ⟨S4096x8192, .i32⟩) main_call3_v0) (StableHlo.TRef.of (T := ⟨S_, .f32⟩) main_call3_cst) (StableHlo.TRef.of (T := ⟨S_, .i32⟩) main_call3_c) (StableHlo.TRef.of (T := ⟨S4096, .i32⟩) main_v150) (fun x y u v j => (Host.argReduce reducer_argmin_f32_i32 x y u v reducesTo_S4096x8192_S4096_d1 h_S_ j).2) ]
/-- What `amin` writes. -/
abbrev amin_W : List (Ref sig .tc) := [main_call3_v0, main_call3_cst, main_call3_c, main_call3_v1_0, main_v150]
set_option maxRecDepth 8192 in
/-- `amin` writes what is listed. -/
theorem amin_writes : (amin : List (HloOp τ sig (Elt F))).Forall fun op => op.writes ⊆ (amin_W.map (Proc.devRef (τ := τ) .tc)).toFinset := by
  simp only [List.Forall]
  refine ⟨?_, ?_, ?_, ?_, ?_⟩ <;> (simp only [nullary_writes, unary_writes, binary_writes, ternary_writes, quaternary_writes, reshape_writes, Finset.singleton_subset_iff, List.mem_toFinset]; exact List.mem_map_of_mem (by decide))
set_option maxRecDepth 8192 in
/-- `amin` touches only named buffers. -/
theorem amin_sub : (amin : List (HloOp τ sig (Elt F))).Forall fun op => op.bufs ⊆ tcRefs τ sig :=
  ⟨nullary_bufs_sub .., nullary_bufs_sub .., nullary_bufs_sub .., quaternary_bufs_sub .., quaternary_bufs_sub ..⟩
set_option maxRecDepth 8192 in
/-- `amin` makes no buffer. -/
theorem amin_fresh : (amin : List (HloOp τ sig (Elt F))).Forall fun op => op.fresh = ∅ :=
  ⟨rfl, rfl, rfl, rfl, rfl⟩

/-- The operations of the program's part 0. -/
def part0 : List (HloOp τ sig (Elt F)) := enc1 ++ (enc2a)
set_option maxRecDepth 8192 in
set_option maxHeartbeats 4000000 in
/-- The program's part 0 runs them. -/
theorem main_part0_eq (c : Dev nD) : main_part0 (F := F) c = seq part0 := rfl
/-- The operations of the program's part 1. -/
def part1 : List (HloOp τ sig (Elt F)) := enc2b ++ (enc3 ++ (enc4a))
set_option maxRecDepth 8192 in
set_option maxHeartbeats 4000000 in
/-- The program's part 1 runs them. -/
theorem main_part1_eq (c : Dev nD) : main_part1 (F := F) c = seq part1 := rfl
/-- The operations of the program's part 2. -/
def part2 : List (HloOp τ sig (Elt F)) := enc4b ++ (dist ++ (amin))
set_option maxRecDepth 8192 in
set_option maxHeartbeats 4000000 in
/-- The program's part 2 runs them. -/
theorem main_part2_eq (c : Dev nD) : main_part2 (F := F) c = seq part2 := rfl
/-- All the operations. -/
abbrev ops : List (HloOp τ sig (Elt F)) := part0 ++ (part1 ++ (part2))
set_option maxRecDepth 8192 in
/-- The program runs them in order. -/
theorem main_eq (c : Dev nD) : main (F := F) c = seq ops := by
  simp only [ops, seq_append, ← main_part0_eq c, ← main_part1_eq c, ← main_part2_eq c]
  rfl
/-- No scoped buffers. -/
theorem scopedRefs_eq : (Finset.univ.filter fun b : Ref sig .tc => b.isScoped) = ∅ := by decide
/-- No scoped semaphores. -/
theorem scopedSems_eq : (Finset.univ.filter fun sm : SemLoc sig => sm.isScoped .tc) = ∅ := by decide
/-- Every operation touches only named buffers. -/
theorem ops_sub : (ops : List (HloOp τ sig (Elt F))).Forall fun op => op.bufs ⊆ tcRefs τ sig :=
  List.forall_iff_forall_mem.mpr fun op h => by
    simp only [ops, part0, part1, part2, List.mem_append, or_assoc] at h
    rcases h with h | h | h | h | h | h | h | h
    exacts [List.forall_iff_forall_mem.mp enc1_sub op h, List.forall_iff_forall_mem.mp enc2a_sub op h, List.forall_iff_forall_mem.mp enc2b_sub op h, List.forall_iff_forall_mem.mp enc3_sub op h, List.forall_iff_forall_mem.mp enc4a_sub op h, List.forall_iff_forall_mem.mp enc4b_sub op h, List.forall_iff_forall_mem.mp dist_sub op h, List.forall_iff_forall_mem.mp amin_sub op h]
/-- No operation makes a buffer. -/
theorem ops_fresh : ∀ op ∈ (ops : List (HloOp τ sig (Elt F))), op.fresh = ∅ := fun op h => by
    simp only [ops, part0, part1, part2, List.mem_append, or_assoc] at h
    rcases h with h | h | h | h | h | h | h | h
    exacts [List.forall_iff_forall_mem.mp enc1_fresh op h, List.forall_iff_forall_mem.mp enc2a_fresh op h, List.forall_iff_forall_mem.mp enc2b_fresh op h, List.forall_iff_forall_mem.mp enc3_fresh op h, List.forall_iff_forall_mem.mp enc4a_fresh op h, List.forall_iff_forall_mem.mp enc4b_fresh op h, List.forall_iff_forall_mem.mp dist_fresh op h, List.forall_iff_forall_mem.mp amin_fresh op h]

/-- The contents after `enc1`. -/
def U1 (V : Valuation τ sig (Elt F)) : Valuation τ sig (Elt F) := after enc1 V
/-- `enc1` keeps what it does not write. -/
theorem U1_keep (V : Valuation τ sig (Elt F)) (r : Ref sig .tc) (h : r ∉ enc1_W) : U1 V (Proc.devRef .tc r) = V (Proc.devRef .tc r) :=
  after_of_writes_sub enc1 _ enc1_writes h
/-- The contents after `enc2a`. -/
def U2 (V : Valuation τ sig (Elt F)) : Valuation τ sig (Elt F) := after enc2a (U1 V)
/-- `enc2a` keeps what it does not write. -/
theorem U2_keep (V : Valuation τ sig (Elt F)) (r : Ref sig .tc) (h : r ∉ enc2a_W) : U2 V (Proc.devRef .tc r) = U1 V (Proc.devRef .tc r) :=
  after_of_writes_sub enc2a _ enc2a_writes h
/-- The contents after `enc2b`. -/
def U3 (V : Valuation τ sig (Elt F)) : Valuation τ sig (Elt F) := after enc2b (U2 V)
/-- `enc2b` keeps what it does not write. -/
theorem U3_keep (V : Valuation τ sig (Elt F)) (r : Ref sig .tc) (h : r ∉ enc2b_W) : U3 V (Proc.devRef .tc r) = U2 V (Proc.devRef .tc r) :=
  after_of_writes_sub enc2b _ enc2b_writes h
/-- The contents after `enc3`. -/
def U4 (V : Valuation τ sig (Elt F)) : Valuation τ sig (Elt F) := after enc3 (U3 V)
/-- `enc3` keeps what it does not write. -/
theorem U4_keep (V : Valuation τ sig (Elt F)) (r : Ref sig .tc) (h : r ∉ enc3_W) : U4 V (Proc.devRef .tc r) = U3 V (Proc.devRef .tc r) :=
  after_of_writes_sub enc3 _ enc3_writes h
/-- The contents after `enc4a`. -/
def U5 (V : Valuation τ sig (Elt F)) : Valuation τ sig (Elt F) := after enc4a (U4 V)
/-- `enc4a` keeps what it does not write. -/
theorem U5_keep (V : Valuation τ sig (Elt F)) (r : Ref sig .tc) (h : r ∉ enc4a_W) : U5 V (Proc.devRef .tc r) = U4 V (Proc.devRef .tc r) :=
  after_of_writes_sub enc4a _ enc4a_writes h
/-- The contents after `enc4b`. -/
def U6 (V : Valuation τ sig (Elt F)) : Valuation τ sig (Elt F) := after enc4b (U5 V)
/-- `enc4b` keeps what it does not write. -/
theorem U6_keep (V : Valuation τ sig (Elt F)) (r : Ref sig .tc) (h : r ∉ enc4b_W) : U6 V (Proc.devRef .tc r) = U5 V (Proc.devRef .tc r) :=
  after_of_writes_sub enc4b _ enc4b_writes h
/-- The contents after `dist`. -/
def U7 (V : Valuation τ sig (Elt F)) : Valuation τ sig (Elt F) := after dist (U6 V)
/-- `dist` keeps what it does not write. -/
theorem U7_keep (V : Valuation τ sig (Elt F)) (r : Ref sig .tc) (h : r ∉ dist_W) : U7 V (Proc.devRef .tc r) = U6 V (Proc.devRef .tc r) :=
  after_of_writes_sub dist _ dist_writes h
/-- The contents after `amin`. -/
def U8 (V : Valuation τ sig (Elt F)) : Valuation τ sig (Elt F) := after amin (U7 V)
/-- `amin` keeps what it does not write. -/
theorem U8_keep (V : Valuation τ sig (Elt F)) (r : Ref sig .tc) (h : r ∉ amin_W) : U8 V (Proc.devRef .tc r) = U7 V (Proc.devRef .tc r) :=
  after_of_writes_sub amin _ amin_writes h
/-- The contents after all. -/
theorem after_ops (V : Valuation τ sig (Elt F)) : after ops V = U8 V := by
  simp only [ops, part0, part1, part2, after_append]
  rfl
/-- Every weakly fair run ends, with every buffer at the operations' values. -/
theorem run (m : (ℓ : Loc nD τ sig) → Buf (Elt F) ℓ) (ρ : Dev nD → PrngReg) : θ_run defs (onTc (τ := τ) (main (F := F))) ⟨m, fun _ => 0, ρ⟩ fun r => ∀ (c : Dev nD) (b : Ref sig .tc), r.2.mem ((c.tc).loc b) = U8 (launchContents m c) (Proc.devRef .tc b) :=
  (θ_run defs _ _).mono (fun _ h c b => (h c b).trans (congrFun (after_ops (launchContents m c)) (Proc.devRef .tc b)))
    (run_seq scopedRefs_eq scopedSems_eq defs main (fun _ => ops) main_eq (fun _ => ops_sub) m ρ fun _ => ops_fresh)

end Cert.ReferenceIdeal.Hand
-- ==== Proof.RefPure.lean ====
module
public import proofs.«01_k».proof.Proof.RefFacts
public import proofs.«01_k».proof.Proof.Conv
public import Idealize.ShloMosaic.Lib.KernelVsHost
public import Idealize.ShloMosaic.Lib.Tactic.IndexArith

/-! The layers of the reference program, at one place. -/

@[expose] public section
set_option maxRecDepth 16384
noncomputable section
namespace Cert.ReferenceIdeal.Hand
open Cert.ReferenceIdeal Idealize.ShloMosaic Idealize.ShloMosaic.TcCoe Idealize.SL.Sem Idealize.ShloMosaic.StableHlo

/-- Equal summands, equal sums. -/
theorem add_eq {a b c d : EReal} (h : a = b) (h' : c = d) : a + c = b + d := by rw [h, h']

/-- The layer's image with its border. -/
def spreadEnc1 (X : FVec Ideal S4x3x256x256 .f32) : FVec Ideal S4x3x258x258 .f32 := pad S4x3x258x258 ![0, 0, 1, 1] ![0, 0, 1, 1] ![0, 0, 0, 0] X (constant S_ .f32 0x00000000#32) pads_S4x3x256x256_S4x3x258x258_000_000_110_110 h_S_
/-- The nine taps everywhere. -/
def dotEnc1 (w : FVec Ideal S64x3x3x3 .f32) (P : FVec Ideal S4x3x258x258 .f32) : FVec Ideal S64x3x3x4x258x258 .f32 := Host.dotGeneral (φ₁ := .f32) (φ₂ := .f32) dot_S64x3x3x3_S4x3x258x258_S64x3x3x4x258x258_1_1_023_023_n_n none w P
/-- The nine taps added up. -/
def nineEnc1 (T : FVec Ideal S64x3x3x4x258x258 .f32) : FVec Ideal S64x4x256x256 .f32 := addf (addf (addf (addf (addf (addf (addf (addf (shapeCast _ (extractStridedSlice S64x1x1x4x256x256 ![0, 0, 0, 0, 0, 0] T slices_S64x3x3x4x258x258_S64x1x1x4x256x256_0_0_0_0_0_0) shapeCasts_S64x1x1x4x256x256_S64x4x256x256) (shapeCast _ (extractStridedSlice S64x1x1x4x256x256 ![0, 0, 1, 0, 0, 1] T slices_S64x3x3x4x258x258_S64x1x1x4x256x256_0_0_1_0_0_1) shapeCasts_S64x1x1x4x256x256_S64x4x256x256)) (shapeCast _ (extractStridedSlice S64x1x1x4x256x256 ![0, 0, 2, 0, 0, 2] T slices_S64x3x3x4x258x258_S64x1x1x4x256x256_0_0_2_0_0_2) shapeCasts_S64x1x1x4x256x256_S64x4x256x256)) (shapeCast _ (extractStridedSlice S64x1x1x4x256x256 ![0, 1, 0, 0, 1, 0] T slices_S64x3x3x4x258x258_S64x1x1x4x256x256_0_1_0_0_1_0) shapeCasts_S64x1x1x4x256x256_S64x4x256x256)) (shapeCast _ (extractStridedSlice S64x1x1x4x256x256 ![0, 1, 1, 0, 1, 1] T slices_S64x3x3x4x258x258_S64x1x1x4x256x256_0_1_1_0_1_1) shapeCasts_S64x1x1x4x256x256_S64x4x256x256)) (shapeCast _ (extractStridedSlice S64x1x1x4x256x256 ![0, 1, 2, 0, 1, 2] T slices_S64x3x3x4x258x258_S64x1x1x4x256x256_0_1_2_0_1_2) shapeCasts_S64x1x1x4x256x256_S64x4x256x256)) (shapeCast _ (extractStridedSlice S64x1x1x4x256x256 ![0, 2, 0, 0, 2, 0] T slices_S64x3x3x4x258x258_S64x1x1x4x256x256_0_2_0_0_2_0) shapeCasts_S64x1x1x4x256x256_S64x4x256x256)) (shapeCast _ (extractStridedSlice S64x1x1x4x256x256 ![0, 2, 1, 0, 2, 1] T slices_S64x3x3x4x258x258_S64x1x1x4x256x256_0_2_1_0_2_1) shapeCasts_S64x1x1x4x256x256_S64x4x256x256)) (shapeCast _ (extractStridedSlice S64x1x1x4x256x256 ![0, 2, 2, 0, 2, 2] T slices_S64x3x3x4x258x258_S64x1x1x4x256x256_0_2_2_0_2_2) shapeCasts_S64x1x1x4x256x256_S64x4x256x256)
/-- The bias and the last step. -/
def finEnc1 (N : FVec Ideal S64x4x256x256 .f32) (bias : FVec Ideal S64 .f32) : FVec Ideal S4x64x256x256 .f32 := maximumf (addf (transpose S4x64x256x256 [1, 0, 2, 3] N transposes_S64x4x256x256_S4x64x256x256_1_0_2_3) (broadcastInDim S4x64x256x256 ![0, 1, 2, 3] bcast_S1x64x1x1_S4x64x256x256_0_1_2_3 (broadcastInDim S1x64x1x1 ![1] bcast_S64_S1x64x1x1_1 bias))) (broadcastInDim S4x64x256x256 ![] bcast_S_S4x64x256x256 (constant S_ .f32 0x00000000#32))
/-- The image with its border, at one place. -/
theorem spreadEnc1_apply (X : FVec Ideal S4x3x256x256 .f32) (I : Fin 4 → Fin 256 → Fin 256 → Fin 3 → EReal)
    (hX : ∀ b y x c, X (ix4 b c y x) = I b y x c) (b : Fin 4) (i j : Fin 258) (c : Fin 3) :
    spreadEnc1 X (ix4 b c i j) = Vq.bord I b i.val j.val c := by
  unfold Vq.bord
  simp only [← hX]
  pointwise [spreadEnc1]
/-- One tap at one place. -/
theorem tapEnc1 (X : FVec Ideal S4x3x256x256 .f32) (w : FVec Ideal S64x3x3x3 .f32) (I : Fin 4 → Fin 256 → Fin 256 → Fin 3 → EReal)
    (hX : ∀ b y x c, X (ix4 b c y x) = I b y x c) (b : Fin 4) (i j : Fin 258) (i' j' : ℕ) (hi : i.val = i') (hj : j.val = j') (o : Fin 64) (ky kx : Fin 3) :
    ∑ c : Fin 3, w (ix4 o c ky kx) * spreadEnc1 X (ix4 b c i j) = Vq.tap I (Vq.w4 w) b i' j' o ky kx := by
  subst hi hj
  exact Finset.sum_congr rfl fun c _ => by rw [spreadEnc1_apply X I hX, mul_comm]; rfl
/-- The nine taps at one place. -/
theorem nineEnc1_apply (X : FVec Ideal S4x3x256x256 .f32) (w : FVec Ideal S64x3x3x3 .f32) (I : Fin 4 → Fin 256 → Fin 256 → Fin 3 → EReal)
    (hX : ∀ b y x c, X (ix4 b c y x) = I b y x c) (b : Fin 4) (y x : Fin 256) (o : Fin 64) :
    nineEnc1 (dotEnc1 w (spreadEnc1 X)) (ix4 o b y x) = Vq.tap I (Vq.w4 w) b (1 * y.val) (1 * x.val) o 0 0 + Vq.tap I (Vq.w4 w) b (1 * y.val) (1 * x.val + 1) o 0 1 + Vq.tap I (Vq.w4 w) b (1 * y.val) (1 * x.val + 2) o 0 2 + Vq.tap I (Vq.w4 w) b (1 * y.val + 1) (1 * x.val) o 1 0 + Vq.tap I (Vq.w4 w) b (1 * y.val + 1) (1 * x.val + 1) o 1 1 + Vq.tap I (Vq.w4 w) b (1 * y.val + 1) (1 * x.val + 2) o 1 2 + Vq.tap I (Vq.w4 w) b (1 * y.val + 2) (1 * x.val) o 2 0 + Vq.tap I (Vq.w4 w) b (1 * y.val + 2) (1 * x.val + 1) o 2 1 + Vq.tap I (Vq.w4 w) b (1 * y.val + 2) (1 * x.val + 2) o 2 2 := by
  pointwise [nineEnc1, dotEnc1]
  exact add_eq (add_eq (add_eq (add_eq (add_eq (add_eq (add_eq (add_eq (tapEnc1 X w I hX _ _ _ _ _ (by first | (dsimp only; done) | (dsimp only; omega) | omega) (by first | (dsimp only; done) | (dsimp only; omega) | omega) _ _ _) (tapEnc1 X w I hX _ _ _ _ _ (by first | (dsimp only; done) | (dsimp only; omega) | omega) (by first | (dsimp only; done) | (dsimp only; omega) | omega) _ _ _)) (tapEnc1 X w I hX _ _ _ _ _ (by first | (dsimp only; done) | (dsimp only; omega) | omega) (by first | (dsimp only; done) | (dsimp only; omega) | omega) _ _ _)) (tapEnc1 X w I hX _ _ _ _ _ (by first | (dsimp only; done) | (dsimp only; omega) | omega) (by first | (dsimp only; done) | (dsimp only; omega) | omega) _ _ _)) (tapEnc1 X w I hX _ _ _ _ _ (by first | (dsimp only; done) | (dsimp only; omega) | omega) (by first | (dsimp only; done) | (dsimp only; omega) | omega) _ _ _)) (tapEnc1 X w I hX _ _ _ _ _ (by first | (dsimp only; done) | (dsimp only; omega) | omega) (by first | (dsimp only; done) | (dsimp only; omega) | omega) _ _ _)) (tapEnc1 X w I hX _ _ _ _ _ (by first | (dsimp only; done) | (dsimp only; omega) | omega) (by first | (dsimp only; done) | (dsimp only; omega) | omega) _ _ _)) (tapEnc1 X w I hX _ _ _ _ _ (by first | (dsimp only; done) | (dsimp only; omega) | omega) (by first | (dsimp only; done) | (dsimp only; omega) | omega) _ _ _)) (tapEnc1 X w I hX _ _ _ _ _ (by first | (dsimp only; done) | (dsimp only; omega) | omega) (by first | (dsimp only; done) | (dsimp only; omega) | omega) _ _ _)
/-- The last step at one place. -/
theorem finEnc1_apply (N : FVec Ideal S64x4x256x256 .f32) (bias : FVec Ideal S64 .f32) (b : Fin 4) (y x : Fin 256) (o : Fin 64) :
    finEnc1 N bias (ix4 b o y x) = max (N (ix4 o b y x) + bias (ix1 o)) 0 := by
  pointwise [finEnc1]
/-- The layer is a convolution. -/
theorem enc1_apply (X : FVec Ideal S4x3x256x256 .f32) (w : FVec Ideal S64x3x3x3 .f32) (bias : FVec Ideal S64 .f32) (I : Fin 4 → Fin 256 → Fin 256 → Fin 3 → EReal)
    (hX : ∀ b y x c, X (ix4 b c y x) = I b y x c) (b : Fin 4) (y x : Fin 256) (o : Fin 64) :
    finEnc1 (nineEnc1 (dotEnc1 w (spreadEnc1 X))) bias (ix4 b o y x) = Vq.relu (Vq.convI 1 I (Vq.w4 w) (Vq.b1 bias)) b y x o := by
  rw [finEnc1_apply, nineEnc1_apply X w I hX]
  rfl

/-- The layer's image with its border. -/
def spreadEnc2 (X : FVec Ideal S4x64x256x256 .f32) : FVec Ideal S4x64x258x258 .f32 := pad S4x64x258x258 ![0, 0, 1, 1] ![0, 0, 1, 1] ![0, 0, 0, 0] X (constant S_ .f32 0x00000000#32) pads_S4x64x256x256_S4x64x258x258_000_000_110_110 h_S_
/-- The nine taps everywhere. -/
def dotEnc2 (w : FVec Ideal S128x64x3x3 .f32) (P : FVec Ideal S4x64x258x258 .f32) : FVec Ideal S128x3x3x4x258x258 .f32 := Host.dotGeneral (φ₁ := .f32) (φ₂ := .f32) dot_S128x64x3x3_S4x64x258x258_S128x3x3x4x258x258_1_1_023_023_n_n none w P
/-- The nine taps added up. -/
def nineEnc2 (T : FVec Ideal S128x3x3x4x258x258 .f32) : FVec Ideal S128x4x128x128 .f32 := addf (addf (addf (addf (addf (addf (addf (addf (shapeCast _ (Host.slice S128x1x1x4x128x128 ![0, 0, 0, 0, 0, 0] ![1, 1, 1, 1, 2, 2] T slicesBy_S128x3x3x4x258x258_S128x1x1x4x128x128_0s1_0s1_0s1_0s1_0s2_0s2) shapeCasts_S128x1x1x4x128x128_S128x4x128x128) (shapeCast _ (Host.slice S128x1x1x4x128x128 ![0, 0, 1, 0, 0, 1] ![1, 1, 1, 1, 2, 2] T slicesBy_S128x3x3x4x258x258_S128x1x1x4x128x128_0s1_0s1_1s1_0s1_0s2_1s2) shapeCasts_S128x1x1x4x128x128_S128x4x128x128)) (shapeCast _ (Host.slice S128x1x1x4x128x128 ![0, 0, 2, 0, 0, 2] ![1, 1, 1, 1, 2, 2] T slicesBy_S128x3x3x4x258x258_S128x1x1x4x128x128_0s1_0s1_2s1_0s1_0s2_2s2) shapeCasts_S128x1x1x4x128x128_S128x4x128x128)) (shapeCast _ (Host.slice S128x1x1x4x128x128 ![0, 1, 0, 0, 1, 0] ![1, 1, 1, 1, 2, 2] T slicesBy_S128x3x3x4x258x258_S128x1x1x4x128x128_0s1_1s1_0s1_0s1_1s2_0s2) shapeCasts_S128x1x1x4x128x128_S128x4x128x128)) (shapeCast _ (Host.slice S128x1x1x4x128x128 ![0, 1, 1, 0, 1, 1] ![1, 1, 1, 1, 2, 2] T slicesBy_S128x3x3x4x258x258_S128x1x1x4x128x128_0s1_1s1_1s1_0s1_1s2_1s2) shapeCasts_S128x1x1x4x128x128_S128x4x128x128)) (shapeCast _ (Host.slice S128x1x1x4x128x128 ![0, 1, 2, 0, 1, 2] ![1, 1, 1, 1, 2, 2] T slicesBy_S128x3x3x4x258x258_S128x1x1x4x128x128_0s1_1s1_2s1_0s1_1s2_2s2) shapeCasts_S128x1x1x4x128x128_S128x4x128x128)) (shapeCast _ (Host.slice S128x1x1x4x128x128 ![0, 2, 0, 0, 2, 0] ![1, 1, 1, 1, 2, 2] T slicesBy_S128x3x3x4x258x258_S128x1x1x4x128x128_0s1_2s1_0s1_0s1_2s2_0s2) shapeCasts_S128x1x1x4x128x128_S128x4x128x128)) (shapeCast _ (Host.slice S128x1x1x4x128x128 ![0, 2, 1, 0, 2, 1] ![1, 1, 1, 1, 2, 2] T slicesBy_S128x3x3x4x258x258_S128x1x1x4x128x128_0s1_2s1_1s1_0s1_2s2_1s2) shapeCasts_S128x1x1x4x128x128_S128x4x128x128)) (shapeCast _ (Host.slice S128x1x1x4x128x128 ![0, 2, 2, 0, 2, 2] ![1, 1, 1, 1, 2, 2] T slicesBy_S128x3x3x4x258x258_S128x1x1x4x128x128_0s1_2s1_2s1_0s1_2s2_2s2) shapeCasts_S128x1x1x4x128x128_S128x4x128x128)
/-- The bias and the last step. -/
def finEnc2 (N : FVec Ideal S128x4x128x128 .f32) (bias : FVec Ideal S128 .f32) : FVec Ideal S4x128x128x128 .f32 := maximumf (addf (transpose S4x128x128x128 [1, 0, 2, 3] N transposes_S128x4x128x128_S4x128x128x128_1_0_2_3) (broadcastInDim S4x128x128x128 ![0, 1, 2, 3] bcast_S1x128x1x1_S4x128x128x128_0_1_2_3 (broadcastInDim S1x128x1x1 ![1] bcast_S128_S1x128x1x1_1 bias))) (broadcastInDim S4x128x128x128 ![] bcast_S_S4x128x128x128 (constant S_ .f32 0x00000000#32))
/-- The image with its border, at one place. -/
theorem spreadEnc2_apply (X : FVec Ideal S4x64x256x256 .f32) (I : Fin 4 → Fin 256 → Fin 256 → Fin 64 → EReal)
    (hX : ∀ b y x c, X (ix4 b c y x) = I b y x c) (b : Fin 4) (i j : Fin 258) (c : Fin 64) :
    spreadEnc2 X (ix4 b c i j) = Vq.bord I b i.val j.val c := by
  unfold Vq.bord
  simp only [← hX]
  pointwise [spreadEnc2]
/-- One tap at one place. -/
theorem tapEnc2 (X : FVec Ideal S4x64x256x256 .f32) (w : FVec Ideal S128x64x3x3 .f32) (I : Fin 4 → Fin 256 → Fin 256 → Fin 64 → EReal)
    (hX : ∀ b y x c, X (ix4 b c y x) = I b y x c) (b : Fin 4) (i j : Fin 258) (i' j' : ℕ) (hi : i.val = i') (hj : j.val = j') (o : Fin 128) (ky kx : Fin 3) :
    ∑ c : Fin 64, w (ix4 o c ky kx) * spreadEnc2 X (ix4 b c i j) = Vq.tap I (Vq.w4 w) b i' j' o ky kx := by
  subst hi hj
  exact Finset.sum_congr rfl fun c _ => by rw [spreadEnc2_apply X I hX, mul_comm]; rfl
/-- The nine taps at one place. -/
theorem nineEnc2_apply (X : FVec Ideal S4x64x256x256 .f32) (w : FVec Ideal S128x64x3x3 .f32) (I : Fin 4 → Fin 256 → Fin 256 → Fin 64 → EReal)
    (hX : ∀ b y x c, X (ix4 b c y x) = I b y x c) (b : Fin 4) (y x : Fin 128) (o : Fin 128) :
    nineEnc2 (dotEnc2 w (spreadEnc2 X)) (ix4 o b y x) = Vq.tap I (Vq.w4 w) b (2 * y.val) (2 * x.val) o 0 0 + Vq.tap I (Vq.w4 w) b (2 * y.val) (2 * x.val + 1) o 0 1 + Vq.tap I (Vq.w4 w) b (2 * y.val) (2 * x.val + 2) o 0 2 + Vq.tap I (Vq.w4 w) b (2 * y.val + 1) (2 * x.val) o 1 0 + Vq.tap I (Vq.w4 w) b (2 * y.val + 1) (2 * x.val + 1) o 1 1 + Vq.tap I (Vq.w4 w) b (2 * y.val + 1) (2 * x.val + 2) o 1 2 + Vq.tap I (Vq.w4 w) b (2 * y.val + 2) (2 * x.val) o 2 0 + Vq.tap I (Vq.w4 w) b (2 * y.val + 2) (2 * x.val + 1) o 2 1 + Vq.tap I (Vq.w4 w) b (2 * y.val + 2) (2 * x.val + 2) o 2 2 := by
  pointwise [nineEnc2, dotEnc2]
  exact add_eq (add_eq (add_eq (add_eq (add_eq (add_eq (add_eq (add_eq (tapEnc2 X w I hX _ _ _ _ _ (by first | (dsimp only; done) | (dsimp only; omega) | omega) (by first | (dsimp only; done) | (dsimp only; omega) | omega) _ _ _) (tapEnc2 X w I hX _ _ _ _ _ (by first | (dsimp only; done) | (dsimp only; omega) | omega) (by first | (dsimp only; done) | (dsimp only; omega) | omega) _ _ _)) (tapEnc2 X w I hX _ _ _ _ _ (by first | (dsimp only; done) | (dsimp only; omega) | omega) (by first | (dsimp only; done) | (dsimp only; omega) | omega) _ _ _)) (tapEnc2 X w I hX _ _ _ _ _ (by first | (dsimp only; done) | (dsimp only; omega) | omega) (by first | (dsimp only; done) | (dsimp only; omega) | omega) _ _ _)) (tapEnc2 X w I hX _ _ _ _ _ (by first | (dsimp only; done) | (dsimp only; omega) | omega) (by first | (dsimp only; done) | (dsimp only; omega) | omega) _ _ _)) (tapEnc2 X w I hX _ _ _ _ _ (by first | (dsimp only; done) | (dsimp only; omega) | omega) (by first | (dsimp only; done) | (dsimp only; omega) | omega) _ _ _)) (tapEnc2 X w I hX _ _ _ _ _ (by first | (dsimp only; done) | (dsimp only; omega) | omega) (by first | (dsimp only; done) | (dsimp only; omega) | omega) _ _ _)) (tapEnc2 X w I hX _ _ _ _ _ (by first | (dsimp only; done) | (dsimp only; omega) | omega) (by first | (dsimp only; done) | (dsimp only; omega) | omega) _ _ _)) (tapEnc2 X w I hX _ _ _ _ _ (by first | (dsimp only; done) | (dsimp only; omega) | omega) (by first | (dsimp only; done) | (dsimp only; omega) | omega) _ _ _)
/-- The last step at one place. -/
theorem finEnc2_apply (N : FVec Ideal S128x4x128x128 .f32) (bias : FVec Ideal S128 .f32) (b : Fin 4) (y x : Fin 128) (o : Fin 128) :
    finEnc2 N bias (ix4 b o y x) = max (N (ix4 o b y x) + bias (ix1 o)) 0 := by
  pointwise [finEnc2]
/-- The layer is a convolution. -/
theorem enc2_apply (X : FVec Ideal S4x64x256x256 .f32) (w : FVec Ideal S128x64x3x3 .f32) (bias : FVec Ideal S128 .f32) (I : Fin 4 → Fin 256 → Fin 256 → Fin 64 → EReal)
    (hX : ∀ b y x c, X (ix4 b c y x) = I b y x c) (b : Fin 4) (y x : Fin 128) (o : Fin 128) :
    finEnc2 (nineEnc2 (dotEnc2 w (spreadEnc2 X))) bias (ix4 b o y x) = Vq.relu (Vq.convI 2 I (Vq.w4 w) (Vq.b1 bias)) b y x o := by
  rw [finEnc2_apply, nineEnc2_apply X w I hX]
  rfl

/-- The layer's image with its border. -/
def spreadEnc3 (X : FVec Ideal S4x128x128x128 .f32) : FVec Ideal S4x128x130x130 .f32 := pad S4x128x130x130 ![0, 0, 1, 1] ![0, 0, 1, 1] ![0, 0, 0, 0] X (constant S_ .f32 0x00000000#32) pads_S4x128x128x128_S4x128x130x130_000_000_110_110 h_S_
/-- The nine taps everywhere. -/
def dotEnc3 (w : FVec Ideal S256x128x3x3 .f32) (P : FVec Ideal S4x128x130x130 .f32) : FVec Ideal S256x3x3x4x130x130 .f32 := Host.dotGeneral (φ₁ := .f32) (φ₂ := .f32) dot_S256x128x3x3_S4x128x130x130_S256x3x3x4x130x130_1_1_023_023_n_n none w P
/-- The nine taps added up. -/
def nineEnc3 (T : FVec Ideal S256x3x3x4x130x130 .f32) : FVec Ideal S256x4x64x64 .f32 := addf (addf (addf (addf (addf (addf (addf (addf (shapeCast _ (Host.slice S256x1x1x4x64x64 ![0, 0, 0, 0, 0, 0] ![1, 1, 1, 1, 2, 2] T slicesBy_S256x3x3x4x130x130_S256x1x1x4x64x64_0s1_0s1_0s1_0s1_0s2_0s2) shapeCasts_S256x1x1x4x64x64_S256x4x64x64) (shapeCast _ (Host.slice S256x1x1x4x64x64 ![0, 0, 1, 0, 0, 1] ![1, 1, 1, 1, 2, 2] T slicesBy_S256x3x3x4x130x130_S256x1x1x4x64x64_0s1_0s1_1s1_0s1_0s2_1s2) shapeCasts_S256x1x1x4x64x64_S256x4x64x64)) (shapeCast _ (Host.slice S256x1x1x4x64x64 ![0, 0, 2, 0, 0, 2] ![1, 1, 1, 1, 2, 2] T slicesBy_S256x3x3x4x130x130_S256x1x1x4x64x64_0s1_0s1_2s1_0s1_0s2_2s2) shapeCasts_S256x1x1x4x64x64_S256x4x64x64)) (shapeCast _ (Host.slice S256x1x1x4x64x64 ![0, 1, 0, 0, 1, 0] ![1, 1, 1, 1, 2, 2] T slicesBy_S256x3x3x4x130x130_S256x1x1x4x64x64_0s1_1s1_0s1_0s1_1s2_0s2) shapeCasts_S256x1x1x4x64x64_S256x4x64x64)) (shapeCast _ (Host.slice S256x1x1x4x64x64 ![0, 1, 1, 0, 1, 1] ![1, 1, 1, 1, 2, 2] T slicesBy_S256x3x3x4x130x130_S256x1x1x4x64x64_0s1_1s1_1s1_0s1_1s2_1s2) shapeCasts_S256x1x1x4x64x64_S256x4x64x64)) (shapeCast _ (Host.slice S256x1x1x4x64x64 ![0, 1, 2, 0, 1, 2] ![1, 1, 1, 1, 2, 2] T slicesBy_S256x3x3x4x130x130_S256x1x1x4x64x64_0s1_1s1_2s1_0s1_1s2_2s2) shapeCasts_S256x1x1x4x64x64_S256x4x64x64)) (shapeCast _ (Host.slice S256x1x1x4x64x64 ![0, 2, 0, 0, 2, 0] ![1, 1, 1, 1, 2, 2] T slicesBy_S256x3x3x4x130x130_S256x1x1x4x64x64_0s1_2s1_0s1_0s1_2s2_0s2) shapeCasts_S256x1x1x4x64x64_S256x4x64x64)) (shapeCast _ (Host.slice S256x1x1x4x64x64 ![0, 2, 1, 0, 2, 1] ![1, 1, 1, 1, 2, 2] T slicesBy_S256x3x3x4x130x130_S256x1x1x4x64x64_0s1_2s1_1s1_0s1_2s2_1s2) shapeCasts_S256x1x1x4x64x64_S256x4x64x64)) (shapeCast _ (Host.slice S256x1x1x4x64x64 ![0, 2, 2, 0, 2, 2] ![1, 1, 1, 1, 2, 2] T slicesBy_S256x3x3x4x130x130_S256x1x1x4x64x64_0s1_2s1_2s1_0s1_2s2_2s2) shapeCasts_S256x1x1x4x64x64_S256x4x64x64)
/-- The bias and the last step. -/
def finEnc3 (N : FVec Ideal S256x4x64x64 .f32) (bias : FVec Ideal S256 .f32) : FVec Ideal S4x256x64x64 .f32 := maximumf (addf (transpose S4x256x64x64 [1, 0, 2, 3] N transposes_S256x4x64x64_S4x256x64x64_1_0_2_3) (broadcastInDim S4x256x64x64 ![0, 1, 2, 3] bcast_S1x256x1x1_S4x256x64x64_0_1_2_3 (broadcastInDim S1x256x1x1 ![1] bcast_S256_S1x256x1x1_1 bias))) (broadcastInDim S4x256x64x64 ![] bcast_S_S4x256x64x64 (constant S_ .f32 0x00000000#32))
/-- The image with its border, at one place. -/
theorem spreadEnc3_apply (X : FVec Ideal S4x128x128x128 .f32) (I : Fin 4 → Fin 128 → Fin 128 → Fin 128 → EReal)
    (hX : ∀ b y x c, X (ix4 b c y x) = I b y x c) (b : Fin 4) (i j : Fin 130) (c : Fin 128) :
    spreadEnc3 X (ix4 b c i j) = Vq.bord I b i.val j.val c := by
  unfold Vq.bord
  simp only [← hX]
  pointwise [spreadEnc3]
/-- One tap at one place. -/
theorem tapEnc3 (X : FVec Ideal S4x128x128x128 .f32) (w : FVec Ideal S256x128x3x3 .f32) (I : Fin 4 → Fin 128 → Fin 128 → Fin 128 → EReal)
    (hX : ∀ b y x c, X (ix4 b c y x) = I b y x c) (b : Fin 4) (i j : Fin 130) (i' j' : ℕ) (hi : i.val = i') (hj : j.val = j') (o : Fin 256) (ky kx : Fin 3) :
    ∑ c : Fin 128, w (ix4 o c ky kx) * spreadEnc3 X (ix4 b c i j) = Vq.tap I (Vq.w4 w) b i' j' o ky kx := by
  subst hi hj
  exact Finset.sum_congr rfl fun c _ => by rw [spreadEnc3_apply X I hX, mul_comm]; rfl
/-- The nine taps at one place. -/
theorem nineEnc3_apply (X : FVec Ideal S4x128x128x128 .f32) (w : FVec Ideal S256x128x3x3 .f32) (I : Fin 4 → Fin 128 → Fin 128 → Fin 128 → EReal)
    (hX : ∀ b y x c, X (ix4 b c y x) = I b y x c) (b : Fin 4) (y x : Fin 64) (o : Fin 256) :
    nineEnc3 (dotEnc3 w (spreadEnc3 X)) (ix4 o b y x) = Vq.tap I (Vq.w4 w) b (2 * y.val) (2 * x.val) o 0 0 + Vq.tap I (Vq.w4 w) b (2 * y.val) (2 * x.val + 1) o 0 1 + Vq.tap I (Vq.w4 w) b (2 * y.val) (2 * x.val + 2) o 0 2 + Vq.tap I (Vq.w4 w) b (2 * y.val + 1) (2 * x.val) o 1 0 + Vq.tap I (Vq.w4 w) b (2 * y.val + 1) (2 * x.val + 1) o 1 1 + Vq.tap I (Vq.w4 w) b (2 * y.val + 1) (2 * x.val + 2) o 1 2 + Vq.tap I (Vq.w4 w) b (2 * y.val + 2) (2 * x.val) o 2 0 + Vq.tap I (Vq.w4 w) b (2 * y.val + 2) (2 * x.val + 1) o 2 1 + Vq.tap I (Vq.w4 w) b (2 * y.val + 2) (2 * x.val + 2) o 2 2 := by
  pointwise [nineEnc3, dotEnc3]
  exact add_eq (add_eq (add_eq (add_eq (add_eq (add_eq (add_eq (add_eq (tapEnc3 X w I hX _ _ _ _ _ (by first | (dsimp only; done) | (dsimp only; omega) | omega) (by first | (dsimp only; done) | (dsimp only; omega) | omega) _ _ _) (tapEnc3 X w I hX _ _ _ _ _ (by first | (dsimp only; done) | (dsimp only; omega) | omega) (by first | (dsimp only; done) | (dsimp only; omega) | omega) _ _ _)) (tapEnc3 X w I hX _ _ _ _ _ (by first | (dsimp only; done) | (dsimp only; omega) | omega) (by first | (dsimp only; done) | (dsimp only; omega) | omega) _ _ _)) (tapEnc3 X w I hX _ _ _ _ _ (by first | (dsimp only; done) | (dsimp only; omega) | omega) (by first | (dsimp only; done) | (dsimp only; omega) | omega) _ _ _)) (tapEnc3 X w I hX _ _ _ _ _ (by first | (dsimp only; done) | (dsimp only; omega) | omega) (by first | (dsimp only; done) | (dsimp only; omega) | omega) _ _ _)) (tapEnc3 X w I hX _ _ _ _ _ (by first | (dsimp only; done) | (dsimp only; omega) | omega) (by first | (dsimp only; done) | (dsimp only; omega) | omega) _ _ _)) (tapEnc3 X w I hX _ _ _ _ _ (by first | (dsimp only; done) | (dsimp only; omega) | omega) (by first | (dsimp only; done) | (dsimp only; omega) | omega) _ _ _)) (tapEnc3 X w I hX _ _ _ _ _ (by first | (dsimp only; done) | (dsimp only; omega) | omega) (by first | (dsimp only; done) | (dsimp only; omega) | omega) _ _ _)) (tapEnc3 X w I hX _ _ _ _ _ (by first | (dsimp only; done) | (dsimp only; omega) | omega) (by first | (dsimp only; done) | (dsimp only; omega) | omega) _ _ _)
/-- The last step at one place. -/
theorem finEnc3_apply (N : FVec Ideal S256x4x64x64 .f32) (bias : FVec Ideal S256 .f32) (b : Fin 4) (y x : Fin 64) (o : Fin 256) :
    finEnc3 N bias (ix4 b o y x) = max (N (ix4 o b y x) + bias (ix1 o)) 0 := by
  pointwise [finEnc3]
/-- The layer is a convolution. -/
theorem enc3_apply (X : FVec Ideal S4x128x128x128 .f32) (w : FVec Ideal S256x128x3x3 .f32) (bias : FVec Ideal S256 .f32) (I : Fin 4 → Fin 128 → Fin 128 → Fin 128 → EReal)
    (hX : ∀ b y x c, X (ix4 b c y x) = I b y x c) (b : Fin 4) (y x : Fin 64) (o : Fin 256) :
    finEnc3 (nineEnc3 (dotEnc3 w (spreadEnc3 X))) bias (ix4 b o y x) = Vq.relu (Vq.convI 2 I (Vq.w4 w) (Vq.b1 bias)) b y x o := by
  rw [finEnc3_apply, nineEnc3_apply X w I hX]
  rfl

/-- The layer's image with its border. -/
def spreadEnc4 (X : FVec Ideal S4x256x64x64 .f32) : FVec Ideal S4x256x66x66 .f32 := pad S4x256x66x66 ![0, 0, 1, 1] ![0, 0, 1, 1] ![0, 0, 0, 0] X (constant S_ .f32 0x00000000#32) pads_S4x256x64x64_S4x256x66x66_000_000_110_110 h_S_
/-- The nine taps everywhere. -/
def dotEnc4 (w : FVec Ideal S512x256x3x3 .f32) (P : FVec Ideal S4x256x66x66 .f32) : FVec Ideal S512x3x3x4x66x66 .f32 := Host.dotGeneral (φ₁ := .f32) (φ₂ := .f32) dot_S512x256x3x3_S4x256x66x66_S512x3x3x4x66x66_1_1_023_023_n_n none w P
/-- The nine taps added up. -/
def nineEnc4 (T : FVec Ideal S512x3x3x4x66x66 .f32) : FVec Ideal S512x4x32x32 .f32 := addf (addf (addf (addf (addf (addf (addf (addf (shapeCast _ (Host.slice S512x1x1x4x32x32 ![0, 0, 0, 0, 0, 0] ![1, 1, 1, 1, 2, 2] T slicesBy_S512x3x3x4x66x66_S512x1x1x4x32x32_0s1_0s1_0s1_0s1_0s2_0s2) shapeCasts_S512x1x1x4x32x32_S512x4x32x32) (shapeCast _ (Host.slice S512x1x1x4x32x32 ![0, 0, 1, 0, 0, 1] ![1, 1, 1, 1, 2, 2] T slicesBy_S512x3x3x4x66x66_S512x1x1x4x32x32_0s1_0s1_1s1_0s1_0s2_1s2) shapeCasts_S512x1x1x4x32x32_S512x4x32x32)) (shapeCast _ (Host.slice S512x1x1x4x32x32 ![0, 0, 2, 0, 0, 2] ![1, 1, 1, 1, 2, 2] T slicesBy_S512x3x3x4x66x66_S512x1x1x4x32x32_0s1_0s1_2s1_0s1_0s2_2s2) shapeCasts_S512x1x1x4x32x32_S512x4x32x32)) (shapeCast _ (Host.slice S512x1x1x4x32x32 ![0, 1, 0, 0, 1, 0] ![1, 1, 1, 1, 2, 2] T slicesBy_S512x3x3x4x66x66_S512x1x1x4x32x32_0s1_1s1_0s1_0s1_1s2_0s2) shapeCasts_S512x1x1x4x32x32_S512x4x32x32)) (shapeCast _ (Host.slice S512x1x1x4x32x32 ![0, 1, 1, 0, 1, 1] ![1, 1, 1, 1, 2, 2] T slicesBy_S512x3x3x4x66x66_S512x1x1x4x32x32_0s1_1s1_1s1_0s1_1s2_1s2) shapeCasts_S512x1x1x4x32x32_S512x4x32x32)) (shapeCast _ (Host.slice S512x1x1x4x32x32 ![0, 1, 2, 0, 1, 2] ![1, 1, 1, 1, 2, 2] T slicesBy_S512x3x3x4x66x66_S512x1x1x4x32x32_0s1_1s1_2s1_0s1_1s2_2s2) shapeCasts_S512x1x1x4x32x32_S512x4x32x32)) (shapeCast _ (Host.slice S512x1x1x4x32x32 ![0, 2, 0, 0, 2, 0] ![1, 1, 1, 1, 2, 2] T slicesBy_S512x3x3x4x66x66_S512x1x1x4x32x32_0s1_2s1_0s1_0s1_2s2_0s2) shapeCasts_S512x1x1x4x32x32_S512x4x32x32)) (shapeCast _ (Host.slice S512x1x1x4x32x32 ![0, 2, 1, 0, 2, 1] ![1, 1, 1, 1, 2, 2] T slicesBy_S512x3x3x4x66x66_S512x1x1x4x32x32_0s1_2s1_1s1_0s1_2s2_1s2) shapeCasts_S512x1x1x4x32x32_S512x4x32x32)) (shapeCast _ (Host.slice S512x1x1x4x32x32 ![0, 2, 2, 0, 2, 2] ![1, 1, 1, 1, 2, 2] T slicesBy_S512x3x3x4x66x66_S512x1x1x4x32x32_0s1_2s1_2s1_0s1_2s2_2s2) shapeCasts_S512x1x1x4x32x32_S512x4x32x32)
/-- The bias and the last step. -/
def finEnc4 (N : FVec Ideal S512x4x32x32 .f32) (bias : FVec Ideal S512 .f32) : FVec Ideal S4x32x32x512 .f32 := transpose S4x32x32x512 [0, 2, 3, 1] (addf (transpose S4x512x32x32 [1, 0, 2, 3] N transposes_S512x4x32x32_S4x512x32x32_1_0_2_3) (broadcastInDim S4x512x32x32 ![0, 1, 2, 3] bcast_S1x512x1x1_S4x512x32x32_0_1_2_3 (broadcastInDim S1x512x1x1 ![1] bcast_S512_S1x512x1x1_1 bias))) transposes_S4x512x32x32_S4x32x32x512_0_2_3_1
/-- The image with its border, at one place. -/
theorem spreadEnc4_apply (X : FVec Ideal S4x256x64x64 .f32) (I : Fin 4 → Fin 64 → Fin 64 → Fin 256 → EReal)
    (hX : ∀ b y x c, X (ix4 b c y x) = I b y x c) (b : Fin 4) (i j : Fin 66) (c : Fin 256) :
    spreadEnc4 X (ix4 b c i j) = Vq.bord I b i.val j.val c := by
  unfold Vq.bord
  simp only [← hX]
  pointwise [spreadEnc4]
/-- One tap at one place. -/
theorem tapEnc4 (X : FVec Ideal S4x256x64x64 .f32) (w : FVec Ideal S512x256x3x3 .f32) (I : Fin 4 → Fin 64 → Fin 64 → Fin 256 → EReal)
    (hX : ∀ b y x c, X (ix4 b c y x) = I b y x c) (b : Fin 4) (i j : Fin 66) (i' j' : ℕ) (hi : i.val = i') (hj : j.val = j') (o : Fin 512) (ky kx : Fin 3) :
    ∑ c : Fin 256, w (ix4 o c ky kx) * spreadEnc4 X (ix4 b c i j) = Vq.tap I (Vq.w4 w) b i' j' o ky kx := by
  subst hi hj
  exact Finset.sum_congr rfl fun c _ => by rw [spreadEnc4_apply X I hX, mul_comm]; rfl
/-- The nine taps at one place. -/
theorem nineEnc4_apply (X : FVec Ideal S4x256x64x64 .f32) (w : FVec Ideal S512x256x3x3 .f32) (I : Fin 4 → Fin 64 → Fin 64 → Fin 256 → EReal)
    (hX : ∀ b y x c, X (ix4 b c y x) = I b y x c) (b : Fin 4) (y x : Fin 32) (o : Fin 512) :
    nineEnc4 (dotEnc4 w (spreadEnc4 X)) (ix4 o b y x) = Vq.tap I (Vq.w4 w) b (2 * y.val) (2 * x.val) o 0 0 + Vq.tap I (Vq.w4 w) b (2 * y.val) (2 * x.val + 1) o 0 1 + Vq.tap I (Vq.w4 w) b (2 * y.val) (2 * x.val + 2) o 0 2 + Vq.tap I (Vq.w4 w) b (2 * y.val + 1) (2 * x.val) o 1 0 + Vq.tap I (Vq.w4 w) b (2 * y.val + 1) (2 * x.val + 1) o 1 1 + Vq.tap I (Vq.w4 w) b (2 * y.val + 1) (2 * x.val + 2) o 1 2 + Vq.tap I (Vq.w4 w) b (2 * y.val + 2) (2 * x.val) o 2 0 + Vq.tap I (Vq.w4 w) b (2 * y.val + 2) (2 * x.val + 1) o 2 1 + Vq.tap I (Vq.w4 w) b (2 * y.val + 2) (2 * x.val + 2) o 2 2 := by
  pointwise [nineEnc4, dotEnc4]
  exact add_eq (add_eq (add_eq (add_eq (add_eq (add_eq (add_eq (add_eq (tapEnc4 X w I hX _ _ _ _ _ (by first | (dsimp only; done) | (dsimp only; omega) | omega) (by first | (dsimp only; done) | (dsimp only; omega) | omega) _ _ _) (tapEnc4 X w I hX _ _ _ _ _ (by first | (dsimp only; done) | (dsimp only; omega) | omega) (by first | (dsimp only; done) | (dsimp only; omega) | omega) _ _ _)) (tapEnc4 X w I hX _ _ _ _ _ (by first | (dsimp only; done) | (dsimp only; omega) | omega) (by first | (dsimp only; done) | (dsimp only; omega) | omega) _ _ _)) (tapEnc4 X w I hX _ _ _ _ _ (by first | (dsimp only; done) | (dsimp only; omega) | omega) (by first | (dsimp only; done) | (dsimp only; omega) | omega) _ _ _)) (tapEnc4 X w I hX _ _ _ _ _ (by first | (dsimp only; done) | (dsimp only; omega) | omega) (by first | (dsimp only; done) | (dsimp only; omega) | omega) _ _ _)) (tapEnc4 X w I hX _ _ _ _ _ (by first | (dsimp only; done) | (dsimp only; omega) | omega) (by first | (dsimp only; done) | (dsimp only; omega) | omega) _ _ _)) (tapEnc4 X w I hX _ _ _ _ _ (by first | (dsimp only; done) | (dsimp only; omega) | omega) (by first | (dsimp only; done) | (dsimp only; omega) | omega) _ _ _)) (tapEnc4 X w I hX _ _ _ _ _ (by first | (dsimp only; done) | (dsimp only; omega) | omega) (by first | (dsimp only; done) | (dsimp only; omega) | omega) _ _ _)) (tapEnc4 X w I hX _ _ _ _ _ (by first | (dsimp only; done) | (dsimp only; omega) | omega) (by first | (dsimp only; done) | (dsimp only; omega) | omega) _ _ _)
/-- The last step at one place. -/
theorem finEnc4_apply (N : FVec Ideal S512x4x32x32 .f32) (bias : FVec Ideal S512 .f32) (b : Fin 4) (y x : Fin 32) (o : Fin 512) :
    finEnc4 N bias (ix4 b y x o) = N (ix4 o b y x) + bias (ix1 o) := by
  pointwise [finEnc4]
/-- The layer is a convolution. -/
theorem enc4_apply (X : FVec Ideal S4x256x64x64 .f32) (w : FVec Ideal S512x256x3x3 .f32) (bias : FVec Ideal S512 .f32) (I : Fin 4 → Fin 64 → Fin 64 → Fin 256 → EReal)
    (hX : ∀ b y x c, X (ix4 b c y x) = I b y x c) (b : Fin 4) (y x : Fin 32) (o : Fin 512) :
    finEnc4 (nineEnc4 (dotEnc4 w (spreadEnc4 X))) bias (ix4 b y x o) = Vq.convI 2 I (Vq.w4 w) (Vq.b1 bias) b y x o := by
  rw [finEnc4_apply, nineEnc4_apply X w I hX]
  rfl

end Cert.ReferenceIdeal.Hand
-- ==== Proof.RefRead.lean ====
module
public import proofs.«01_k».proof.Proof.RefRun
public import proofs.«01_k».proof.Proof.Conv
public import Idealize.ShloMosaic.Lib.KernelVsHost
public import Idealize.ShloMosaic.Lib.Tactic.IndexArith
public import proofs.«01_k».proof.Proof.RefPure
public import Idealize.ShloMosaic.Lib.StableHlo.RunClose

/-! What each layer of the reference program leaves. -/

@[expose] public section
set_option maxRecDepth 16384
noncomputable section
namespace Cert.ReferenceIdeal.Hand
open Cert.ReferenceIdeal Idealize.ShloMosaic Idealize.ShloMosaic.TcCoe Idealize.SL.Sem Idealize.ShloMosaic.StableHlo

/-- What the layer's operations leave. -/
theorem enc1_read (V : Valuation τ sig (Elt Ideal)) : after enc1 V main_v32 = finEnc1 (nineEnc1 (dotEnc1 (V main_arg1) (spreadEnc1 (V main_arg0)))) (V main_arg2) := by
  unfold finEnc1 nineEnc1 dotEnc1 spreadEnc1
  after_results
  rfl

/-- What the layer's operations leave. -/
theorem enc2_read (V : Valuation τ sig (Elt Ideal)) : after enc2b (after enc2a V) main_v65 = finEnc2 (nineEnc2 (dotEnc2 (V main_arg3) (spreadEnc2 (V main_v32)))) (V main_arg4) := by
  unfold finEnc2 nineEnc2 dotEnc2 spreadEnc2
  after_results
  rfl

/-- What the layer's operations leave. -/
theorem enc3_read (V : Valuation τ sig (Elt Ideal)) : after enc3 V main_v98 = finEnc3 (nineEnc3 (dotEnc3 (V main_arg5) (spreadEnc3 (V main_v65)))) (V main_arg6) := by
  unfold finEnc3 nineEnc3 dotEnc3 spreadEnc3
  after_results
  rfl

/-- What the layer's operations leave. -/
theorem enc4_read (V : Valuation τ sig (Elt Ideal)) : after enc4b (after enc4a V) main_v131 = finEnc4 (nineEnc4 (dotEnc4 (V main_arg7) (spreadEnc4 (V main_v98)))) (V main_arg8) := by
  unfold finEnc4 nineEnc4 dotEnc4 spreadEnc4
  after_results
  rfl

end Cert.ReferenceIdeal.Hand
-- ==== Proof.RefAmin.lean ====
module
public import proofs.«01_k».proof.Proof.Least
public import proofs.«01_k».proof.Proof.RefFacts
public import Idealize.ShloMosaic.Lib.KernelVsHost
public import Idealize.ShloMosaic.PureOps.Reduce
public import Idealize.ShloMosaic.PureOps.Ideal.Laws
public import Idealize.ShloMosaic.Lib.Pointwise.Reduce

/-! The reference's search for the least of a row, at any number of rows. -/

@[expose] public section
noncomputable section
namespace Cert.ReferenceIdeal.Hand
open Cert.ReferenceIdeal Idealize.ShloMosaic

/-- One step of the search, as the order of pairs. -/
theorem step_before (a b : EReal × BitVec 32) : (reducer_argmin_f32_i32 (F := Ideal) a b : EReal × BitVec 32)
    = (Scalar.select (BitVec.ofBool (decide (a.1 < b.1))) a.1 b.1, Scalar.select (Vq.before a.1 b.1 a.2 b.2) a.2 b.2) := by
  have hne : (FloatOps.cmpf (F := Ideal) (φ := .f32) .une a.1 a.1 : BitVec 1) = 0#1 := by
    rw [Ideal.cmpf_def]; simp [Ideal.cmp]
  have hlt : (FloatOps.cmpf (F := Ideal) (φ := .f32) .olt a.1 b.1 : BitVec 1) = BitVec.ofBool (decide (a.1 < b.1)) := by
    rw [Ideal.cmpf_def]; simp [Ideal.cmp]
  have heq : (FloatOps.cmpf (F := Ideal) (φ := .f32) .oeq a.1 b.1 : BitVec 1) = BitVec.ofBool (decide (a.1 = b.1)) := by
    rw [Ideal.cmpf_def]; simp [Ideal.cmp]
  have ho : ∀ x : BitVec 1, IntOp.ori x 0#1 = x := fun x => by simp [IntOp.ori]
  unfold reducer_argmin_f32_i32 Vq.before
  dsimp only
  rw [hne, hlt, heq, ho]

/-- The first place of the least element of each row. -/
def firstsOf {N : ℕ} (D : FVec Ideal ⟨2, ![N, 8192]⟩ .f32) (h : (⟨2, ![N, 8192]⟩ : Shape).ReducesTo [1] ⟨1, ![N]⟩) (hu : 0 < S_.numel)
    (u : FVec Ideal S_ .f32) (v : IVec S_ 32) : IVec ⟨1, ![N]⟩ 32 := fun j =>
  (Host.argReduce reducer_argmin_f32_i32 D (iotaInDim ⟨2, ![N, 8192]⟩ 32 1) u v h hu j).2

/-- What the search holds, read against the distances of the row. -/
theorem argmin_held {N : ℕ} (D : FVec Ideal ⟨2, ![N, 8192]⟩ .f32) (h : (⟨2, ![N, 8192]⟩ : Shape).ReducesTo [1] ⟨1, ![N]⟩) (hu : 0 < S_.numel)
    (u : FVec Ideal S_ .f32) (v : IVec S_ 32) (hi : (u (Shape.Idx.first hu), v (Shape.Idx.first hu)) = ((⊤, 0#32) : EReal × BitVec 32))
    (n : Fin N) (E : ℕ → EReal) (hE : ∀ k : Fin 8192, D (ix2 n k) = E k.val) :
    ∃ w, Vq.Held E (fun k => k < 8192) w (firstsOf D h hu u v (ix1 n)) := by
  unfold firstsOf
  rw [Ideal.argReduce_eq_reduce2, Host.reduce2_eq_foldl_fiber]
  have key : ∀ q : EReal × BitVec 32, q ∈ Host.argReduceFiber D (iotaInDim ⟨2, ![N, 8192]⟩ 32 1) h (ix1 n) ↔
      ∃ k, k < 8192 ∧ q = (E k, BitVec.ofNat 32 k) := by
    intro q
    simp only [Host.argReduceFiber, List.mem_map, List.mem_filter, List.mem_finRange, true_and, decide_eq_true_eq, h.fiber_r2_a1]
    constructor
    · rintro ⟨i, ⟨k, hk⟩, rfl⟩
      rw [← hk]
      exact ⟨k.val, k.isLt, Prod.ext (hE k) rfl⟩
    · rintro ⟨k, hk, rfl⟩
      refine ⟨(⟨2, ![N, 8192]⟩ : Shape).rowMajor (ix2 n ⟨k, hk⟩), ?_, ?_⟩
      · rw [Equiv.symm_apply_apply]
        exact ⟨⟨k, hk⟩, rfl⟩
      · rw [Equiv.symm_apply_apply, hE]
        rfl
  have hh := Vq.held_foldl E (reducer_argmin_f32_i32 (F := Ideal)) step_before (Host.argReduceFiber D (iotaInDim ⟨2, ![N, 8192]⟩ 32 1) h (ix1 n))
    (fun q hq => (key q).1 hq) (fun _ => False) (⊤, 0#32) (Vq.held_start E _ fun _ h => h)
  rw [hi]
  refine ⟨_, Vq.held_congr (fun k => ?_) hh⟩
  constructor
  · rintro (h | ⟨h, _⟩)
    · exact h.elim
    · exact h
  · exact fun h => .inr ⟨h, (key _).2 ⟨k, h, rfl⟩⟩

end Cert.ReferenceIdeal.Hand
-- ==== Proof.RefQuant.lean ====
module
public import proofs.«01_k».proof.Proof.RefRun
public import proofs.«01_k».proof.Proof.Least
public import proofs.«01_k».proof.Proof.Conv
public import proofs.«01_k».proof.Proof.RefAmin
public import Idealize.ShloMosaic.Lib.KernelVsHost
public import Idealize.ShloMosaic.PureOps.Reduce
public import Idealize.ShloMosaic.PureOps.Ideal.Laws
public import Idealize.ShloMosaic.Lib.Tactic.IndexArith
public import Idealize.ShloMosaic.Lib.StableHlo.RunClose

/-! The reference's quantiser: the distances, and the first row at the least of them. -/

@[expose] public section
set_option maxRecDepth 16384
noncomputable section
namespace Cert.ReferenceIdeal.Hand
open Cert.ReferenceIdeal Idealize.ShloMosaic Idealize.ShloMosaic.TcCoe Idealize.SL.Sem Idealize.ShloMosaic.StableHlo

/-- An image's places as rows. -/
def rows (z : FVec Ideal S4x32x32x512 .f32) : FVec Ideal S4096x512 .f32 := shapeCast _ z shapeCasts_S4x32x32x512_S4096x512

/-- The squared lengths of the rows against those of the codebook, less twice the products. -/
def gap (Z : FVec Ideal S4096x512 .f32) (e : FVec Ideal S8192x512 .f32) : FVec Ideal S4096x8192 .f32 :=
  subf (addf (broadcastInDim S4096x8192 ![0, 1] bcast_S4096x1_S4096x8192_0_1 (broadcastInDim S4096x1 ![0] bcast_S4096_S4096x1_0
          (Host.reduceAdd (mulf Z Z) (constant (F := Ideal) S_ .f32 0x00000000#32) reducesTo_S4096x512_S4096_d1 h_S_)))
        (broadcastInDim S4096x8192 ![0, 1] bcast_S1x8192_S4096x8192_0_1 (broadcastInDim S1x8192 ![1] bcast_S8192_S1x8192_1
          (Host.reduceAdd (mulf e e) (constant (F := Ideal) S_ .f32 0x00000000#32) reducesTo_S8192x512_S8192_d1 h_S_))))
      (Host.dotGeneral dot_S4096x512_S512x8192_S4096x8192_1_0_0_1_n_n none
        (mulf (broadcastInDim S4096x512 ![] bcast_S_S4096x512 (constant (F := Ideal) S_ .f32 0x40000000#32)) Z)
        (transpose S512x8192 [1, 0] e transposes_S8192x512_S512x8192_1_0))

/-- The distances of the codebook rows to the rows. -/
def dists (Z : FVec Ideal S4096x512 .f32) (e : FVec Ideal S8192x512 .f32) : FVec Ideal S4096x8192 .f32 :=
  Host.sqrt (maximumf (gap Z e) (broadcastInDim S4096x8192 ![] bcast_S_S4096x8192 (constant (F := Ideal) S_ .f32 0x00000000#32)))

/-- What the distance operations leave. -/
theorem dist_read (V : Valuation τ sig (Elt Ideal)) : after dist V main_v149 = dists (rows (V main_v131)) (V main_arg9) := by
  unfold dists gap rows
  after_results
  rfl

/-- The first place of the least element of each row. -/
def firsts (D : FVec Ideal S4096x8192 .f32) : IVec S4096 32 :=
  firstsOf (N := 4096) D reducesTo_S4096x8192_S4096_d1 h_S_ (constant (F := Ideal) S_ .f32 0x7F800000#32) (constantI S_ 32 0#32)

/-- What the search leaves. -/
theorem amin_read (V : Valuation τ sig (Elt Ideal)) : after amin V main_v150 = firsts (V main_v149) := by
  unfold firsts firstsOf
  after_results
  rfl

/-- Doubling passes through a sum. -/
theorem two_sum {N : ℕ} (s : Finset (Fin N)) (c : EReal) (h0 : 0 ≤ c) (ht : c ≠ ⊤) (f : Fin N → EReal) : ∑ x ∈ s, c * f x = c * ∑ x ∈ s, f x := by
  induction s using Finset.induction_on with
  | empty => simp
  | insert a s ha ih => rw [Finset.sum_insert ha, Finset.sum_insert ha, ih, EReal.left_distrib_of_nonneg_of_ne_top h0 ht]

/-- The number the distances double by. -/
theorem two_ok : (0 : EReal) ≤ Ideal.ofBits FTy.f32 1073741824#32 ∧ (Ideal.ofBits FTy.f32 1073741824#32 : EReal) ≠ ⊤ := by
  have h : (Ideal.ofBits FTy.f32 1073741824#32 : EReal) = ((2 : ℝ) : EReal) := by
    simp only [Ideal.ofBits, Ideal.ieee]
    simp
    rw [← EReal.coe_mul]
    norm_num
  rw [h]
  exact ⟨by exact_mod_cast (by norm_num : (0:ℝ) ≤ 2), EReal.coe_ne_top _⟩

/-- A distance, read at its row and place. -/
theorem dists_apply (Z : FVec Ideal S4096x512 .f32) (e : FVec Ideal S8192x512 .f32) (n : Fin 4096) (k : Fin 8192) :
    dists Z e (ix2 n k) = Ideal.sqrt (max (∑ x : Fin 512, Z (ix2 n x) * Z (ix2 n x) + ∑ x : Fin 512, e (ix2 k x) * e (ix2 k x)
      - Ideal.ofBits FTy.f32 1073741824#32 * ∑ x : Fin 512, e (ix2 k x) * Z (ix2 n x)) 0) := by
  rw [← two_sum _ _ two_ok.1 two_ok.2]
  pointwise [dists, gap]
  have hs : ∑ x : Fin 512, Ideal.ofBits FTy.f32 1073741824#32 * Z (ix2 n x) * e (ix2 k x)
      = ∑ x : Fin 512, Ideal.ofBits FTy.f32 1073741824#32 * (e (ix2 k x) * Z (ix2 n x)) :=
    Finset.sum_congr rfl fun x _ => by rw [mul_assoc, mul_comm (Z _)]
  rw [hs]

/-- What the search starts from. -/
theorem start_pair : ((constant (F := Ideal) S_ .f32 0x7F800000#32) (Shape.Idx.first h_S_), (constantI S_ 32 0#32) (Shape.Idx.first h_S_)) = ((⊤, 0#32) : EReal × BitVec 32) := by
  refine Prod.ext ?_ rfl
  show (Ideal.ofBits FTy.f32 0x7F800000#32 : EReal) = ⊤
  simp [Ideal.ofBits, Ideal.ieee]

/-- A code of the reference: a row at the least distance, no earlier row being as near. -/
theorem firsts_held (D : FVec Ideal S4096x8192 .f32) (n : Fin 4096) (E : ℕ → EReal)
    (hE : ∀ k : Fin 8192, D (ix2 n k) = E k.val) : ∃ v, Vq.Held E (fun k => k < 8192) v (firsts D (ix1 n)) :=
  argmin_held (N := 4096) D reducesTo_S4096x8192_S4096_d1 h_S_ (constant (F := Ideal) S_ .f32 0x7F800000#32) (constantI S_ 32 0#32)
    start_pair n E hE

end Cert.ReferenceIdeal.Hand
-- ==== Proof.RFinal.lean ====
module
public import proofs.«01_k».proof.Proof.Spec
public import proofs.«01_k».proof.Proof.RefRead
public import proofs.«01_k».proof.Proof.RefQuant

/-! What the reference program leaves in its results. -/

@[expose] public section
set_option maxRecDepth 16384
noncomputable section
namespace Cert.ReferenceIdeal.Hand
open Cert.ReferenceIdeal Idealize.ShloMosaic Idealize.ShloMosaic.TcCoe Idealize.SL.Sem Idealize.ShloMosaic.StableHlo

/-- The arguments. -/
abbrev argRefs : List (Ref sig .tc) := [main_arg0, main_arg1, main_arg2, main_arg3, main_arg4, main_arg5, main_arg6, main_arg7, main_arg8, main_arg9]
/-- `enc1` writes no argument. -/
theorem args_enc1 : ∀ a ∈ argRefs, a ∉ enc1_W := by decide
/-- The arguments after `enc1`. -/
theorem U1_args (V : Valuation τ sig (Elt Ideal)) (a : Ref sig .tc) (ha : a ∈ argRefs) : U1 V (Proc.devRef .tc a) = V (Proc.devRef .tc a) :=
  U1_keep V a (args_enc1 a ha)
/-- `enc2a` writes no argument. -/
theorem args_enc2a : ∀ a ∈ argRefs, a ∉ enc2a_W := by decide
/-- The arguments after `enc2a`. -/
theorem U2_args (V : Valuation τ sig (Elt Ideal)) (a : Ref sig .tc) (ha : a ∈ argRefs) : U2 V (Proc.devRef .tc a) = V (Proc.devRef .tc a) :=
  (U2_keep V a (args_enc2a a ha)).trans (U1_args V a ha)
/-- `enc2b` writes no argument. -/
theorem args_enc2b : ∀ a ∈ argRefs, a ∉ enc2b_W := by decide
/-- The arguments after `enc2b`. -/
theorem U3_args (V : Valuation τ sig (Elt Ideal)) (a : Ref sig .tc) (ha : a ∈ argRefs) : U3 V (Proc.devRef .tc a) = V (Proc.devRef .tc a) :=
  (U3_keep V a (args_enc2b a ha)).trans (U2_args V a ha)
/-- `enc3` writes no argument. -/
theorem args_enc3 : ∀ a ∈ argRefs, a ∉ enc3_W := by decide
/-- The arguments after `enc3`. -/
theorem U4_args (V : Valuation τ sig (Elt Ideal)) (a : Ref sig .tc) (ha : a ∈ argRefs) : U4 V (Proc.devRef .tc a) = V (Proc.devRef .tc a) :=
  (U4_keep V a (args_enc3 a ha)).trans (U3_args V a ha)
/-- `enc4a` writes no argument. -/
theorem args_enc4a : ∀ a ∈ argRefs, a ∉ enc4a_W := by decide
/-- The arguments after `enc4a`. -/
theorem U5_args (V : Valuation τ sig (Elt Ideal)) (a : Ref sig .tc) (ha : a ∈ argRefs) : U5 V (Proc.devRef .tc a) = V (Proc.devRef .tc a) :=
  (U5_keep V a (args_enc4a a ha)).trans (U4_args V a ha)
/-- `enc4b` writes no argument. -/
theorem args_enc4b : ∀ a ∈ argRefs, a ∉ enc4b_W := by decide
/-- The arguments after `enc4b`. -/
theorem U6_args (V : Valuation τ sig (Elt Ideal)) (a : Ref sig .tc) (ha : a ∈ argRefs) : U6 V (Proc.devRef .tc a) = V (Proc.devRef .tc a) :=
  (U6_keep V a (args_enc4b a ha)).trans (U5_args V a ha)
/-- `dist` writes no argument. -/
theorem args_dist : ∀ a ∈ argRefs, a ∉ dist_W := by decide
/-- The arguments after `dist`. -/
theorem U7_args (V : Valuation τ sig (Elt Ideal)) (a : Ref sig .tc) (ha : a ∈ argRefs) : U7 V (Proc.devRef .tc a) = V (Proc.devRef .tc a) :=
  (U7_keep V a (args_dist a ha)).trans (U6_args V a ha)
/-- `amin` writes no argument. -/
theorem args_amin : ∀ a ∈ argRefs, a ∉ amin_W := by decide
/-- The arguments after `amin`. -/
theorem U8_args (V : Valuation τ sig (Elt Ideal)) (a : Ref sig .tc) (ha : a ∈ argRefs) : U8 V (Proc.devRef .tc a) = V (Proc.devRef .tc a) :=
  (U8_keep V a (args_amin a ha)).trans (U7_args V a ha)
/-- What the layer leaves, of what it is given. -/
theorem enc1_out (V : Valuation τ sig (Elt Ideal)) (b : Fin 4) (y x : Fin 256) (o : Fin 64) :
    (U1 V main_v32 : FVec Ideal S4x64x256x256 .f32) (ix4 b o y x) = Vq.enc1 (V main_arg0) (V main_arg1) (V main_arg2) b y x o := by
  have e : U1 V main_v32 = finEnc1 (nineEnc1 (dotEnc1 (V main_arg1) (spreadEnc1 (V main_arg0)))) (V main_arg2) := enc1_read V
  rw [e]
  exact enc1_apply _ _ _ (Vq.img (V main_arg0 : FVec Ideal S4x3x256x256 .f32)) (fun _ _ _ _ => rfl) b y x o
/-- What the layer leaves, of what it is given. -/
theorem enc2_out (V : Valuation τ sig (Elt Ideal)) (I : Fin 4 → Fin 256 → Fin 256 → Fin 64 → EReal)
    (hX : ∀ b y x c, (U1 V main_v32 : FVec Ideal S4x64x256x256 .f32) (ix4 b c y x) = I b y x c) (b : Fin 4) (y x : Fin 128) (o : Fin 128) :
    (U3 V main_v65 : FVec Ideal S4x128x128x128 .f32) (ix4 b o y x) = Vq.enc2 I (V main_arg3) (V main_arg4) b y x o := by
  have e : U3 V main_v65 = finEnc2 (nineEnc2 (dotEnc2 (U1 V main_arg3) (spreadEnc2 (U1 V main_v32)))) (U1 V main_arg4) := enc2_read (U1 V)
  have ew : U1 V main_arg3 = V main_arg3 := U1_args V main_arg3 (by decide)
  have eb : U1 V main_arg4 = V main_arg4 := U1_args V main_arg4 (by decide)
  rw [e, ew, eb]
  exact enc2_apply _ _ _ I hX b y x o
/-- What the layer leaves, of what it is given. -/
theorem enc3_out (V : Valuation τ sig (Elt Ideal)) (I : Fin 4 → Fin 128 → Fin 128 → Fin 128 → EReal)
    (hX : ∀ b y x c, (U3 V main_v65 : FVec Ideal S4x128x128x128 .f32) (ix4 b c y x) = I b y x c) (b : Fin 4) (y x : Fin 64) (o : Fin 256) :
    (U4 V main_v98 : FVec Ideal S4x256x64x64 .f32) (ix4 b o y x) = Vq.enc3 I (V main_arg5) (V main_arg6) b y x o := by
  have e : U4 V main_v98 = finEnc3 (nineEnc3 (dotEnc3 (U3 V main_arg5) (spreadEnc3 (U3 V main_v65)))) (U3 V main_arg6) := enc3_read (U3 V)
  have ew : U3 V main_arg5 = V main_arg5 := U3_args V main_arg5 (by decide)
  have eb : U3 V main_arg6 = V main_arg6 := U3_args V main_arg6 (by decide)
  rw [e, ew, eb]
  exact enc3_apply _ _ _ I hX b y x o
/-- What the layer leaves, of what it is given. -/
theorem enc4_out (V : Valuation τ sig (Elt Ideal)) (I : Fin 4 → Fin 64 → Fin 64 → Fin 256 → EReal)
    (hX : ∀ b y x c, (U4 V main_v98 : FVec Ideal S4x256x64x64 .f32) (ix4 b c y x) = I b y x c) (b : Fin 4) (y x : Fin 32) (o : Fin 512) :
    (U6 V main_v131 : FVec Ideal S4x32x32x512 .f32) (ix4 b y x o) = Vq.enc4 I (V main_arg7) (V main_arg8) b y x o := by
  have e : U6 V main_v131 = finEnc4 (nineEnc4 (dotEnc4 (U4 V main_arg7) (spreadEnc4 (U4 V main_v98)))) (U4 V main_arg8) := enc4_read (U4 V)
  have ew : U4 V main_arg7 = V main_arg7 := U4_args V main_arg7 (by decide)
  have eb : U4 V main_arg8 = V main_arg8 := U4_args V main_arg8 (by decide)
  rw [e, ew, eb]
  exact enc4_apply _ _ _ I hX b y x o
/-- The encoder's image, as the rows the distances are taken of. -/
theorem enc_rows (V : Valuation τ sig (Elt Ideal)) (b : Fin 4) (y x : Fin 32) (o : Fin 512) :
    rows (U6 V main_v131) (ix2 ⟨b.val * 1024 + y.val * 32 + x.val, by omega⟩ o)
      = Vq.encoded (V main_arg0 : FVec Ideal S4x3x256x256 .f32) (V main_arg1 : FVec Ideal S64x3x3x3 .f32) (V main_arg2 : FVec Ideal S64 .f32) (V main_arg3 : FVec Ideal S128x64x3x3 .f32) (V main_arg4 : FVec Ideal S128 .f32) (V main_arg5 : FVec Ideal S256x128x3x3 .f32) (V main_arg6 : FVec Ideal S256 .f32) (V main_arg7 : FVec Ideal S512x256x3x3 .f32) (V main_arg8 : FVec Ideal S512 .f32) b y x o := by
  have h : rows (U6 V main_v131) (ix2 ⟨b.val * 1024 + y.val * 32 + x.val, by omega⟩ o) = (U6 V main_v131 : FVec Ideal S4x32x32x512 .f32) (ix4 b y x o) := by
    refine congrArg (U6 V main_v131 : FVec Ideal S4x32x32x512 .f32) (Shape.reshapeEquiv_eq_of_rowMajor _ ?_)
    rw [Shape.rowMajor_val_four, Shape.rowMajor_val_two]
    simp
    ring
  rw [h]
  exact enc4_out V _ (enc3_out V _ (enc2_out V _ (fun b y x c => enc1_out V b y x c))) b y x o

/-- The codes, of the distances. -/
theorem codes_eq (V : Valuation τ sig (Elt Ideal)) : U8 V main_v150 = firsts (dists (rows (U6 V main_v131)) (V main_arg9)) := by
  have e2 : U8 V main_v150 = firsts (U7 V main_v149) := amin_read (U7 V)
  have e3 : U7 V main_v149 = dists (rows (U6 V main_v131)) (U6 V main_arg9) := dist_read (U6 V)
  have e4 : U6 V main_arg9 = V main_arg9 := U6_args V main_arg9 (by decide)
  rw [e2, e3, e4]

end Cert.ReferenceIdeal.Hand
-- ==== Proof.Same.lean ====
module
public import proofs.«01_k».proof.Proof.KFinal
public import proofs.«01_k».proof.Proof.RFinal

/-! From equal arguments the kernel program and the reference leave equal results. -/

@[expose] public section
set_option maxRecDepth 16384
noncomputable section
namespace Cert.KernelIdeal.Hand
open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- The rows the two programs search the codebook for are equal. -/
theorem rows_same (c : Dev nD) (V : Valuation Cert.ReferenceIdeal.τ Cert.ReferenceIdeal.sig (Elt Ideal))
    (a0 : FVec Ideal S4x3x256x256 .f32) (k0 : m ((c : Thread nD τ).loc main_arg0) = a0) (h0 : V (Proc.devRef .tc Cert.ReferenceIdeal.main_arg0) = a0)
    (a1 : FVec Ideal S64x3x3x3 .f32) (k1 : m ((c : Thread nD τ).loc main_arg1) = a1) (h1 : V (Proc.devRef .tc Cert.ReferenceIdeal.main_arg1) = a1)
    (a2 : FVec Ideal S64 .f32) (k2 : m ((c : Thread nD τ).loc main_arg2) = a2) (h2 : V (Proc.devRef .tc Cert.ReferenceIdeal.main_arg2) = a2)
    (a3 : FVec Ideal S128x64x3x3 .f32) (k3 : m ((c : Thread nD τ).loc main_arg3) = a3) (h3 : V (Proc.devRef .tc Cert.ReferenceIdeal.main_arg3) = a3)
    (a4 : FVec Ideal S128 .f32) (k4 : m ((c : Thread nD τ).loc main_arg4) = a4) (h4 : V (Proc.devRef .tc Cert.ReferenceIdeal.main_arg4) = a4)
    (a5 : FVec Ideal S256x128x3x3 .f32) (k5 : m ((c : Thread nD τ).loc main_arg5) = a5) (h5 : V (Proc.devRef .tc Cert.ReferenceIdeal.main_arg5) = a5)
    (a6 : FVec Ideal S256 .f32) (k6 : m ((c : Thread nD τ).loc main_arg6) = a6) (h6 : V (Proc.devRef .tc Cert.ReferenceIdeal.main_arg6) = a6)
    (a7 : FVec Ideal S512x256x3x3 .f32) (k7 : m ((c : Thread nD τ).loc main_arg7) = a7) (h7 : V (Proc.devRef .tc Cert.ReferenceIdeal.main_arg7) = a7)
    (a8 : FVec Ideal S512 .f32) (k8 : m ((c : Thread nD τ).loc main_arg8) = a8) (h8 : V (Proc.devRef .tc Cert.ReferenceIdeal.main_arg8) = a8)
    (n : Fin 4096) (o : Fin 512) :
    (Cert.ReferenceIdeal.Hand.rows (Cert.ReferenceIdeal.Hand.U6 V (Proc.devRef .tc Cert.ReferenceIdeal.main_v131)) : FVec Ideal S4096x512 .f32) (ix2 n o)
      = (W20 m ρ c main_v69 : FVec Ideal S4096x512 .f32) (ix2 n o) := by
  obtain ⟨b, y, x, h, rfl⟩ : ∃ (b : Fin 4) (y x : Fin 32) (h : b.val * 1024 + y.val * 32 + x.val < 4096), n = ⟨b.val * 1024 + y.val * 32 + x.val, h⟩ :=
    ⟨⟨n.val / 1024, by omega⟩, ⟨n.val / 32 % 32, by omega⟩, ⟨n.val % 32, by omega⟩, by dsimp only; omega, Fin.ext (by dsimp only; omega)⟩
  refine (Cert.ReferenceIdeal.Hand.enc_rows V b y x o).trans (Eq.trans ?_ (enc_rows m ρ c b y x o).symm)
  unfold encK
  rw [h0, h1, h2, h3, h4, h5, h6, h7, h8, k0, k1, k2, k3, k4, k5, k6, k7, k8]

/-- The distances of a row are the same in the two programs. -/
theorem dist_same (Z Z' : FVec Ideal S4096x512 .f32) (e : FVec Ideal S8192x512 .f32) (n : Fin 4096) (hZ : ∀ o : Fin 512, Z (ix2 n o) = Z' (ix2 n o)) (k : Fin 8192) :
    Cert.ReferenceIdeal.Hand.dists Z e (ix2 n k) = rowDist (L := 4096) (colsOf Z') e n k.val := by
  rw [Cert.ReferenceIdeal.Hand.dists_apply, rowDist, dif_pos k.isLt]
  simp only [colsOf_apply, hZ]

/-- The codes are equal. -/
theorem codes_same (c : Dev nD) (V : Valuation Cert.ReferenceIdeal.τ Cert.ReferenceIdeal.sig (Elt Ideal))
    (a0 : FVec Ideal S4x3x256x256 .f32) (k0 : m ((c : Thread nD τ).loc main_arg0) = a0) (h0 : V (Proc.devRef .tc Cert.ReferenceIdeal.main_arg0) = a0)
    (a1 : FVec Ideal S64x3x3x3 .f32) (k1 : m ((c : Thread nD τ).loc main_arg1) = a1) (h1 : V (Proc.devRef .tc Cert.ReferenceIdeal.main_arg1) = a1)
    (a2 : FVec Ideal S64 .f32) (k2 : m ((c : Thread nD τ).loc main_arg2) = a2) (h2 : V (Proc.devRef .tc Cert.ReferenceIdeal.main_arg2) = a2)
    (a3 : FVec Ideal S128x64x3x3 .f32) (k3 : m ((c : Thread nD τ).loc main_arg3) = a3) (h3 : V (Proc.devRef .tc Cert.ReferenceIdeal.main_arg3) = a3)
    (a4 : FVec Ideal S128 .f32) (k4 : m ((c : Thread nD τ).loc main_arg4) = a4) (h4 : V (Proc.devRef .tc Cert.ReferenceIdeal.main_arg4) = a4)
    (a5 : FVec Ideal S256x128x3x3 .f32) (k5 : m ((c : Thread nD τ).loc main_arg5) = a5) (h5 : V (Proc.devRef .tc Cert.ReferenceIdeal.main_arg5) = a5)
    (a6 : FVec Ideal S256 .f32) (k6 : m ((c : Thread nD τ).loc main_arg6) = a6) (h6 : V (Proc.devRef .tc Cert.ReferenceIdeal.main_arg6) = a6)
    (a7 : FVec Ideal S512x256x3x3 .f32) (k7 : m ((c : Thread nD τ).loc main_arg7) = a7) (h7 : V (Proc.devRef .tc Cert.ReferenceIdeal.main_arg7) = a7)
    (a8 : FVec Ideal S512 .f32) (k8 : m ((c : Thread nD τ).loc main_arg8) = a8) (h8 : V (Proc.devRef .tc Cert.ReferenceIdeal.main_arg8) = a8)
    (a9 : FVec Ideal S8192x512 .f32) (k9 : m ((c : Thread nD τ).loc main_arg9) = a9) (h9 : V (Proc.devRef .tc Cert.ReferenceIdeal.main_arg9) = a9)
    (r : IVec S4096 32) (hr : W23 m ρ c main_v74 = r) : Cert.ReferenceIdeal.Hand.U8 V (Proc.devRef .tc Cert.ReferenceIdeal.main_v150) = r := by
  rw [Cert.ReferenceIdeal.Hand.codes_eq V, h9]
  obtain ⟨Z, hZ⟩ : ∃ Z : FVec Ideal S4096x512 .f32, Z = Cert.ReferenceIdeal.Hand.rows (Cert.ReferenceIdeal.Hand.U6 V (Proc.devRef .tc Cert.ReferenceIdeal.main_v131)) := ⟨_, rfl⟩
  obtain ⟨Z', hZ'⟩ : ∃ Z' : FVec Ideal S4096x512 .f32, Z' = W20 m ρ c main_v69 := ⟨_, rfl⟩
  rw [← hZ]
  funext j
  obtain ⟨n, rfl⟩ : ∃ n : Fin 4096, j = ix1 n := ⟨j 0, by funext a; match a with | ⟨0, _⟩ => rfl⟩
  have hv := codes m ρ c n
  rw [← hZ', k9, hr] at hv
  obtain ⟨v, hv⟩ := hv
  obtain ⟨w, hw⟩ := Cert.ReferenceIdeal.Hand.firsts_held (Cert.ReferenceIdeal.Hand.dists Z a9) n (rowDist (L := 4096) (colsOf Z') a9 n)
    (fun k => dist_same Z Z' a9 n (fun o => by
      rw [hZ, hZ']
      exact rows_same m ρ c V a0 k0 h0 a1 k1 h1 a2 k2 h2 a3 k3 h3 a4 k4 h4 a5 k5 h5 a6 k6 h6 a7 k7 h7 a8 k8 h8 n o) k)
  exact Vq.held_unique (show 0 < 8192 by decide) hw hv

end Cert.KernelIdeal.Hand
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.KernelRun
public import proofs.«01_k».proof.Proof.Same
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The kernel program runs and leaves its arguments. -/
theorem frame_k : Cert.quiescent_Kernel := fun m ρ _ => Cert.Kernel.Gen.frame m ρ

/-- So does its ideal reading. -/
theorem frame_ki : Cert.quiescent_KernelIdeal := fun m ρ _ => Cert.KernelIdeal.Gen.frame m ρ

/-- An argument of the reference at the end. -/
theorem ref_arg (m : (ℓ : Loc Cert.ReferenceIdeal.nD Cert.ReferenceIdeal.τ Cert.ReferenceIdeal.sig) → Buf (Elt Ideal) ℓ) (c : Dev Cert.ReferenceIdeal.nD) (a : Ref Cert.ReferenceIdeal.sig .tc) (ha : a ∈ Cert.ReferenceIdeal.Hand.argRefs) :
    Cert.ReferenceIdeal.Hand.U8 (StableHlo.launchContents m c) (Proc.devRef .tc a) = m ((c.tc : Thread Cert.ReferenceIdeal.nD Cert.ReferenceIdeal.τ).loc a) :=
  Cert.ReferenceIdeal.Hand.U8_args (StableHlo.launchContents m c) a ha

/-- The reference runs and leaves its arguments. -/
theorem frame_ri : Cert.quiescent_ReferenceIdeal := fun m ρ _ =>
  (θ_run (Cert.ReferenceIdeal.defs (F := Ideal)) _ _).mono
    (fun r h => ⟨fun c => ⟨(h c Cert.ReferenceIdeal.main_arg0).trans (ref_arg m c Cert.ReferenceIdeal.main_arg0 (by decide)), (h c Cert.ReferenceIdeal.main_arg1).trans (ref_arg m c Cert.ReferenceIdeal.main_arg1 (by decide)), (h c Cert.ReferenceIdeal.main_arg2).trans (ref_arg m c Cert.ReferenceIdeal.main_arg2 (by decide)), (h c Cert.ReferenceIdeal.main_arg3).trans (ref_arg m c Cert.ReferenceIdeal.main_arg3 (by decide)), (h c Cert.ReferenceIdeal.main_arg4).trans (ref_arg m c Cert.ReferenceIdeal.main_arg4 (by decide)), (h c Cert.ReferenceIdeal.main_arg5).trans (ref_arg m c Cert.ReferenceIdeal.main_arg5 (by decide)), (h c Cert.ReferenceIdeal.main_arg6).trans (ref_arg m c Cert.ReferenceIdeal.main_arg6 (by decide)), (h c Cert.ReferenceIdeal.main_arg7).trans (ref_arg m c Cert.ReferenceIdeal.main_arg7 (by decide)), (h c Cert.ReferenceIdeal.main_arg8).trans (ref_arg m c Cert.ReferenceIdeal.main_arg8 (by decide)), (h c Cert.ReferenceIdeal.main_arg9).trans (ref_arg m c Cert.ReferenceIdeal.main_arg9 (by decide))⟩,
      Idealize.ShloMosaic.sem_eq_zero_of_no_sems (by decide) r.2⟩)
    (Cert.ReferenceIdeal.Hand.run m ρ)

/-- The memories of the two programs hold the same arguments on a device. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
    @Eq (FVec Ideal Cert.KernelIdeal.S4x3x256x256 .f32) (m' ((c.tc : Thread Cert.ReferenceIdeal.nD Cert.ReferenceIdeal.τ).loc Cert.ReferenceIdeal.main_arg0)) (m ((c.tc : Thread Cert.KernelIdeal.nD Cert.KernelIdeal.τ).loc Cert.KernelIdeal.main_arg0)) ∧
    @Eq (FVec Ideal Cert.KernelIdeal.S64x3x3x3 .f32) (m' ((c.tc : Thread Cert.ReferenceIdeal.nD Cert.ReferenceIdeal.τ).loc Cert.ReferenceIdeal.main_arg1)) (m ((c.tc : Thread Cert.KernelIdeal.nD Cert.KernelIdeal.τ).loc Cert.KernelIdeal.main_arg1)) ∧
    @Eq (FVec Ideal Cert.KernelIdeal.S64 .f32) (m' ((c.tc : Thread Cert.ReferenceIdeal.nD Cert.ReferenceIdeal.τ).loc Cert.ReferenceIdeal.main_arg2)) (m ((c.tc : Thread Cert.KernelIdeal.nD Cert.KernelIdeal.τ).loc Cert.KernelIdeal.main_arg2)) ∧
    @Eq (FVec Ideal Cert.KernelIdeal.S128x64x3x3 .f32) (m' ((c.tc : Thread Cert.ReferenceIdeal.nD Cert.ReferenceIdeal.τ).loc Cert.ReferenceIdeal.main_arg3)) (m ((c.tc : Thread Cert.KernelIdeal.nD Cert.KernelIdeal.τ).loc Cert.KernelIdeal.main_arg3)) ∧
    @Eq (FVec Ideal Cert.KernelIdeal.S128 .f32) (m' ((c.tc : Thread Cert.ReferenceIdeal.nD Cert.ReferenceIdeal.τ).loc Cert.ReferenceIdeal.main_arg4)) (m ((c.tc : Thread Cert.KernelIdeal.nD Cert.KernelIdeal.τ).loc Cert.KernelIdeal.main_arg4)) ∧
    @Eq (FVec Ideal Cert.KernelIdeal.S256x128x3x3 .f32) (m' ((c.tc : Thread Cert.ReferenceIdeal.nD Cert.ReferenceIdeal.τ).loc Cert.ReferenceIdeal.main_arg5)) (m ((c.tc : Thread Cert.KernelIdeal.nD Cert.KernelIdeal.τ).loc Cert.KernelIdeal.main_arg5)) ∧
    @Eq (FVec Ideal Cert.KernelIdeal.S256 .f32) (m' ((c.tc : Thread Cert.ReferenceIdeal.nD Cert.ReferenceIdeal.τ).loc Cert.ReferenceIdeal.main_arg6)) (m ((c.tc : Thread Cert.KernelIdeal.nD Cert.KernelIdeal.τ).loc Cert.KernelIdeal.main_arg6)) ∧
    @Eq (FVec Ideal Cert.KernelIdeal.S512x256x3x3 .f32) (m' ((c.tc : Thread Cert.ReferenceIdeal.nD Cert.ReferenceIdeal.τ).loc Cert.ReferenceIdeal.main_arg7)) (m ((c.tc : Thread Cert.KernelIdeal.nD Cert.KernelIdeal.τ).loc Cert.KernelIdeal.main_arg7)) ∧
    @Eq (FVec Ideal Cert.KernelIdeal.S512 .f32) (m' ((c.tc : Thread Cert.ReferenceIdeal.nD Cert.ReferenceIdeal.τ).loc Cert.ReferenceIdeal.main_arg8)) (m ((c.tc : Thread Cert.KernelIdeal.nD Cert.KernelIdeal.τ).loc Cert.KernelIdeal.main_arg8)) ∧
    @Eq (FVec Ideal Cert.KernelIdeal.S8192x512 .f32) (m' ((c.tc : Thread Cert.ReferenceIdeal.nD Cert.ReferenceIdeal.τ).loc Cert.ReferenceIdeal.main_arg9)) (m ((c.tc : Thread Cert.KernelIdeal.nD Cert.KernelIdeal.τ).loc Cert.KernelIdeal.main_arg9))

/-- From equal arguments the ideal kernel program and the ideal reference end with equal codes. -/
theorem equal : Cert.algebraic_KernelIdeal_ReferenceIdeal := fun m ρ m' ρ' _ (hargs : ∀ c, Agree m m' c) => by
  refine ⟨fun c => Cert.KernelIdeal.Gen.W23 m ρ c (Proc.devRef .tc Cert.KernelIdeal.main_v74), ?_, ?_⟩
  · refine (θ_run (Cert.KernelIdeal.defs (F := Ideal)) _ _).mono (fun r h c => ?_) (Cert.KernelIdeal.Hand.run m ρ)
    exact ⟨h c _ (Cert.KernelIdeal.Gen.mem_uc Cert.KernelIdeal.main_v74 (by decide)),
      (h c _ (Cert.KernelIdeal.Gen.mem_uc Cert.KernelIdeal.main_arg0 (by decide))).trans (Cert.KernelIdeal.Gen.W23_main_arg0 m ρ c), (h c _ (Cert.KernelIdeal.Gen.mem_uc Cert.KernelIdeal.main_arg1 (by decide))).trans (Cert.KernelIdeal.Gen.W23_main_arg1 m ρ c), (h c _ (Cert.KernelIdeal.Gen.mem_uc Cert.KernelIdeal.main_arg2 (by decide))).trans (Cert.KernelIdeal.Gen.W23_main_arg2 m ρ c), (h c _ (Cert.KernelIdeal.Gen.mem_uc Cert.KernelIdeal.main_arg3 (by decide))).trans (Cert.KernelIdeal.Gen.W23_main_arg3 m ρ c), (h c _ (Cert.KernelIdeal.Gen.mem_uc Cert.KernelIdeal.main_arg4 (by decide))).trans (Cert.KernelIdeal.Gen.W23_main_arg4 m ρ c), (h c _ (Cert.KernelIdeal.Gen.mem_uc Cert.KernelIdeal.main_arg5 (by decide))).trans (Cert.KernelIdeal.Gen.W23_main_arg5 m ρ c), (h c _ (Cert.KernelIdeal.Gen.mem_uc Cert.KernelIdeal.main_arg6 (by decide))).trans (Cert.KernelIdeal.Gen.W23_main_arg6 m ρ c), (h c _ (Cert.KernelIdeal.Gen.mem_uc Cert.KernelIdeal.main_arg7 (by decide))).trans (Cert.KernelIdeal.Gen.W23_main_arg7 m ρ c), (h c _ (Cert.KernelIdeal.Gen.mem_uc Cert.KernelIdeal.main_arg8 (by decide))).trans (Cert.KernelIdeal.Gen.W23_main_arg8 m ρ c), (h c _ (Cert.KernelIdeal.Gen.mem_uc Cert.KernelIdeal.main_arg9 (by decide))).trans (Cert.KernelIdeal.Gen.W23_main_arg9 m ρ c)⟩
  · refine (θ_run (Cert.ReferenceIdeal.defs (F := Ideal)) _ _).mono (fun r h c => ?_) (Cert.ReferenceIdeal.Hand.run m' ρ')
    obtain ⟨h0, h1, h2, h3, h4, h5, h6, h7, h8, h9⟩ := hargs c
    refine ⟨(h c Cert.ReferenceIdeal.main_v150).trans ?_,
      (h c Cert.ReferenceIdeal.main_arg0).trans (ref_arg m' c Cert.ReferenceIdeal.main_arg0 (by decide)), (h c Cert.ReferenceIdeal.main_arg1).trans (ref_arg m' c Cert.ReferenceIdeal.main_arg1 (by decide)), (h c Cert.ReferenceIdeal.main_arg2).trans (ref_arg m' c Cert.ReferenceIdeal.main_arg2 (by decide)), (h c Cert.ReferenceIdeal.main_arg3).trans (ref_arg m' c Cert.ReferenceIdeal.main_arg3 (by decide)), (h c Cert.ReferenceIdeal.main_arg4).trans (ref_arg m' c Cert.ReferenceIdeal.main_arg4 (by decide)), (h c Cert.ReferenceIdeal.main_arg5).trans (ref_arg m' c Cert.ReferenceIdeal.main_arg5 (by decide)), (h c Cert.ReferenceIdeal.main_arg6).trans (ref_arg m' c Cert.ReferenceIdeal.main_arg6 (by decide)), (h c Cert.ReferenceIdeal.main_arg7).trans (ref_arg m' c Cert.ReferenceIdeal.main_arg7 (by decide)), (h c Cert.ReferenceIdeal.main_arg8).trans (ref_arg m' c Cert.ReferenceIdeal.main_arg8 (by decide)), (h c Cert.ReferenceIdeal.main_arg9).trans (ref_arg m' c Cert.ReferenceIdeal.main_arg9 (by decide))⟩
    exact Cert.KernelIdeal.Hand.codes_same m ρ c (StableHlo.launchContents m' c) _ rfl h0 _ rfl h1 _ rfl h2 _ rfl h3 _ rfl h4 _ rfl h5 _ rfl h6 _ rfl h7 _ rfl h8 _ rfl h9 _ rfl

/-- Every claim of the certificate. -/
theorem claim : Cert.Claim := ⟨Cert.Kernel.Gen.facts, Cert.KernelIdeal.Gen.facts, Cert.ReferenceIdeal.Hand.facts,
  frame_k, frame_ki, frame_ri, trivial, equal⟩

end Cert.Proof

end
